-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v289_0)) (v1 : (c : Dev Cert.KernelIdeal.nD) → Buf (Elt Ideal) ((c.tc : Thread Cert.KernelIdeal.nD Cert.KernelIdeal.τ).loc Cert.KernelIdeal.main_v289_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v289_0) = v0 c
          ∧ r.2.mem ((c.tc : Thread Cert.KernelIdeal.nD Cert.KernelIdeal.τ).loc Cert.KernelIdeal.main_v289_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v437) = v0 c
          ∧ r.2.mem ((c.tc : Thread Cert.ReferenceIdeal.nD Cert.ReferenceIdeal.τ).loc Cert.ReferenceIdeal.main_v439) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v32) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S_ : Shape := ⟨0, ![]⟩

class Facts : Prop where
  bcast_S_S1x64x64 : S_.BroadcastsInDim S1x64x64 (![] : Fin 0 → Fin S1x64x64.rank)
  reducesTo_S1x64x64_S_d0_1_2 : S1x64x64.ReducesTo [0, 1, 2] S_
  h_S_ : 0 < S_.numel
  bcast_S_S1x64 : S_.BroadcastsInDim S1x64 (![] : Fin 0 → Fin S1x64.rank)
  reducesTo_S1x64_S_d0_1 : S1x64.ReducesTo [0, 1] S_
  bcast_S_S1x64x64x16 : S_.BroadcastsInDim S1x64x64x16 (![] : Fin 0 → Fin S1x64x64x16.rank)
  reducesTo_S1x64x64x16_S_d0_1_2_3 : S1x64x64x16.ReducesTo [0, 1, 2, 3] S_
  bcast_S_S1x64x16x64 : S_.BroadcastsInDim S1x64x16x64 (![] : Fin 0 → Fin S1x64x16x64.rank)
  reducesTo_S1x64x16x64_S_d0_1_2_3 : S1x64x16x64.ReducesTo [0, 1, 2, 3] S_

variable [Facts]

def fn_part2 {F : FTy → Type} [FloatOps F] (main_arg0 : FVec F S1x64x64 .f32) (main_arg1 : FVec F S1x64x64 .f32) (main_v33 : IVec S_ 1) : IVec S_ 1 :=
  let main_v34 : FVec F S1x64x64 .f32 := mulf main_arg0 main_arg0
  let main_v35 : FVec F S1x64x64 .f32 := mulf main_arg1 main_arg1
  let main_v36 : FVec F S1x64x64 .f32 := addf main_v34 main_v35
  let main_cst_12 : FVec F S_ .f32 := constant S_ .f32 0x00000000#32
  let main_v37 : FVec F S1x64x64 .f32 := broadcastInDim S1x64x64 ![] bcast_S_S1x64x64 main_cst_12
  let main_v38 : IVec S1x64x64 1 := cmpf .ogt main_v36 main_v37
  let main_c_13 : IVec S_ 1 := constantI S_ 1 1#1
  let main_v39 : IVec S_ 1 := (fun x v => Host.reduce IntOp.andi x v reducesTo_S1x64x64_S_d0_1_2 h_S_) main_v38 main_c_13
  let main_v40 : IVec S_ 1 := andi main_v33 main_v39
  main_v40

def fn_part1 {F : FTy → Type} [FloatOps F] (main_arg0 : FVec F S1x64x64 .f32) (main_arg1 : FVec F S1x64x64 .f32) (main_arg4 : FVec F S1x64x64x16 .f32) (main_arg5 : FVec F S1x64x16x64 .f32) (main_arg6 : FVec F S1x64x16x64 .f32) (main_v13 : IVec S_ 1) (main_v16 : IVec S1x64x64x16 1) : IVec S_ 1 :=
  let main_c_5 : IVec S_ 1 := constantI S_ 1 1#1
  let main_v17 : IVec S_ 1 := (fun x v => Host.reduce IntOp.andi x v reducesTo_S1x64x64x16_S_d0_1_2_3 h_S_) main_v16 main_c_5
  let main_v18 : IVec S_ 1 := andi main_v13 main_v17
  let main_v19 : FVec F S1x64x64x16 .f32 := Host.absf main_arg4
  let main_cst_6 : FVec F S_ .f32 := constant S_ .f32 0x7F800000#32
  let main_v20 : FVec F S1x64x64x16 .f32 := broadcastInDim S1x64x64x16 ![] bcast_S_S1x64x64x16 main_cst_6
  let main_v21 : IVec S1x64x64x16 1 := cmpf .olt main_v19 main_v20
  let main_c_7 : IVec S_ 1 := constantI S_ 1 1#1
  let main_v22 : IVec S_ 1 := (fun x v => Host.reduce IntOp.andi x v reducesTo_S1x64x64x16_S_d0_1_2_3 h_S_) main_v21 main_c_7
  let main_v23 : IVec S_ 1 := andi main_v18 main_v22
  let main_v24 : FVec F S1x64x16x64 .f32 := Host.absf main_arg5
  let main_cst_8 : FVec F S_ .f32 := constant S_ .f32 0x7F800000#32
  let main_v25 : FVec F S1x64x16x64 .f32 := broadcastInDim S1x64x16x64 ![] bcast_S_S1x64x16x64 main_cst_8
  let main_v26 : IVec S1x64x16x64 1 := cmpf .olt main_v24 main_v25
  let main_c_9 : IVec S_ 1 := constantI S_ 1 1#1
  let main_v27 : IVec S_ 1 := (fun x v => Host.reduce IntOp.andi x v reducesTo_S1x64x16x64_S_d0_1_2_3 h_S_) main_v26 main_c_9
  let main_v28 : IVec S_ 1 := andi main_v23 main_v27
  let main_v29 : FVec F S1x64x16x64 .f32 := Host.absf main_arg6
  let main_cst_10 : FVec F S_ .f32 := constant S_ .f32 0x7F800000#32
  let main_v30 : FVec F S1x64x16x64 .f32 := broadcastInDim S1x64x16x64 ![] bcast_S_S1x64x16x64 main_cst_10
  let main_v31 : IVec S1x64x16x64 1 := cmpf .olt main_v29 main_v30
  let main_c_11 : IVec S_ 1 := constantI S_ 1 1#1
  let main_v32 : IVec S_ 1 := (fun x v => Host.reduce IntOp.andi x v reducesTo_S1x64x16x64_S_d0_1_2_3 h_S_) main_v31 main_c_11
  let main_v33 : IVec S_ 1 := andi main_v28 main_v32
  fn_part2 (F := F) main_arg0 main_arg1 main_v33

def fn {F : FTy → Type} [FloatOps F] (main_arg0 : FVec F S1x64x64 .f32) (main_arg1 : FVec F S1x64x64 .f32) (main_arg2 : FVec F S1x64 .f32) (main_arg3 : FVec F S1x64x64x16 .f32) (main_arg4 : FVec F S1x64x64x16 .f32) (main_arg5 : FVec F S1x64x16x64 .f32) (main_arg6 : FVec F S1x64x16x64 .f32) : IVec S_ 1 :=
  let main_v0 : FVec F S1x64x64 .f32 := Host.absf main_arg0
  let main_cst : FVec F S_ .f32 := constant S_ .f32 0x7F800000#32
  let main_v1 : FVec F S1x64x64 .f32 := broadcastInDim S1x64x64 ![] bcast_S_S1x64x64 main_cst
  let main_v2 : IVec S1x64x64 1 := cmpf .olt main_v0 main_v1
  let main_c : IVec S_ 1 := constantI S_ 1 1#1
  let main_v3 : IVec S_ 1 := (fun x v => Host.reduce IntOp.andi x v reducesTo_S1x64x64_S_d0_1_2 h_S_) main_v2 main_c
  let main_v4 : FVec F S1x64x64 .f32 := Host.absf main_arg1
  let main_cst_0 : FVec F S_ .f32 := constant S_ .f32 0x7F800000#32
  let main_v5 : FVec F S1x64x64 .f32 := broadcastInDim S1x64x64 ![] bcast_S_S1x64x64 main_cst_0
  let main_v6 : IVec S1x64x64 1 := cmpf .olt main_v4 main_v5
  let main_c_1 : IVec S_ 1 := constantI S_ 1 1#1
  let main_v7 : IVec S_ 1 := (fun x v => Host.reduce IntOp.andi x v reducesTo_S1x64x64_S_d0_1_2 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64x64x16 .f32 := Host.absf main_arg3
  let main_cst_4 : FVec F S_ .f32 := constant S_ .f32 0x7F800000#32
  let main_v15 : FVec F S1x64x64x16 .f32 := broadcastInDim S1x64x64x16 ![] bcast_S_S1x64x64x16 main_cst_4
  let main_v16 : IVec S1x64x64x16 1 := cmpf .olt main_v14 main_v15
  fn_part1 (F := F) main_arg0 main_arg1 main_arg4 main_arg5 main_arg6 main_v13 main_v16
-- ==== Kernel.lean ====
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S64x64 : Shape := ⟨2, ![64, 64]⟩
abbrev S64 : Shape := ⟨1, ![64]⟩
abbrev S64x64x16 : Shape := ⟨3, ![64, 64, 16]⟩
abbrev S64x16x64 : Shape := ⟨3, ![64, 16, 64]⟩
abbrev S64x1 : Shape := ⟨2, ![64, 1]⟩
abbrev S_ : Shape := ⟨0, ![]⟩
abbrev S64x64x1 : Shape := ⟨3, ![64, 64, 1]⟩
abbrev S16x64x64 : Shape := ⟨3, ![16, 64, 64]⟩
abbrev S17x64x64 : Shape := ⟨3, ![17, 64, 64]⟩
abbrev S17x64x1x64 : Shape := ⟨4, ![17, 64, 1, 64]⟩
abbrev S17x64x16x64 : Shape := ⟨4, ![17, 64, 16, 64]⟩
abbrev S16x64x16x64 : Shape := ⟨4, ![16, 64, 16, 64]⟩
abbrev S16x64x16x128 : Shape := ⟨4, ![16, 64, 16, 128]⟩
abbrev S64x128x16 : Shape := ⟨3, ![64, 128, 16]⟩
abbrev S64x16x16x16 : Shape := ⟨4, ![64, 16, 16, 16]⟩
abbrev S8x128x256 : Shape := ⟨3, ![8, 128, 256]⟩
abbrev S1x16x64x16x64 : Shape := ⟨5, ![1, 16, 64, 16, 64]⟩
abbrev S2x16x64x16x64 : Shape := ⟨5, ![2, 16, 64, 16, 64]⟩
abbrev S2x16x8x8x16x64 : Shape := ⟨6, ![2, 16, 8, 8, 16, 64]⟩
abbrev S8x2x8x64x16x16 : Shape := ⟨6, ![8, 2, 8, 64, 16, 16]⟩
abbrev S8x1024x256 : Shape := ⟨3, ![8, 1024, 256]⟩
abbrev S16x64x1x64 : Shape := ⟨4, ![16, 64, 1, 64]⟩
abbrev S16x8x128x128 : Shape := ⟨4, ![16, 8, 128, 128]⟩
abbrev S8x16x128x128 : Shape := ⟨4, ![8, 16, 128, 128]⟩
abbrev S8x2048x128 : Shape := ⟨3, ![8, 2048, 128]⟩
abbrev S2x64x64 : Shape := ⟨3, ![2, 64, 64]⟩
abbrev S2x8x512 : Shape := ⟨3, ![2, 8, 512]⟩
abbrev S8x2x512 : Shape := ⟨3, ![8, 2, 512]⟩
abbrev S8x3072x2048 : Shape := ⟨3, ![8, 3072, 2048]⟩
abbrev S8x2048x1024 : Shape := ⟨3, ![8, 2048, 1024]⟩
abbrev S1x128x256 : Shape := ⟨3, ![1, 128, 256]⟩
abbrev S1x1024x256 : Shape := ⟨3, ![1, 1024, 256]⟩
abbrev S1x2048x128 : Shape := ⟨3, ![1, 2048, 128]⟩
abbrev S1x3072x2048 : Shape := ⟨3, ![1, 3072, 2048]⟩
abbrev S1x2048x1024 : Shape := ⟨3, ![1, 2048, 1024]⟩
abbrev S256x2048 : Shape := ⟨2, ![256, 2048]⟩
abbrev S1x2048 : Shape := ⟨2, ![1, 2048]⟩
abbrev S128x1 : Shape := ⟨2, ![128, 1]⟩
abbrev S128x2048 : Shape := ⟨2, ![128, 2048]⟩
abbrev S128x256 : Shape := ⟨2, ![128, 256]⟩
abbrev S1x128x2048 : Shape := ⟨3, ![1, 128, 2048]⟩
abbrev S128x128 : Shape := ⟨2, ![128, 128]⟩
abbrev S1x128x128 : Shape := ⟨3, ![1, 128, 128]⟩
abbrev S128x1920 : Shape := ⟨2, ![128, 1920]⟩
abbrev S1x128x1920 : Shape := ⟨3, ![1, 128, 1920]⟩
abbrev S128x1792 : Shape := ⟨2, ![128, 1792]⟩
abbrev S1x128x1792 : Shape := ⟨3, ![1, 128, 1792]⟩
abbrev S128x384 : Shape := ⟨2, ![128, 384]⟩
abbrev S1x128x384 : Shape := ⟨3, ![1, 128, 384]⟩
abbrev S128x1664 : Shape := ⟨2, ![128, 1664]⟩
abbrev S1x128x1664 : Shape := ⟨3, ![1, 128, 1664]⟩
abbrev S128x512 : Shape := ⟨2, ![128, 512]⟩
abbrev S1x128x512 : Shape := ⟨3, ![1, 128, 512]⟩
abbrev S128x1536 : Shape := ⟨2, ![128, 1536]⟩
abbrev S1x128x1536 : Shape := ⟨3, ![1, 128, 1536]⟩
abbrev S128x640 : Shape := ⟨2, ![128, 640]⟩
abbrev S1x128x640 : Shape := ⟨3, ![1, 128, 640]⟩
abbrev S128x1408 : Shape := ⟨2, ![128, 1408]⟩
abbrev S1x128x1408 : Shape := ⟨3, ![1, 128, 1408]⟩
abbrev S128x768 : Shape := ⟨2, ![128, 768]⟩
abbrev S1x128x768 : Shape := ⟨3, ![1, 128, 768]⟩
abbrev S128x1280 : Shape := ⟨2, ![128, 1280]⟩
abbrev S1x128x1280 : Shape := ⟨3, ![1, 128, 1280]⟩
abbrev S128x896 : Shape := ⟨2, ![128, 896]⟩
abbrev S1x128x896 : Shape := ⟨3, ![1, 128, 896]⟩
abbrev S128x1152 : Shape := ⟨2, ![128, 1152]⟩
abbrev S1x128x1152 : Shape := ⟨3, ![1, 128, 1152]⟩
abbrev S128x1024 : Shape := ⟨2, ![128, 1024]⟩
abbrev S1x128x1024 : Shape := ⟨3, ![1, 128, 1024]⟩
abbrev S1024x1 : Shape := ⟨2, ![1024, 1]⟩
abbrev S1024x256 : Shape := ⟨2, ![1024, 256]⟩
abbrev S1024x2048 : Shape := ⟨2, ![1024, 2048]⟩
abbrev S1x1024x2048 : Shape := ⟨3, ![1, 1024, 2048]⟩
abbrev S2048x1 : Shape := ⟨2, ![2048, 1]⟩
abbrev S1x1024 : Shape := ⟨2, ![1, 1024]⟩
abbrev S2048x128 : Shape := ⟨2, ![2048, 128]⟩
abbrev S2048x1024 : Shape := ⟨2, ![2048, 1024]⟩

abbrev nBuf : Space → Nat
  | .hbm => 301
  | .vmem => 10
  | .smem => 0
  | _ => 0

abbrev hbmTy0_0 (i : Nat) : BufTy := match i % 128 with
  | 0 => ⟨S1x64x64, .f32⟩
  | 1 => ⟨S1x64x64, .f32⟩
  | 2 => ⟨S1x64, .f32⟩
  | 3 => ⟨S1x64x64x16, .f32⟩
  | 4 => ⟨S1x64x64x16, .f32⟩
  | 5 => ⟨S1x64x16x64, .f32⟩
  | 6 => ⟨S1x64x16x64, .f32⟩
  | 7 => ⟨S64x64, .f32⟩
  | 8 => ⟨S64x64, .f32⟩
  | 9 => ⟨S64, .f32⟩
  | 10 => ⟨S64x64x16, .f32⟩
  | 11 => ⟨S64x64x16, .f32⟩
  | 12 => ⟨S64x16x64, .f32⟩
  | 13 => ⟨S64x16x64, .f32⟩
  | 14 => ⟨S64, .f32⟩
  | 15 => ⟨S64x1, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S64x64, .f32⟩
  | 29 => ⟨S64x64, .f32⟩
  | 30 => ⟨S_, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64, .f32⟩
  | 40 => ⟨S64x64, .f32⟩
  | 41 => ⟨S64x64x1, .f32⟩
  | 42 => ⟨S64x64x16, .f32⟩
  | 43 => ⟨S64x64x16, .f32⟩
  | 44 => ⟨S64x64x1, .f32⟩
  | 45 => ⟨S64x64x16, .f32⟩
  | 46 => ⟨S64x64x16, .f32⟩
  | 47 => ⟨S64x64x16, .f32⟩
  | 48 => ⟨S64x64x1, .f32⟩
  | 49 => ⟨S64x64x16, .f32⟩
  | 50 => ⟨S64x64x16, .f32⟩
  | 51 => ⟨S64x64x1, .f32⟩
  | 52 => ⟨S64x64x16, .f32⟩
  | 53 => ⟨S64x64x16, .f32⟩
  | 54 => ⟨S64x64x16, .f32⟩
  | 55 => ⟨S_, .f32⟩
  | 56 => ⟨S64x64, .f32⟩
  | 57 => ⟨S_, .f32⟩
  | 58 => ⟨S64x64, .f32⟩
  | 59 => ⟨S64x64, .f32⟩
  | 60 => ⟨S64x64, .f32⟩
  | 61 => ⟨S64x64, .f32⟩
  | 62 => ⟨S64x64, .f32⟩
  | 63 => ⟨S64x64, .f32⟩
  | 64 => ⟨S64x64, .f32⟩
  | 65 => ⟨S64x64, .f32⟩
  | 66 => ⟨S64x64, .f32⟩
  | 67 => ⟨S64x64, .f32⟩
  | 68 => ⟨S64x64, .f32⟩
  | 69 => ⟨S64x64, .f32⟩
  | 70 => ⟨S64x64, .f32⟩
  | 71 => ⟨S64x64, .f32⟩
  | 72 => ⟨S64x64, .f32⟩
  | 73 => ⟨S64x64, .f32⟩
  | 74 => ⟨S64x64, .f32⟩
  | 75 => ⟨S64x64, .f32⟩
  | 76 => ⟨S64x64, .f32⟩
  | 77 => ⟨S64x64, .f32⟩
  | 78 => ⟨S64x64, .f32⟩
  | 79 => ⟨S64x64, .f32⟩
  | 80 => ⟨S64x64, .f32⟩
  | 81 => ⟨S64x64, .f32⟩
  | 82 => ⟨S64x64, .f32⟩
  | 83 => ⟨S64x64, .f32⟩
  | 84 => ⟨S64x64, .f32⟩
  | 85 => ⟨S64x64, .f32⟩
  | 86 => ⟨S64x64, .f32⟩
  | 87 => ⟨S64x64, .f32⟩
  | 88 => ⟨S64x64, .f32⟩
  | 89 => ⟨S64x64, .f32⟩
  | 90 => ⟨S64x64, .f32⟩
  | 91 => ⟨S64x64, .f32⟩
  | 92 => ⟨S64x64, .f32⟩
  | 93 => ⟨S64x64, .f32⟩
  | 94 => ⟨S64x64, .f32⟩
  | 95 => ⟨S64x64, .f32⟩
  | 96 => ⟨S64x64, .f32⟩
  | 97 => ⟨S64x64, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S64x64, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S1x64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S64x64, .f32⟩
  | 6 => ⟨S64x64, .f32⟩
  | 7 => ⟨S64x64, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S1x64x64, .f32⟩
  | 28 => ⟨S1x64x64, .f32⟩
  | 29 => ⟨S1x64x64, .f32⟩
  | 30 => ⟨S1x64x64, .f32⟩
  | 31 => ⟨S1x64x64, .f32⟩
  | 32 => ⟨S1x64x64, .f32⟩
  | 33 => ⟨S1x64x64, .f32⟩
  | 34 => ⟨S1x64x64, .f32⟩
  | 35 => ⟨S1x64x64, .f32⟩
  | 36 => ⟨S1x64x64, .f32⟩
  | 37 => ⟨S1x64x64, .f32⟩
  | 38 => ⟨S1x64x64, .f32⟩
  | 39 => ⟨S1x64x64, .f32⟩
  | 40 => ⟨S1x64x64, .f32⟩
  | 41 => ⟨S1x64x64, .f32⟩
  | 42 => ⟨S1x64x64, .f32⟩
  | 43 => ⟨S16x64x64, .f32⟩
  | 44 => ⟨S1x64x64, .f32⟩
  | 45 => ⟨S17x64x64, .f32⟩
  | 46 => ⟨S1x64x64, .f32⟩
  | 47 => ⟨S1x64x64, .f32⟩
  | 48 => ⟨S1x64x64, .f32⟩
  | 49 => ⟨S1x64x64, .f32⟩
  | 50 => ⟨S1x64x64, .f32⟩
  | 51 => ⟨S1x64x64, .f32⟩
  | 52 => ⟨S1x64x64, .f32⟩
  | 53 => ⟨S1x64x64, .f32⟩
  | 54 => ⟨S1x64x64, .f32⟩
  | 55 => ⟨S1x64x64, .f32⟩
  | 56 => ⟨S1x64x64, .f32⟩
  | 57 => ⟨S1x64x64, .f32⟩
  | 58 => ⟨S1x64x64, .f32⟩
  | 59 => ⟨S1x64x64, .f32⟩
  | 60 => ⟨S1x64x64, .f32⟩
  | 61 => ⟨S1x64x64, .f32⟩
  | 62 => ⟨S16x64x64, .f32⟩
  | 63 => ⟨S1x64x64, .f32⟩
  | 64 => ⟨S17x64x64, .f32⟩
  | 65 => ⟨S1x64x16x64, .f32⟩
  | 66 => ⟨S17x64x1x64, .f32⟩
  | 67 => ⟨S17x64x16x64, .f32⟩
  | 68 => ⟨S17x64x16x64, .f32⟩
  | 69 => ⟨S17x64x16x64, .f32⟩
  | 70 => ⟨S1x64x16x64, .f32⟩
  | 71 => ⟨S17x64x1x64, .f32⟩
  | 72 => ⟨S17x64x16x64, .f32⟩
  | 73 => ⟨S17x64x16x64, .f32⟩
  | 74 => ⟨S17x64x16x64, .f32⟩
  | 75 => ⟨S17x64x16x64, .f32⟩
  | 76 => ⟨S1x64x16x64, .f32⟩
  | 77 => ⟨S17x64x1x64, .f32⟩
  | 78 => ⟨S17x64x16x64, .f32⟩
  | 79 => ⟨S17x64x16x64, .f32⟩
  | 80 => ⟨S17x64x16x64, .f32⟩
  | 81 => ⟨S1x64x16x64, .f32⟩
  | 82 => ⟨S17x64x1x64, .f32⟩
  | 83 => ⟨S17x64x16x64, .f32⟩
  | 84 => ⟨S17x64x16x64, .f32⟩
  | 85 => ⟨S17x64x16x64, .f32⟩
  | 86 => ⟨S17x64x16x64, .f32⟩
  | 87 => ⟨S16x64x16x64, .f32⟩
  | 88 => ⟨S16x64x16x64, .f32⟩
  | 89 => ⟨S16x64x16x64, .f32⟩
  | 90 => ⟨S16x64x16x128, .f32⟩
  | 91 => ⟨S64x128x16, .f32⟩
  | 92 => ⟨S64x16x16x16, .f32⟩
  | 93 => ⟨S64x16x16x16, .f32⟩
  | 94 => ⟨S8x128x256, .f32⟩
  | 95 => ⟨S16x64x16x64, .f32⟩
  | 96 => ⟨S16x64x16x64, .f32⟩
  | 97 => ⟨S16x64x16x64, .f32⟩
  | 98 => ⟨S1x16x64x16x64, .f32⟩
  | 99 => ⟨S1x16x64x16x64, .f32⟩
  | 100 => ⟨S2x16x64x16x64, .f32⟩
  | 101 => ⟨S2x16x8x8x16x64, .f32⟩
  | 102 => ⟨S8x2x8x64x16x16, .f32⟩
  | 103 => ⟨S8x1024x256, .f32⟩
  | 104 => ⟨S1x64x64, .f32⟩
  | 105 => ⟨S1x64x64, .f32⟩
  | 106 => ⟨S1x64x64, .f32⟩
  | 107 => ⟨S1x64x64, .f32⟩
  | 108 => ⟨S1x64x64, .f32⟩
  | 109 => ⟨S1x64x64, .f32⟩
  | 110 => ⟨S1x64x64, .f32⟩
  | 111 => ⟨S1x64x64, .f32⟩
  | 112 => ⟨S1x64x64, .f32⟩
  | 113 => ⟨S1x64x64, .f32⟩
  | 114 => ⟨S1x64x64, .f32⟩
  | 115 => ⟨S1x64x64, .f32⟩
  | 116 => ⟨S1x64x64, .f32⟩
  | 117 => ⟨S1x64x64, .f32⟩
  | 118 => ⟨S1x64x64, .f32⟩
  | 119 => ⟨S1x64x64, .f32⟩
  | 120 => ⟨S16x64x64, .f32⟩
  | 121 => ⟨S1x64x64, .f32⟩
  | 122 => ⟨S1x64x64, .f32⟩
  | 123 => ⟨S1x64x64, .f32⟩
  | 124 => ⟨S1x64x64, .f32⟩
  | 125 => ⟨S1x64x64, .f32⟩
  | 126 => ⟨S1x64x64, .f32⟩
  | 127 => ⟨S1x64x64, .f32⟩
  | _ => ⟨S1x64x64, .f32⟩

abbrev hbmTy0_2 (i : Nat) : BufTy := match i % 128 with
  | 0 => ⟨S1x64x64, .f32⟩
  | 1 => ⟨S1x64x64, .f32⟩
  | 2 => ⟨S1x64x64, .f32⟩
  | 3 => ⟨S1x64x64, .f32⟩
  | 4 => ⟨S1x64x64, .f32⟩
  | 5 => ⟨S1x64x64, .f32⟩
  | 6 => ⟨S1x64x64, .f32⟩
  | 7 => ⟨S1x64x64, .f32⟩
  | 8 => ⟨S1x64x64, .f32⟩
  | 9 => ⟨S16x64x64, .f32⟩
  | 10 => ⟨S16x64x1x64, .f32⟩
  | 11 => ⟨S16x64x1x64, .f32⟩
  | 12 => ⟨S64x16x64, .f32⟩
  | 13 => ⟨S1x64x16x64, .f32⟩
  | 14 => ⟨S64x16x64, .f32⟩
  | 15 => ⟨S1x64x16x64, .f32⟩
  | 16 => ⟨S16x64x16x64, .f32⟩
  | 17 => ⟨S16x64x16x64, .f32⟩
  | 18 => ⟨S16x64x16x64, .f32⟩
  | 19 => ⟨S16x64x16x64, .f32⟩
  | 20 => ⟨S16x64x16x64, .f32⟩
  | 21 => ⟨S16x64x16x64, .f32⟩
  | 22 => ⟨S16x64x16x64, .f32⟩
  | 23 => ⟨S16x64x16x64, .f32⟩
  | 24 => ⟨S16x64x16x64, .f32⟩
  | 25 => ⟨S16x64x16x64, .f32⟩
  | 26 => ⟨S16x64x16x64, .f32⟩
  | 27 => ⟨S16x64x16x64, .f32⟩
  | 28 => ⟨S16x64x16x64, .f32⟩
  | 29 => ⟨S16x64x16x64, .f32⟩
  | 30 => ⟨S16x64x16x128, .f32⟩
  | 31 => ⟨S16x8x128x128, .f32⟩
  | 32 => ⟨S8x16x128x128, .f32⟩
  | 33 => ⟨S8x2048x128, .f32⟩
  | 34 => ⟨S1x64x64, .f32⟩
  | 35 => ⟨S64x64, .f32⟩
  | 36 => ⟨S1x64x64, .f32⟩
  | 37 => ⟨S64x64, .f32⟩
  | 38 => ⟨S1x64x64, .f32⟩
  | 39 => ⟨S1x64x64, .f32⟩
  | 40 => ⟨S2x64x64, .f32⟩
  | 41 => ⟨S2x8x512, .f32⟩
  | 42 => ⟨S8x2x512, .f32⟩
  | 43 => ⟨S8x3072x2048, .bf16⟩
  | 44 => ⟨S8x2048x1024, .bf16⟩
  | _ => ⟨S1x64x64, .f32⟩

abbrev hbmTy (i : Nat) : BufTy := match i / 128 with
  | 0 => hbmTy0_0 i
  | 1 => hbmTy0_1 i
  | 2 => hbmTy0_2 i
  | _ => ⟨S1x64x64, .f32⟩

abbrev bufTy : (tb : Table) → Fin (tcTables nBuf tb) → BufTy
  | .hbm, ⟨i, _⟩ => hbmTy i
  | .local _ .vmem, ⟨0, _⟩ => ⟨S1x128x256, .f32⟩
  | .local _ .vmem, ⟨1, _⟩ => ⟨S1x128x256, .f32⟩
  | .local _ .vmem, ⟨2, _⟩ => ⟨S1x1024x256, .f32⟩
  | .local _ .vmem, ⟨3, _⟩ => ⟨S1x1024x256, .f32⟩
  | .local _ .vmem, ⟨4, _⟩ => ⟨S1x2048x128, .f32⟩
  | .local _ .vmem, ⟨5, _⟩ => ⟨S1x2048x128, .f32⟩
  | .local _ .vmem, ⟨6, _⟩ => ⟨S1x3072x2048, .bf16⟩
  | .local _ .vmem, ⟨7, _⟩ => ⟨S1x3072x2048, .bf16⟩
  | .local _ .vmem, ⟨8, _⟩ => ⟨S1x2048x1024, .bf16⟩
  | .local _ .vmem, ⟨9, _⟩ => ⟨S1x2048x1024, .bf16⟩
  | _, _ => ⟨S1x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_0 : Ref sig .tc := ⟨.hbm, 55, rfl⟩
abbrev main_v47 : Ref sig .tc := ⟨.hbm, 56, rfl⟩
abbrev main_cst_1 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_v241 : Ref sig .tc := ⟨.hbm, 251, rfl⟩
abbrev main_v242 : Ref sig .tc := ⟨.hbm, 252, rfl⟩
abbrev main_v243 : Ref sig .tc := ⟨.hbm, 253, rfl⟩
abbrev main_v244 : Ref sig .tc := ⟨.hbm, 254, rfl⟩
abbrev main_v245 : Ref sig .tc := ⟨.hbm, 255, rfl⟩
abbrev main_v246 : Ref sig .tc := ⟨.hbm, 256, rfl⟩
abbrev main_v247 : Ref sig .tc := ⟨.hbm, 257, rfl⟩
abbrev main_v248 : Ref sig .tc := ⟨.hbm, 258, rfl⟩
abbrev main_v249 : Ref sig .tc := ⟨.hbm, 259, rfl⟩
abbrev main_v250 : Ref sig .tc := ⟨.hbm, 260, rfl⟩
abbrev main_v251 : Ref sig .tc := ⟨.hbm, 261, rfl⟩
abbrev main_v252 : Ref sig .tc := ⟨.hbm, 262, rfl⟩
abbrev main_v253 : Ref sig .tc := ⟨.hbm, 263, rfl⟩
abbrev main_v254 : Ref sig .tc := ⟨.hbm, 264, rfl⟩
abbrev main_v255 : Ref sig .tc := ⟨.hbm, 265, rfl⟩
abbrev main_v256 : Ref sig .tc := ⟨.hbm, 266, rfl⟩
abbrev main_v257 : Ref sig .tc := ⟨.hbm, 267, rfl⟩
abbrev main_v258 : Ref sig .tc := ⟨.hbm, 268, rfl⟩
abbrev main_v259 : Ref sig .tc := ⟨.hbm, 269, rfl⟩
abbrev main_v260 : Ref sig .tc := ⟨.hbm, 270, rfl⟩
abbrev main_v261 : Ref sig .tc := ⟨.hbm, 271, rfl⟩
abbrev main_v262 : Ref sig .tc := ⟨.hbm, 272, rfl⟩
abbrev main_v263 : Ref sig .tc := ⟨.hbm, 273, rfl⟩
abbrev main_v264 : Ref sig .tc := ⟨.hbm, 274, rfl⟩
abbrev main_v265 : Ref sig .tc := ⟨.hbm, 275, rfl⟩
abbrev main_v266 : Ref sig .tc := ⟨.hbm, 276, rfl⟩
abbrev main_v267 : Ref sig .tc := ⟨.hbm, 277, rfl⟩
abbrev main_v268 : Ref sig .tc := ⟨.hbm, 278, rfl⟩
abbrev main_v269 : Ref sig .tc := ⟨.hbm, 279, rfl⟩
abbrev main_v270 : Ref sig .tc := ⟨.hbm, 280, rfl⟩
abbrev main_v271 : Ref sig .tc := ⟨.hbm, 281, rfl⟩
abbrev main_v272 : Ref sig .tc := ⟨.hbm, 282, rfl⟩
abbrev main_v273 : Ref sig .tc := ⟨.hbm, 283, rfl⟩
abbrev main_v274 : Ref sig .tc := ⟨.hbm, 284, rfl⟩
abbrev main_v275 : Ref sig .tc := ⟨.hbm, 285, rfl⟩
abbrev main_v276 : Ref sig .tc := ⟨.hbm, 286, rfl⟩
abbrev main_v277 : Ref sig .tc := ⟨.hbm, 287, rfl⟩
abbrev main_v278 : Ref sig .tc := ⟨.hbm, 288, rfl⟩
abbrev main_v279 : Ref sig .tc := ⟨.hbm, 289, rfl⟩
abbrev main_v280 : Ref sig .tc := ⟨.hbm, 290, rfl⟩
abbrev main_v281 : Ref sig .tc := ⟨.hbm, 291, rfl⟩
abbrev main_v282 : Ref sig .tc := ⟨.hbm, 292, rfl⟩
abbrev main_v283 : Ref sig .tc := ⟨.hbm, 293, rfl⟩
abbrev main_v284 : Ref sig .tc := ⟨.hbm, 294, rfl⟩
abbrev main_v285 : Ref sig .tc := ⟨.hbm, 295, rfl⟩
abbrev main_v286 : Ref sig .tc := ⟨.hbm, 296, rfl⟩
abbrev main_v287 : Ref sig .tc := ⟨.hbm, 297, rfl⟩
abbrev main_v288 : Ref sig .tc := ⟨.hbm, 298, rfl⟩
abbrev main_v289_0 : Ref sig .tc := ⟨.hbm, 299, rfl⟩
abbrev main_v289_1 : Ref sig .tc := ⟨.hbm, 300, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3072x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S1x64x64 : Shape := ⟨3, ![1, 64, 64]⟩
abbrev S1x64 : Shape := ⟨2, ![1, 64]⟩
abbrev S1x64x64x16 : Shape := ⟨4, ![1, 64, 64, 16]⟩
abbrev S1x64x16x64 : Shape := ⟨4, ![1, 64, 16, 64]⟩
abbrev S64x64 : Shape := ⟨2, ![64, 64]⟩
abbrev S64x64x16 : Shape := ⟨3, ![64, 64, 16]⟩
abbrev S64 : Shape := ⟨1, ![64]⟩
abbrev S64x1 : Shape := ⟨2, ![64, 1]⟩
abbrev S_ : Shape := ⟨0, ![]⟩
abbrev S64x64x1 : Shape := ⟨3, ![64, 64, 1]⟩
abbrev S8x8x64x16 : Shape := ⟨4, ![8, 8, 64, 16]⟩
abbrev S8x8x64 : Shape := ⟨3, ![8, 8, 64]⟩
abbrev S3072x3072 : Shape := ⟨2, ![3072, 3072]⟩
abbrev S3072x2048 : Shape := ⟨2, ![3072, 2048]⟩
abbrev S3072x16x8x16 : Shape := ⟨4, ![3072, 16, 8, 16]⟩
abbrev S3072x512 : Shape := ⟨2, ![3072, 512]⟩
abbrev S3072x1x8x64 : Shape := ⟨4, ![3072, 1, 8, 64]⟩
abbrev S3072x8x8x64 : Shape := ⟨4, ![3072, 8, 8, 64]⟩
abbrev S8x8x64x3072x16 : Shape := ⟨5, ![8, 8, 64, 3072, 16]⟩
abbrev S16x3072x8x8x64 : Shape := ⟨5, ![16, 3072, 8, 8, 64]⟩
abbrev S1x8x8x64 : Shape := ⟨4, ![1, 8, 8, 64]⟩
abbrev S1x3072x8x8x64 : Shape := ⟨5, ![1, 3072, 8, 8, 64]⟩
abbrev S64x16x64 : Shape := ⟨3, ![64, 16, 64]⟩
abbrev S8x8x16x64 : Shape := ⟨4, ![8, 8, 16, 64]⟩
abbrev S8x8x16x16x3072 : Shape := ⟨5, ![8, 8, 16, 16, 3072]⟩
abbrev S8x3072x16x8x16 : Shape := ⟨5, ![8, 3072, 16, 8, 16]⟩
abbrev S2048x8x8x64 : Shape := ⟨4, ![2048, 8, 8, 64]⟩
abbrev S1x2048x8x8x64 : Shape := ⟨5, ![1, 2048, 8, 8, 64]⟩
abbrev S2x2048x8x8x64 : Shape := ⟨5, ![2, 2048, 8, 8, 64]⟩
abbrev S8x2048x2x8x64 : Shape := ⟨5, ![8, 2048, 2, 8, 64]⟩
abbrev S8x3072x2048 : Shape := ⟨3, ![8, 3072, 2048]⟩
abbrev S8x2048x1024 : Shape := ⟨3, ![8, 2048, 1024]⟩

abbrev nBuf : Space → Nat
  | .hbm => 449
  | .vmem => 0
  | .smem => 0
  | _ => 0

abbrev hbmTy0_0 (i : Nat) : BufTy := match i % 128 with
  | 0 => ⟨S1x64x64, .f32⟩
  | 1 => ⟨S1x64x64, .f32⟩
  | 2 => ⟨S1x64, .f32⟩
  | 3 => ⟨S1x64x64x16, .f32⟩
  | 4 => ⟨S1x64x64x16, .f32⟩
  | 5 => ⟨S1x64x16x64, .f32⟩
  | 6 => ⟨S1x64x16x64, .f32⟩
  | 7 => ⟨S64x64, .f32⟩
  | 8 => ⟨S64x64, .f32⟩
  | 9 => ⟨S64x64x16, .f32⟩
  | 10 => ⟨S64x64x16, .f32⟩
  | 11 => ⟨S64, .f32⟩
  | 12 => ⟨S64, .f32⟩
  | 13 => ⟨S64x1, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S64x64, .f32⟩
  | 28 => ⟨S_, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S64x64, .f32⟩
  | 36 => ⟨S64x64, .f32⟩
  | 37 => ⟨S64x64, .f32⟩
  | 38 => ⟨S64x64, .f32⟩
  | 39 => ⟨S64x64x1, .f32⟩
  | 40 => ⟨S64x64x16, .f32⟩
  | 41 => ⟨S64x64x16, .f32⟩
  | 42 => ⟨S64x64x1, .f32⟩
  | 43 => ⟨S64x64x16, .f32⟩
  | 44 => ⟨S64x64x16, .f32⟩
  | 45 => ⟨S64x64x16, .f32⟩
  | 46 => ⟨S8x8x64x16, .f32⟩
  | 47 => ⟨S64x64x1, .f32⟩
  | 48 => ⟨S64x64x16, .f32⟩
  | 49 => ⟨S64x64x16, .f32⟩
  | 50 => ⟨S64x64x1, .f32⟩
  | 51 => ⟨S64x64x16, .f32⟩
  | 52 => ⟨S64x64x16, .f32⟩
  | 53 => ⟨S64x64x16, .f32⟩
  | 54 => ⟨S8x8x64x16, .f32⟩
  | 55 => ⟨S8x8x64, .f32⟩
  | 56 => ⟨S8x8x64, .f32⟩
  | 57 => ⟨S3072x3072, .i32⟩
  | 58 => ⟨S3072x3072, .i32⟩
  | 59 => ⟨S_, .i32⟩
  | 60 => ⟨S3072x3072, .i32⟩
  | 61 => ⟨S3072x3072, .i32⟩
  | 62 => ⟨S3072x3072, .i1⟩
  | 63 => ⟨S3072x3072, .f32⟩
  | 64 => ⟨S3072x2048, .f32⟩
  | 65 => ⟨S3072x16x8x16, .f32⟩
  | 66 => ⟨S3072x512, .f32⟩
  | 67 => ⟨S3072x1x8x64, .f32⟩
  | 68 => ⟨S3072x8x8x64, .f32⟩
  | 69 => ⟨S3072x512, .f32⟩
  | 70 => ⟨S3072x1x8x64, .f32⟩
  | 71 => ⟨S3072x8x8x64, .f32⟩
  | 72 => ⟨S8x8x64x3072x16, .f32⟩
  | 73 => ⟨S16x3072x8x8x64, .f32⟩
  | 74 => ⟨S8x8x64x3072x16, .f32⟩
  | 75 => ⟨S16x3072x8x8x64, .f32⟩
  | 76 => ⟨S1x8x8x64, .f32⟩
  | 77 => ⟨S3072x8x8x64, .f32⟩
  | 78 => ⟨S3072x8x8x64, .f32⟩
  | 79 => ⟨S1x8x8x64, .f32⟩
  | 80 => ⟨S3072x8x8x64, .f32⟩
  | 81 => ⟨S3072x8x8x64, .f32⟩
  | 82 => ⟨S3072x8x8x64, .f32⟩
  | 83 => ⟨S1x3072x8x8x64, .f32⟩
  | 84 => ⟨S3072x8x8x64, .f32⟩
  | 85 => ⟨S3072x8x8x64, .f32⟩
  | 86 => ⟨S1x8x8x64, .f32⟩
  | 87 => ⟨S3072x8x8x64, .f32⟩
  | 88 => ⟨S3072x8x8x64, .f32⟩
  | 89 => ⟨S1x8x8x64, .f32⟩
  | 90 => ⟨S3072x8x8x64, .f32⟩
  | 91 => ⟨S3072x8x8x64, .f32⟩
  | 92 => ⟨S3072x8x8x64, .f32⟩
  | 93 => ⟨S1x3072x8x8x64, .f32⟩
  | 94 => ⟨S3072x8x8x64, .f32⟩
  | 95 => ⟨S3072x8x8x64, .f32⟩
  | 96 => ⟨S1x8x8x64, .f32⟩
  | 97 => ⟨S3072x8x8x64, .f32⟩
  | 98 => ⟨S3072x8x8x64, .f32⟩
  | 99 => ⟨S1x8x8x64, .f32⟩
  | 100 => ⟨S3072x8x8x64, .f32⟩
  | 101 => ⟨S3072x8x8x64, .f32⟩
  | 102 => ⟨S3072x8x8x64, .f32⟩
  | 103 => ⟨S1x3072x8x8x64, .f32⟩
  | 104 => ⟨S3072x8x8x64, .f32⟩
  | 105 => ⟨S3072x8x8x64, .f32⟩
  | 106 => ⟨S1x8x8x64, .f32⟩
  | 107 => ⟨S3072x8x8x64, .f32⟩
  | 108 => ⟨S3072x8x8x64, .f32⟩
  | 109 => ⟨S1x8x8x64, .f32⟩
  | 110 => ⟨S3072x8x8x64, .f32⟩
  | 111 => ⟨S3072x8x8x64, .f32⟩
  | 112 => ⟨S3072x8x8x64, .f32⟩
  | 113 => ⟨S1x3072x8x8x64, .f32⟩
  | 114 => ⟨S3072x8x8x64, .f32⟩
  | 115 => ⟨S3072x8x8x64, .f32⟩
  | 116 => ⟨S1x8x8x64, .f32⟩
  | 117 => ⟨S3072x8x8x64, .f32⟩
  | 118 => ⟨S3072x8x8x64, .f32⟩
  | 119 => ⟨S1x8x8x64, .f32⟩
  | 120 => ⟨S3072x8x8x64, .f32⟩
  | 121 => ⟨S3072x8x8x64, .f32⟩
  | 122 => ⟨S3072x8x8x64, .f32⟩
  | 123 => ⟨S1x3072x8x8x64, .f32⟩
  | 124 => ⟨S3072x8x8x64, .f32⟩
  | 125 => ⟨S3072x8x8x64, .f32⟩
  | 126 => ⟨S1x8x8x64, .f32⟩
  | 127 => ⟨S3072x8x8x64, .f32⟩
  | _ => ⟨S1x64x64, .f32⟩

abbrev hbmTy0_1 (i : Nat) : BufTy := match i % 128 with
  | 0 => ⟨S3072x8x8x64, .f32⟩
  | 1 => ⟨S1x8x8x64, .f32⟩
  | 2 => ⟨S3072x8x8x64, .f32⟩
  | 3 => ⟨S3072x8x8x64, .f32⟩
  | 4 => ⟨S3072x8x8x64, .f32⟩
  | 5 => ⟨S1x3072x8x8x64, .f32⟩
  | 6 => ⟨S3072x8x8x64, .f32⟩
  | 7 => ⟨S3072x8x8x64, .f32⟩
  | 8 => ⟨S1x8x8x64, .f32⟩
  | 9 => ⟨S3072x8x8x64, .f32⟩
  | 10 => ⟨S3072x8x8x64, .f32⟩
  | 11 => ⟨S1x8x8x64, .f32⟩
  | 12 => ⟨S3072x8x8x64, .f32⟩
  | 13 => ⟨S3072x8x8x64, .f32⟩
  | 14 => ⟨S3072x8x8x64, .f32⟩
  | 15 => ⟨S1x3072x8x8x64, .f32⟩
  | 16 => ⟨S3072x8x8x64, .f32⟩
  | 17 => ⟨S3072x8x8x64, .f32⟩
  | 18 => ⟨S1x8x8x64, .f32⟩
  | 19 => ⟨S3072x8x8x64, .f32⟩
  | 20 => ⟨S3072x8x8x64, .f32⟩
  | 21 => ⟨S1x8x8x64, .f32⟩
  | 22 => ⟨S3072x8x8x64, .f32⟩
  | 23 => ⟨S3072x8x8x64, .f32⟩
  | 24 => ⟨S3072x8x8x64, .f32⟩
  | 25 => ⟨S1x3072x8x8x64, .f32⟩
  | 26 => ⟨S3072x8x8x64, .f32⟩
  | 27 => ⟨S3072x8x8x64, .f32⟩
  | 28 => ⟨S1x8x8x64, .f32⟩
  | 29 => ⟨S3072x8x8x64, .f32⟩
  | 30 => ⟨S3072x8x8x64, .f32⟩
  | 31 => ⟨S1x8x8x64, .f32⟩
  | 32 => ⟨S3072x8x8x64, .f32⟩
  | 33 => ⟨S3072x8x8x64, .f32⟩
  | 34 => ⟨S3072x8x8x64, .f32⟩
  | 35 => ⟨S1x3072x8x8x64, .f32⟩
  | 36 => ⟨S3072x8x8x64, .f32⟩
  | 37 => ⟨S3072x8x8x64, .f32⟩
  | 38 => ⟨S1x8x8x64, .f32⟩
  | 39 => ⟨S3072x8x8x64, .f32⟩
  | 40 => ⟨S3072x8x8x64, .f32⟩
  | 41 => ⟨S1x8x8x64, .f32⟩
  | 42 => ⟨S3072x8x8x64, .f32⟩
  | 43 => ⟨S3072x8x8x64, .f32⟩
  | 44 => ⟨S3072x8x8x64, .f32⟩
  | 45 => ⟨S1x3072x8x8x64, .f32⟩
  | 46 => ⟨S3072x8x8x64, .f32⟩
  | 47 => ⟨S3072x8x8x64, .f32⟩
  | 48 => ⟨S1x8x8x64, .f32⟩
  | 49 => ⟨S3072x8x8x64, .f32⟩
  | 50 => ⟨S3072x8x8x64, .f32⟩
  | 51 => ⟨S1x8x8x64, .f32⟩
  | 52 => ⟨S3072x8x8x64, .f32⟩
  | 53 => ⟨S3072x8x8x64, .f32⟩
  | 54 => ⟨S3072x8x8x64, .f32⟩
  | 55 => ⟨S1x3072x8x8x64, .f32⟩
  | 56 => ⟨S3072x8x8x64, .f32⟩
  | 57 => ⟨S3072x8x8x64, .f32⟩
  | 58 => ⟨S1x8x8x64, .f32⟩
  | 59 => ⟨S3072x8x8x64, .f32⟩
  | 60 => ⟨S3072x8x8x64, .f32⟩
  | 61 => ⟨S1x8x8x64, .f32⟩
  | 62 => ⟨S3072x8x8x64, .f32⟩
  | 63 => ⟨S3072x8x8x64, .f32⟩
  | 64 => ⟨S3072x8x8x64, .f32⟩
  | 65 => ⟨S1x3072x8x8x64, .f32⟩
  | 66 => ⟨S3072x8x8x64, .f32⟩
  | 67 => ⟨S3072x8x8x64, .f32⟩
  | 68 => ⟨S1x8x8x64, .f32⟩
  | 69 => ⟨S3072x8x8x64, .f32⟩
  | 70 => ⟨S3072x8x8x64, .f32⟩
  | 71 => ⟨S1x8x8x64, .f32⟩
  | 72 => ⟨S3072x8x8x64, .f32⟩
  | 73 => ⟨S3072x8x8x64, .f32⟩
  | 74 => ⟨S3072x8x8x64, .f32⟩
  | 75 => ⟨S1x3072x8x8x64, .f32⟩
  | 76 => ⟨S3072x8x8x64, .f32⟩
  | 77 => ⟨S3072x8x8x64, .f32⟩
  | 78 => ⟨S1x8x8x64, .f32⟩
  | 79 => ⟨S3072x8x8x64, .f32⟩
  | 80 => ⟨S3072x8x8x64, .f32⟩
  | 81 => ⟨S1x8x8x64, .f32⟩
  | 82 => ⟨S3072x8x8x64, .f32⟩
  | 83 => ⟨S3072x8x8x64, .f32⟩
  | 84 => ⟨S3072x8x8x64, .f32⟩
  | 85 => ⟨S1x3072x8x8x64, .f32⟩
  | 86 => ⟨S3072x8x8x64, .f32⟩
  | 87 => ⟨S3072x8x8x64, .f32⟩
  | 88 => ⟨S1x8x8x64, .f32⟩
  | 89 => ⟨S3072x8x8x64, .f32⟩
  | 90 => ⟨S3072x8x8x64, .f32⟩
  | 91 => ⟨S1x8x8x64, .f32⟩
  | 92 => ⟨S3072x8x8x64, .f32⟩
  | 93 => ⟨S3072x8x8x64, .f32⟩
  | 94 => ⟨S3072x8x8x64, .f32⟩
  | 95 => ⟨S1x3072x8x8x64, .f32⟩
  | 96 => ⟨S3072x8x8x64, .f32⟩
  | 97 => ⟨S3072x8x8x64, .f32⟩
  | 98 => ⟨S1x8x8x64, .f32⟩
  | 99 => ⟨S3072x8x8x64, .f32⟩
  | 100 => ⟨S3072x8x8x64, .f32⟩
  | 101 => ⟨S1x8x8x64, .f32⟩
  | 102 => ⟨S3072x8x8x64, .f32⟩
  | 103 => ⟨S3072x8x8x64, .f32⟩
  | 104 => ⟨S3072x8x8x64, .f32⟩
  | 105 => ⟨S1x3072x8x8x64, .f32⟩
  | 106 => ⟨S3072x8x8x64, .f32⟩
  | 107 => ⟨S3072x8x8x64, .f32⟩
  | 108 => ⟨S1x8x8x64, .f32⟩
  | 109 => ⟨S3072x8x8x64, .f32⟩
  | 110 => ⟨S3072x8x8x64, .f32⟩
  | 111 => ⟨S1x8x8x64, .f32⟩
  | 112 => ⟨S3072x8x8x64, .f32⟩
  | 113 => ⟨S3072x8x8x64, .f32⟩
  | 114 => ⟨S3072x8x8x64, .f32⟩
  | 115 => ⟨S1x3072x8x8x64, .f32⟩
  | 116 => ⟨S3072x8x8x64, .f32⟩
  | 117 => ⟨S3072x8x8x64, .f32⟩
  | 118 => ⟨S1x8x8x64, .f32⟩
  | 119 => ⟨S3072x8x8x64, .f32⟩
  | 120 => ⟨S3072x8x8x64, .f32⟩
  | 121 => ⟨S1x8x8x64, .f32⟩
  | 122 => ⟨S3072x8x8x64, .f32⟩
  | 123 => ⟨S3072x8x8x64, .f32⟩
  | 124 => ⟨S3072x8x8x64, .f32⟩
  | 125 => ⟨S1x3072x8x8x64, .f32⟩
  | 126 => ⟨S3072x8x8x64, .f32⟩
  | 127 => ⟨S3072x8x8x64, .f32⟩
  | _ => ⟨S1x64x64, .f32⟩

abbrev hbmTy0_2 (i : Nat) : BufTy := match i % 128 with
  | 0 => ⟨S1x8x8x64, .f32⟩
  | 1 => ⟨S3072x8x8x64, .f32⟩
  | 2 => ⟨S3072x8x8x64, .f32⟩
  | 3 => ⟨S1x8x8x64, .f32⟩
  | 4 => ⟨S3072x8x8x64, .f32⟩
  | 5 => ⟨S3072x8x8x64, .f32⟩
  | 6 => ⟨S3072x8x8x64, .f32⟩
  | 7 => ⟨S1x3072x8x8x64, .f32⟩
  | 8 => ⟨S3072x8x8x64, .f32⟩
  | 9 => ⟨S3072x8x8x64, .f32⟩
  | 10 => ⟨S1x8x8x64, .f32⟩
  | 11 => ⟨S3072x8x8x64, .f32⟩
  | 12 => ⟨S3072x8x8x64, .f32⟩
  | 13 => ⟨S1x8x8x64, .f32⟩
  | 14 => ⟨S3072x8x8x64, .f32⟩
  | 15 => ⟨S3072x8x8x64, .f32⟩
  | 16 => ⟨S3072x8x8x64, .f32⟩
  | 17 => ⟨S1x3072x8x8x64, .f32⟩
  | 18 => ⟨S3072x8x8x64, .f32⟩
  | 19 => ⟨S3072x8x8x64, .f32⟩
  | 20 => ⟨S1x8x8x64, .f32⟩
  | 21 => ⟨S3072x8x8x64, .f32⟩
  | 22 => ⟨S3072x8x8x64, .f32⟩
  | 23 => ⟨S1x8x8x64, .f32⟩
  | 24 => ⟨S3072x8x8x64, .f32⟩
  | 25 => ⟨S3072x8x8x64, .f32⟩
  | 26 => ⟨S3072x8x8x64, .f32⟩
  | 27 => ⟨S1x3072x8x8x64, .f32⟩
  | 28 => ⟨S3072x8x8x64, .f32⟩
  | 29 => ⟨S3072x8x8x64, .f32⟩
  | 30 => ⟨S1x8x8x64, .f32⟩
  | 31 => ⟨S3072x8x8x64, .f32⟩
  | 32 => ⟨S3072x8x8x64, .f32⟩
  | 33 => ⟨S1x8x8x64, .f32⟩
  | 34 => ⟨S3072x8x8x64, .f32⟩
  | 35 => ⟨S3072x8x8x64, .f32⟩
  | 36 => ⟨S3072x8x8x64, .f32⟩
  | 37 => ⟨S1x3072x8x8x64, .f32⟩
  | 38 => ⟨S3072x8x8x64, .f32⟩
  | 39 => ⟨S3072x8x8x64, .f32⟩
  | 40 => ⟨S1x8x8x64, .f32⟩
  | 41 => ⟨S3072x8x8x64, .f32⟩
  | 42 => ⟨S3072x8x8x64, .f32⟩
  | 43 => ⟨S1x8x8x64, .f32⟩
  | 44 => ⟨S3072x8x8x64, .f32⟩
  | 45 => ⟨S3072x8x8x64, .f32⟩
  | 46 => ⟨S3072x8x8x64, .f32⟩
  | 47 => ⟨S1x3072x8x8x64, .f32⟩
  | 48 => ⟨S3072x8x8x64, .f32⟩
  | 49 => ⟨S3072x8x8x64, .f32⟩
  | 50 => ⟨S1x8x8x64, .f32⟩
  | 51 => ⟨S3072x8x8x64, .f32⟩
  | 52 => ⟨S3072x8x8x64, .f32⟩
  | 53 => ⟨S1x8x8x64, .f32⟩
  | 54 => ⟨S3072x8x8x64, .f32⟩
  | 55 => ⟨S3072x8x8x64, .f32⟩
  | 56 => ⟨S3072x8x8x64, .f32⟩
  | 57 => ⟨S1x3072x8x8x64, .f32⟩
  | 58 => ⟨S3072x8x8x64, .f32⟩
  | 59 => ⟨S3072x8x8x64, .f32⟩
  | 60 => ⟨S1x8x8x64, .f32⟩
  | 61 => ⟨S3072x8x8x64, .f32⟩
  | 62 => ⟨S3072x8x8x64, .f32⟩
  | 63 => ⟨S1x8x8x64, .f32⟩
  | 64 => ⟨S3072x8x8x64, .f32⟩
  | 65 => ⟨S3072x8x8x64, .f32⟩
  | 66 => ⟨S3072x8x8x64, .f32⟩
  | 67 => ⟨S1x3072x8x8x64, .f32⟩
  | 68 => ⟨S3072x8x8x64, .f32⟩
  | 69 => ⟨S3072x8x8x64, .f32⟩
  | 70 => ⟨S1x8x8x64, .f32⟩
  | 71 => ⟨S3072x8x8x64, .f32⟩
  | 72 => ⟨S3072x8x8x64, .f32⟩
  | 73 => ⟨S1x8x8x64, .f32⟩
  | 74 => ⟨S3072x8x8x64, .f32⟩
  | 75 => ⟨S3072x8x8x64, .f32⟩
  | 76 => ⟨S3072x8x8x64, .f32⟩
  | 77 => ⟨S1x3072x8x8x64, .f32⟩
  | 78 => ⟨S3072x8x8x64, .f32⟩
  | 79 => ⟨S3072x8x8x64, .f32⟩
  | 80 => ⟨S1x8x8x64, .f32⟩
  | 81 => ⟨S3072x8x8x64, .f32⟩
  | 82 => ⟨S3072x8x8x64, .f32⟩
  | 83 => ⟨S1x8x8x64, .f32⟩
  | 84 => ⟨S3072x8x8x64, .f32⟩
  | 85 => ⟨S3072x8x8x64, .f32⟩
  | 86 => ⟨S3072x8x8x64, .f32⟩
  | 87 => ⟨S1x3072x8x8x64, .f32⟩
  | 88 => ⟨S3072x8x8x64, .f32⟩
  | 89 => ⟨S3072x8x8x64, .f32⟩
  | 90 => ⟨S1x8x8x64, .f32⟩
  | 91 => ⟨S3072x8x8x64, .f32⟩
  | 92 => ⟨S3072x8x8x64, .f32⟩
  | 93 => ⟨S1x8x8x64, .f32⟩
  | 94 => ⟨S3072x8x8x64, .f32⟩
  | 95 => ⟨S3072x8x8x64, .f32⟩
  | 96 => ⟨S3072x8x8x64, .f32⟩
  | 97 => ⟨S1x3072x8x8x64, .f32⟩
  | 98 => ⟨S3072x8x8x64, .f32⟩
  | 99 => ⟨S3072x8x8x64, .f32⟩
  | 100 => ⟨S1x8x8x64, .f32⟩
  | 101 => ⟨S3072x8x8x64, .f32⟩
  | 102 => ⟨S3072x8x8x64, .f32⟩
  | 103 => ⟨S1x8x8x64, .f32⟩
  | 104 => ⟨S3072x8x8x64, .f32⟩
  | 105 => ⟨S3072x8x8x64, .f32⟩
  | 106 => ⟨S3072x8x8x64, .f32⟩
  | 107 => ⟨S1x3072x8x8x64, .f32⟩
  | 108 => ⟨S3072x8x8x64, .f32⟩
  | 109 => ⟨S3072x8x8x64, .f32⟩
  | 110 => ⟨S1x8x8x64, .f32⟩
  | 111 => ⟨S3072x8x8x64, .f32⟩
  | 112 => ⟨S3072x8x8x64, .f32⟩
  | 113 => ⟨S1x8x8x64, .f32⟩
  | 114 => ⟨S3072x8x8x64, .f32⟩
  | 115 => ⟨S3072x8x8x64, .f32⟩
  | 116 => ⟨S3072x8x8x64, .f32⟩
  | 117 => ⟨S1x3072x8x8x64, .f32⟩
  | 118 => ⟨S3072x8x8x64, .f32⟩
  | 119 => ⟨S3072x8x8x64, .f32⟩
  | 120 => ⟨S1x8x8x64, .f32⟩
  | 121 => ⟨S3072x8x8x64, .f32⟩
  | 122 => ⟨S3072x8x8x64, .f32⟩
  | 123 => ⟨S1x8x8x64, .f32⟩
  | 124 => ⟨S3072x8x8x64, .f32⟩
  | 125 => ⟨S3072x8x8x64, .f32⟩
  | 126 => ⟨S3072x8x8x64, .f32⟩
  | 127 => ⟨S1x3072x8x8x64, .f32⟩
  | _ => ⟨S1x64x64, .f32⟩

abbrev hbmTy0_3 (i : Nat) : BufTy := match i % 128 with
  | 0 => ⟨S3072x8x8x64, .f32⟩
  | 1 => ⟨S3072x8x8x64, .f32⟩
  | 2 => ⟨S1x8x8x64, .f32⟩
  | 3 => ⟨S3072x8x8x64, .f32⟩
  | 4 => ⟨S3072x8x8x64, .f32⟩
  | 5 => ⟨S1x8x8x64, .f32⟩
  | 6 => ⟨S3072x8x8x64, .f32⟩
  | 7 => ⟨S3072x8x8x64, .f32⟩
  | 8 => ⟨S3072x8x8x64, .f32⟩
  | 9 => ⟨S1x3072x8x8x64, .f32⟩
  | 10 => ⟨S3072x8x8x64, .f32⟩
  | 11 => ⟨S3072x8x8x64, .f32⟩
  | 12 => ⟨S1x3072x8x8x64, .f32⟩
  | 13 => ⟨S1x3072x8x8x64, .f32⟩
  | 14 => ⟨S1x3072x8x8x64, .f32⟩
  | 15 => ⟨S1x3072x8x8x64, .f32⟩
  | 16 => ⟨S1x3072x8x8x64, .f32⟩
  | 17 => ⟨S1x3072x8x8x64, .f32⟩
  | 18 => ⟨S1x3072x8x8x64, .f32⟩
  | 19 => ⟨S1x3072x8x8x64, .f32⟩
  | 20 => ⟨S1x3072x8x8x64, .f32⟩
  | 21 => ⟨S1x3072x8x8x64, .f32⟩
  | 22 => ⟨S1x3072x8x8x64, .f32⟩
  | 23 => ⟨S1x3072x8x8x64, .f32⟩
  | 24 => ⟨S1x3072x8x8x64, .f32⟩
  | 25 => ⟨S1x3072x8x8x64, .f32⟩
  | 26 => ⟨S1x3072x8x8x64, .f32⟩
  | 27 => ⟨S1x3072x8x8x64, .f32⟩
  | 28 => ⟨S16x3072x8x8x64, .f32⟩
  | 29 => ⟨S1x3072x8x8x64, .f32⟩
  | 30 => ⟨S1x3072x8x8x64, .f32⟩
  | 31 => ⟨S1x3072x8x8x64, .f32⟩
  | 32 => ⟨S1x3072x8x8x64, .f32⟩
  | 33 => ⟨S1x3072x8x8x64, .f32⟩
  | 34 => ⟨S1x3072x8x8x64, .f32⟩
  | 35 => ⟨S1x3072x8x8x64, .f32⟩
  | 36 => ⟨S1x3072x8x8x64, .f32⟩
  | 37 => ⟨S1x3072x8x8x64, .f32⟩
  | 38 => ⟨S1x3072x8x8x64, .f32⟩
  | 39 => ⟨S1x3072x8x8x64, .f32⟩
  | 40 => ⟨S1x3072x8x8x64, .f32⟩
  | 41 => ⟨S1x3072x8x8x64, .f32⟩
  | 42 => ⟨S1x3072x8x8x64, .f32⟩
  | 43 => ⟨S1x3072x8x8x64, .f32⟩
  | 44 => ⟨S1x3072x8x8x64, .f32⟩
  | 45 => ⟨S16x3072x8x8x64, .f32⟩
  | 46 => ⟨S64x16x64, .f32⟩
  | 47 => ⟨S8x8x16x64, .f32⟩
  | 48 => ⟨S64x16x64, .f32⟩
  | 49 => ⟨S8x8x16x64, .f32⟩
  | 50 => ⟨S8x8x16x16x3072, .f32⟩
  | 51 => ⟨S8x3072x16x8x16, .f32⟩
  | 52 => ⟨S8x8x16x16x3072, .f32⟩
  | 53 => ⟨S8x3072x16x8x16, .f32⟩
  | 54 => ⟨S8x3072x16x8x16, .f32⟩
  | 55 => ⟨S2048x8x8x64, .f32⟩
  | 56 => ⟨S2048x8x8x64, .f32⟩
  | 57 => ⟨S1x2048x8x8x64, .f32⟩
  | 58 => ⟨S1x2048x8x8x64, .f32⟩
  | 59 => ⟨S2x2048x8x8x64, .f32⟩
  | 60 => ⟨S8x2048x2x8x64, .f32⟩
  | 61 => ⟨S8x3072x2048, .f32⟩
  | 62 => ⟨S8x3072x2048, .bf16⟩
  | 63 => ⟨S8x2048x1024, .f32⟩
  | 64 => ⟨S8x2048x1024, .bf16⟩
  | _ => ⟨S1x64x64, .f32⟩

abbrev hbmTy (i : Nat) : BufTy := match i / 128 with
  | 0 => hbmTy0_0 i
  | 1 => hbmTy0_1 i
  | 2 => hbmTy0_2 i
  | 3 => hbmTy0_3 i
  | _ => ⟨S1x64x64, .f32⟩

abbrev bufTy : (tb : Table) → Fin (tcTables nBuf tb) → BufTy
  | .hbm, ⟨i, _⟩ => hbmTy i
  | _, _ => ⟨S1x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_c : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_v221 : Ref sig .tc := ⟨.hbm, 230, rfl⟩
abbrev main_v222 : Ref sig .tc := ⟨.hbm, 231, rfl⟩
abbrev main_v223 : Ref sig .tc := ⟨.hbm, 232, rfl⟩
abbrev main_v224 : Ref sig .tc := ⟨.hbm, 233, rfl⟩
abbrev main_v225 : Ref sig .tc := ⟨.hbm, 234, rfl⟩
abbrev main_v226 : Ref sig .tc := ⟨.hbm, 235, rfl⟩
abbrev main_v227 : Ref sig .tc := ⟨.hbm, 236, rfl⟩
abbrev main_v228 : Ref sig .tc := ⟨.hbm, 237, rfl⟩
abbrev main_v229 : Ref sig .tc := ⟨.hbm, 238, rfl⟩
abbrev main_v230 : Ref sig .tc := ⟨.hbm, 239, rfl⟩
abbrev main_v231 : Ref sig .tc := ⟨.hbm, 240, rfl⟩
abbrev main_v232 : Ref sig .tc := ⟨.hbm, 241, rfl⟩
abbrev main_v233 : Ref sig .tc := ⟨.hbm, 242, rfl⟩
abbrev main_v234 : Ref sig .tc := ⟨.hbm, 243, rfl⟩
abbrev main_v235 : Ref sig .tc := ⟨.hbm, 244, rfl⟩
abbrev main_v236 : Ref sig .tc := ⟨.hbm, 245, rfl⟩
abbrev main_v237 : Ref sig .tc := ⟨.hbm, 246, rfl⟩
abbrev main_v238 : Ref sig .tc := ⟨.hbm, 247, rfl⟩
abbrev main_v239 : Ref sig .tc := ⟨.hbm, 248, rfl⟩
abbrev main_v240 : Ref sig .tc := ⟨.hbm, 249, rfl⟩
abbrev main_v241 : Ref sig .tc := ⟨.hbm, 250, rfl⟩
abbrev main_v242 : Ref sig .tc := ⟨.hbm, 251, rfl⟩
abbrev main_v243 : Ref sig .tc := ⟨.hbm, 252, rfl⟩
abbrev main_v244 : Ref sig .tc := ⟨.hbm, 253, rfl⟩
abbrev main_v245 : Ref sig .tc := ⟨.hbm, 254, rfl⟩
abbrev main_v246 : Ref sig .tc := ⟨.hbm, 255, rfl⟩
abbrev main_v247 : Ref sig .tc := ⟨.hbm, 256, rfl⟩
abbrev main_v248 : Ref sig .tc := ⟨.hbm, 257, rfl⟩
abbrev main_v249 : Ref sig .tc := ⟨.hbm, 258, rfl⟩
abbrev main_v250 : Ref sig .tc := ⟨.hbm, 259, rfl⟩
abbrev main_v251 : Ref sig .tc := ⟨.hbm, 260, rfl⟩
abbrev main_v252 : Ref sig .tc := ⟨.hbm, 261, rfl⟩
abbrev main_v253 : Ref sig .tc := ⟨.hbm, 262, rfl⟩
abbrev main_v254 : Ref sig .tc := ⟨.hbm, 263, rfl⟩
abbrev main_v255 : Ref sig .tc := ⟨.hbm, 264, rfl⟩
abbrev main_v256 : Ref sig .tc := ⟨.hbm, 265, rfl⟩
abbrev main_v257 : Ref sig .tc := ⟨.hbm, 266, rfl⟩
abbrev main_v258 : Ref sig .tc := ⟨.hbm, 267, rfl⟩
abbrev main_v259 : Ref sig .tc := ⟨.hbm, 268, rfl⟩
abbrev main_v260 : Ref sig .tc := ⟨.hbm, 269, rfl⟩
abbrev main_v261 : Ref sig .tc := ⟨.hbm, 270, rfl⟩
abbrev main_v262 : Ref sig .tc := ⟨.hbm, 271, rfl⟩
abbrev main_v263 : Ref sig .tc := ⟨.hbm, 272, rfl⟩
abbrev main_v264 : Ref sig .tc := ⟨.hbm, 273, rfl⟩
abbrev main_v265 : Ref sig .tc := ⟨.hbm, 274, rfl⟩
abbrev main_v266 : Ref sig .tc := ⟨.hbm, 275, rfl⟩
abbrev main_v267 : Ref sig .tc := ⟨.hbm, 276, rfl⟩
abbrev main_v268 : Ref sig .tc := ⟨.hbm, 277, rfl⟩
abbrev main_v269 : Ref sig .tc := ⟨.hbm, 278, rfl⟩
abbrev main_v270 : Ref sig .tc := ⟨.hbm, 279, rfl⟩
abbrev main_v271 : Ref sig .tc := ⟨.hbm, 280, rfl⟩
abbrev main_v272 : Ref sig .tc := ⟨.hbm, 281, rfl⟩
abbrev main_v273 : Ref sig .tc := ⟨.hbm, 282, rfl⟩
abbrev main_v274 : Ref sig .tc := ⟨.hbm, 283, rfl⟩
abbrev main_v275 : Ref sig .tc := ⟨.hbm, 284, rfl⟩
abbrev main_v276 : Ref sig .tc := ⟨.hbm, 285, rfl⟩
abbrev main_v277 : Ref sig .tc := ⟨.hbm, 286, rfl⟩
abbrev main_v278 : Ref sig .tc := ⟨.hbm, 287, rfl⟩
abbrev main_v279 : Ref sig .tc := ⟨.hbm, 288, rfl⟩
abbrev main_v280 : Ref sig .tc := ⟨.hbm, 289, rfl⟩
abbrev main_v281 : Ref sig .tc := ⟨.hbm, 290, rfl⟩
abbrev main_v282 : Ref sig .tc := ⟨.hbm, 291, rfl⟩
abbrev main_v283 : Ref sig .tc := ⟨.hbm, 292, rfl⟩
abbrev main_v284 : Ref sig .tc := ⟨.hbm, 293, rfl⟩
abbrev main_v285 : Ref sig .tc := ⟨.hbm, 294, rfl⟩
abbrev main_v286 : Ref sig .tc := ⟨.hbm, 295, rfl⟩
abbrev main_v287 : Ref sig .tc := ⟨.hbm, 296, rfl⟩
abbrev main_v288 : Ref sig .tc := ⟨.hbm, 297, rfl⟩
abbrev main_v289 : Ref sig .tc := ⟨.hbm, 298, rfl⟩
abbrev main_v290 : Ref sig .tc := ⟨.hbm, 299, rfl⟩
abbrev main_v291 : Ref sig .tc := ⟨.hbm, 300, rfl⟩
abbrev main_v292 : Ref sig .tc := ⟨.hbm, 301, rfl⟩
abbrev main_v293 : Ref sig .tc := ⟨.hbm, 302, rfl⟩
abbrev main_v294 : Ref sig .tc := ⟨.hbm, 303, rfl⟩
abbrev main_v295 : Ref sig .tc := ⟨.hbm, 304, rfl⟩
abbrev main_v296 : Ref sig .tc := ⟨.hbm, 305, rfl⟩
abbrev main_v297 : Ref sig .tc := ⟨.hbm, 306, rfl⟩
abbrev main_v298 : Ref sig .tc := ⟨.hbm, 307, rfl⟩
abbrev main_v299 : Ref sig .tc := ⟨.hbm, 308, rfl⟩
abbrev main_v300 : Ref sig .tc := ⟨.hbm, 309, rfl⟩
abbrev main_v301 : Ref sig .tc := ⟨.hbm, 310, rfl⟩
abbrev main_v302 : Ref sig .tc := ⟨.hbm, 311, rfl⟩
abbrev main_v303 : Ref sig .tc := ⟨.hbm, 312, rfl⟩
abbrev main_v304 : Ref sig .tc := ⟨.hbm, 313, rfl⟩
abbrev main_v305 : Ref sig .tc := ⟨.hbm, 314, rfl⟩
abbrev main_v306 : Ref sig .tc := ⟨.hbm, 315, rfl⟩
abbrev main_v307 : Ref sig .tc := ⟨.hbm, 316, rfl⟩
abbrev main_v308 : Ref sig .tc := ⟨.hbm, 317, rfl⟩
abbrev main_v309 : Ref sig .tc := ⟨.hbm, 318, rfl⟩
abbrev main_v310 : Ref sig .tc := ⟨.hbm, 319, rfl⟩
abbrev main_v311 : Ref sig .tc := ⟨.hbm, 320, rfl⟩
abbrev main_v312 : Ref sig .tc := ⟨.hbm, 321, rfl⟩
abbrev main_v313 : Ref sig .tc := ⟨.hbm, 322, rfl⟩
abbrev main_v314 : Ref sig .tc := ⟨.hbm, 323, rfl⟩
abbrev main_v315 : Ref sig .tc := ⟨.hbm, 324, rfl⟩
abbrev main_v316 : Ref sig .tc := ⟨.hbm, 325, rfl⟩
abbrev main_v317 : Ref sig .tc := ⟨.hbm, 326, rfl⟩
abbrev main_v318 : Ref sig .tc := ⟨.hbm, 327, rfl⟩
abbrev main_v319 : Ref sig .tc := ⟨.hbm, 328, rfl⟩
abbrev main_v320 : Ref sig .tc := ⟨.hbm, 329, rfl⟩
abbrev main_v321 : Ref sig .tc := ⟨.hbm, 330, rfl⟩
abbrev main_v322 : Ref sig .tc := ⟨.hbm, 331, rfl⟩
abbrev main_v323 : Ref sig .tc := ⟨.hbm, 332, rfl⟩
abbrev main_v324 : Ref sig .tc := ⟨.hbm, 333, rfl⟩
abbrev main_v325 : Ref sig .tc := ⟨.hbm, 334, rfl⟩
abbrev main_v326 : Ref sig .tc := ⟨.hbm, 335, rfl⟩
abbrev main_v327 : Ref sig .tc := ⟨.hbm, 336, rfl⟩
abbrev main_v328 : Ref sig .tc := ⟨.hbm, 337, rfl⟩
abbrev main_v329 : Ref sig .tc := ⟨.hbm, 338, rfl⟩
abbrev main_v330 : Ref sig .tc := ⟨.hbm, 339, rfl⟩
abbrev main_v331 : Ref sig .tc := ⟨.hbm, 340, rfl⟩
abbrev main_v332 : Ref sig .tc := ⟨.hbm, 341, rfl⟩
abbrev main_v333 : Ref sig .tc := ⟨.hbm, 342, rfl⟩
abbrev main_v334 : Ref sig .tc := ⟨.hbm, 343, rfl⟩
abbrev main_v335 : Ref sig .tc := ⟨.hbm, 344, rfl⟩
abbrev main_v336 : Ref sig .tc := ⟨.hbm, 345, rfl⟩
abbrev main_v337 : Ref sig .tc := ⟨.hbm, 346, rfl⟩
abbrev main_v338 : Ref sig .tc := ⟨.hbm, 347, rfl⟩
abbrev main_v339 : Ref sig .tc := ⟨.hbm, 348, rfl⟩
abbrev main_v340 : Ref sig .tc := ⟨.hbm, 349, rfl⟩
abbrev main_v341 : Ref sig .tc := ⟨.hbm, 350, rfl⟩
abbrev main_v342 : Ref sig .tc := ⟨.hbm, 351, rfl⟩
abbrev main_v343 : Ref sig .tc := ⟨.hbm, 352, rfl⟩
abbrev main_v344 : Ref sig .tc := ⟨.hbm, 353, rfl⟩
abbrev main_v345 : Ref sig .tc := ⟨.hbm, 354, rfl⟩
abbrev main_v346 : Ref sig .tc := ⟨.hbm, 355, rfl⟩
abbrev main_v347 : Ref sig .tc := ⟨.hbm, 356, rfl⟩
abbrev main_v348 : Ref sig .tc := ⟨.hbm, 357, rfl⟩
abbrev main_v349 : Ref sig .tc := ⟨.hbm, 358, rfl⟩
abbrev main_v350 : Ref sig .tc := ⟨.hbm, 359, rfl⟩
abbrev main_v351 : Ref sig .tc := ⟨.hbm, 360, rfl⟩
abbrev main_v352 : Ref sig .tc := ⟨.hbm, 361, rfl⟩
abbrev main_v353 : Ref sig .tc := ⟨.hbm, 362, rfl⟩
abbrev main_v354 : Ref sig .tc := ⟨.hbm, 363, rfl⟩
abbrev main_v355 : Ref sig .tc := ⟨.hbm, 364, rfl⟩
abbrev main_v356 : Ref sig .tc := ⟨.hbm, 365, rfl⟩
abbrev main_v357 : Ref sig .tc := ⟨.hbm, 366, rfl⟩
abbrev main_v358 : Ref sig .tc := ⟨.hbm, 367, rfl⟩
abbrev main_v359 : Ref sig .tc := ⟨.hbm, 368, rfl⟩
abbrev main_v360 : Ref sig .tc := ⟨.hbm, 369, rfl⟩
abbrev main_v361 : Ref sig .tc := ⟨.hbm, 370, rfl⟩
abbrev main_v362 : Ref sig .tc := ⟨.hbm, 371, rfl⟩
abbrev main_v363 : Ref sig .tc := ⟨.hbm, 372, rfl⟩
abbrev main_v364 : Ref sig .tc := ⟨.hbm, 373, rfl⟩
abbrev main_v365 : Ref sig .tc := ⟨.hbm, 374, rfl⟩
abbrev main_v366 : Ref sig .tc := ⟨.hbm, 375, rfl⟩
abbrev main_v367 : Ref sig .tc := ⟨.hbm, 376, rfl⟩
abbrev main_v368 : Ref sig .tc := ⟨.hbm, 377, rfl⟩
abbrev main_v369 : Ref sig .tc := ⟨.hbm, 378, rfl⟩
abbrev main_v370 : Ref sig .tc := ⟨.hbm, 379, rfl⟩
abbrev main_v371 : Ref sig .tc := ⟨.hbm, 380, rfl⟩
abbrev main_v372 : Ref sig .tc := ⟨.hbm, 381, rfl⟩
abbrev main_v373 : Ref sig .tc := ⟨.hbm, 382, rfl⟩
abbrev main_v374 : Ref sig .tc := ⟨.hbm, 383, rfl⟩
abbrev main_v375 : Ref sig .tc := ⟨.hbm, 384, rfl⟩
abbrev main_v376 : Ref sig .tc := ⟨.hbm, 385, rfl⟩
abbrev main_v377 : Ref sig .tc := ⟨.hbm, 386, rfl⟩
abbrev main_v378 : Ref sig .tc := ⟨.hbm, 387, rfl⟩
abbrev main_v379 : Ref sig .tc := ⟨.hbm, 388, rfl⟩
abbrev main_v380 : Ref sig .tc := ⟨.hbm, 389, rfl⟩
abbrev main_v381 : Ref sig .tc := ⟨.hbm, 390, rfl⟩
abbrev main_v382 : Ref sig .tc := ⟨.hbm, 391, rfl⟩
abbrev main_v383 : Ref sig .tc := ⟨.hbm, 392, rfl⟩
abbrev main_v384 : Ref sig .tc := ⟨.hbm, 393, rfl⟩
abbrev main_v385 : Ref sig .tc := ⟨.hbm, 394, rfl⟩
abbrev main_v386 : Ref sig .tc := ⟨.hbm, 395, rfl⟩
abbrev main_v387 : Ref sig .tc := ⟨.hbm, 396, rfl⟩
abbrev main_v388 : Ref sig .tc := ⟨.hbm, 397, rfl⟩
abbrev main_v389 : Ref sig .tc := ⟨.hbm, 398, rfl⟩
abbrev main_v390 : Ref sig .tc := ⟨.hbm, 399, rfl⟩
abbrev main_v391 : Ref sig .tc := ⟨.hbm, 400, rfl⟩
abbrev main_v392 : Ref sig .tc := ⟨.hbm, 401, rfl⟩
abbrev main_v393 : Ref sig .tc := ⟨.hbm, 402, rfl⟩
abbrev main_v394 : Ref sig .tc := ⟨.hbm, 403, rfl⟩
abbrev main_v395 : Ref sig .tc := ⟨.hbm, 404, rfl⟩
abbrev main_v396 : Ref sig .tc := ⟨.hbm, 405, rfl⟩
abbrev main_v397 : Ref sig .tc := ⟨.hbm, 406, rfl⟩
abbrev main_v398 : Ref sig .tc := ⟨.hbm, 407, rfl⟩
abbrev main_v399 : Ref sig .tc := ⟨.hbm, 408, rfl⟩
abbrev main_v400 : Ref sig .tc := ⟨.hbm, 409, rfl⟩
abbrev main_v401 : Ref sig .tc := ⟨.hbm, 410, rfl⟩
abbrev main_v402 : Ref sig .tc := ⟨.hbm, 411, rfl⟩
abbrev main_v403 : Ref sig .tc := ⟨.hbm, 412, rfl⟩
abbrev main_v404 : Ref sig .tc := ⟨.hbm, 413, rfl⟩
abbrev main_v405 : Ref sig .tc := ⟨.hbm, 414, rfl⟩
abbrev main_v406 : Ref sig .tc := ⟨.hbm, 415, rfl⟩
abbrev main_v407 : Ref sig .tc := ⟨.hbm, 416, rfl⟩
abbrev main_v408 : Ref sig .tc := ⟨.hbm, 417, rfl⟩
abbrev main_v409 : Ref sig .tc := ⟨.hbm, 418, rfl⟩
abbrev main_v410 : Ref sig .tc := ⟨.hbm, 419, rfl⟩
abbrev main_v411 : Ref sig .tc := ⟨.hbm, 420, rfl⟩
abbrev main_v412 : Ref sig .tc := ⟨.hbm, 421, rfl⟩
abbrev main_v413 : Ref sig .tc := ⟨.hbm, 422, rfl⟩
abbrev main_v414 : Ref sig .tc := ⟨.hbm, 423, rfl⟩
abbrev main_v415 : Ref sig .tc := ⟨.hbm, 424, rfl⟩
abbrev main_v416 : Ref sig .tc := ⟨.hbm, 425, rfl⟩
abbrev main_v417 : Ref sig .tc := ⟨.hbm, 426, rfl⟩
abbrev main_v418 : Ref sig .tc := ⟨.hbm, 427, rfl⟩
abbrev main_v419 : Ref sig .tc := ⟨.hbm, 428, rfl⟩
abbrev main_v420 : Ref sig .tc := ⟨.hbm, 429, rfl⟩
abbrev main_v421 : Ref sig .tc := ⟨.hbm, 430, rfl⟩
abbrev main_v422 : Ref sig .tc := ⟨.hbm, 431, rfl⟩
abbrev main_v423 : Ref sig .tc := ⟨.hbm, 432, rfl⟩
abbrev main_v424 : Ref sig .tc := ⟨.hbm, 433, rfl⟩
abbrev main_v425 : Ref sig .tc := ⟨.hbm, 434, rfl⟩
abbrev main_v426 : Ref sig .tc := ⟨.hbm, 435, rfl⟩
abbrev main_v427 : Ref sig .tc := ⟨.hbm, 436, rfl⟩
abbrev main_v428 : Ref sig .tc := ⟨.hbm, 437, rfl⟩
abbrev main_v429 : Ref sig .tc := ⟨.hbm, 438, rfl⟩
abbrev main_v430 : Ref sig .tc := ⟨.hbm, 439, rfl⟩
abbrev main_v431 : Ref sig .tc := ⟨.hbm, 440, rfl⟩
abbrev main_v432 : Ref sig .tc := ⟨.hbm, 441, rfl⟩
abbrev main_v433 : Ref sig .tc := ⟨.hbm, 442, rfl⟩
abbrev main_v434 : Ref sig .tc := ⟨.hbm, 443, rfl⟩
abbrev main_v435 : Ref sig .tc := ⟨.hbm, 444, rfl⟩
abbrev main_v436 : Ref sig .tc := ⟨.hbm, 445, rfl⟩
abbrev main_v437 : Ref sig .tc := ⟨.hbm, 446, rfl⟩
abbrev main_v438 : Ref sig .tc := ⟨.hbm, 447, rfl⟩
abbrev main_v439 : Ref sig .tc := ⟨.hbm, 448, rfl⟩

abbrev nD : Nat := 1
abbrev τ : Topo := Topo.v7x

variable {F : FTy → Type} [FloatOps F]
-- ==== Kernel2.lean ====
abbrev S16x2048x2048 : Shape := ⟨3, ![16, 2048, 2048]⟩
abbrev S2x2x2048 : Shape := ⟨3, ![2, 2, 2048]⟩
abbrev S2x2x2048x5504 : Shape := ⟨4, ![2, 2, 2048, 5504]⟩
abbrev S2x2x5504x2048 : Shape := ⟨4, ![2, 2, 5504, 2048]⟩
abbrev S2048 : Shape := ⟨1, ![2048]⟩
abbrev S1x1x2048x5504 : Shape := ⟨4, ![1, 1, 2048, 5504]⟩
abbrev S2048x5504 : Shape := ⟨2, ![2048, 5504]⟩
abbrev S_ : Shape := ⟨0, ![]⟩
abbrev S2048x6144 : Shape := ⟨2, ![2048, 6144]⟩
abbrev S2048x6x1024 : Shape := ⟨3, ![2048, 6, 1024]⟩
abbrev S6x2048x1024 : Shape := ⟨3, ![6, 2048, 1024]⟩
abbrev S1x1x5504x2048 : Shape := ⟨4, ![1, 1, 5504, 2048]⟩
abbrev S5504x2048 : Shape := ⟨2, ![5504, 2048]⟩
abbrev S6144x2048 : Shape := ⟨2, ![6144, 2048]⟩
abbrev S6x1024x2048 : Shape := ⟨3, ![6, 1024, 2048]⟩
abbrev S32768x2048 : Shape := ⟨2, ![32768, 2048]⟩
abbrev S1x1x2048 : Shape := ⟨3, ![1, 1, 2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S1x2048x384 : Shape := ⟨3, ![1, 2048, 384]⟩
abbrev S1x384x2048 : Shape := ⟨3, ![1, 384, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩
abbrev S2048x384 : Shape := ⟨2, ![2048, 384]⟩
abbrev S512x384 : Shape := ⟨2, ![512, 384]⟩
abbrev S384x2048 : Shape := ⟨2, ![384, 2048]⟩

abbrev nBuf : Space → Nat
  | .hbm => 35
  | .vmem => 16
  | .smem => 0
  | _ => 0

abbrev bufTy : (tb : Table) → Fin (tcTables nBuf tb) → BufTy
  | .hbm, ⟨0, _⟩ => ⟨S16x2048x2048, .f32⟩
  | .hbm, ⟨1, _⟩ => ⟨S2x2x2048, .f32⟩
  | .hbm, ⟨2, _⟩ => ⟨S2x2x2048x5504, .f32⟩
  | .hbm, ⟨3, _⟩ => ⟨S2x2x2048x5504, .f32⟩
  | .hbm, ⟨4, _⟩ => ⟨S2x2x5504x2048, .f32⟩
  | .hbm, ⟨5, _⟩ => ⟨S2048, .f32⟩
  | .hbm, ⟨6, _⟩ => ⟨S1x1x2048x5504, .f32⟩
  | .hbm, ⟨7, _⟩ => ⟨S2048x5504, .f32⟩
  | .hbm, ⟨8, _⟩ => ⟨S2048x5504, .bf16⟩
  | .hbm, ⟨9, _⟩ => ⟨S_, .i32⟩
  | .hbm, ⟨10, _⟩ => ⟨S_, .bf16⟩
  | .hbm, ⟨11, _⟩ => ⟨S2048x6144, .bf16⟩
  | .hbm, ⟨12, _⟩ => ⟨S2048x6x1024, .bf16⟩
  | .hbm, ⟨13, _⟩ => ⟨S6x2048x1024, .bf16⟩
  | .hbm, ⟨14, _⟩ => ⟨S1x1x2048x5504, .f32⟩
  | .hbm, ⟨15, _⟩ => ⟨S2048x5504, .f32⟩
  | .hbm, ⟨16, _⟩ => ⟨S2048x5504, .bf16⟩
  | .hbm, ⟨17, _⟩ => ⟨S_, .i32⟩
  | .hbm, ⟨18, _⟩ => ⟨S_, .bf16⟩
  | .hbm, ⟨19, _⟩ => ⟨S2048x6144, .bf16⟩
  | .hbm, ⟨20, _⟩ => ⟨S2048x6x1024, .bf16⟩
  | .hbm, ⟨21, _⟩ => ⟨S6x2048x1024, .bf16⟩
  | .hbm, ⟨22, _⟩ => ⟨S1x1x5504x2048, .f32⟩
  | .hbm, ⟨23, _⟩ => ⟨S5504x2048, .f32⟩
  | .hbm, ⟨24, _⟩ => ⟨S5504x2048, .bf16⟩
  | .hbm, ⟨25, _⟩ => ⟨S_, .i32⟩
  | .hbm, ⟨26, _⟩ => ⟨S_, .bf16⟩
  | .hbm, ⟨27, _⟩ => ⟨S6144x2048, .bf16⟩
  | .hbm, ⟨28, _⟩ => ⟨S6x1024x2048, .bf16⟩
  | .hbm, ⟨29, _⟩ => ⟨S32768x2048, .f32⟩
  | .hbm, ⟨30, _⟩ => ⟨S1x1x2048, .f32⟩
  | .hbm, ⟨31, _⟩ => ⟨S2048, .f32⟩
  | .hbm, ⟨32, _⟩ => ⟨S1x2048, .f32⟩
  | .hbm, ⟨33, _⟩ => ⟨S1x2048, .f32⟩
  | .hbm, ⟨34, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x1024x2048, .bf16⟩
  | .local _ .vmem, ⟨8, _⟩ => ⟨S1x1024x2048, .bf16⟩
  | .local _ .vmem, ⟨9, _⟩ => ⟨S1x2048x384, .bf16⟩
  | .local _ .vmem, ⟨10, _⟩ => ⟨S1x2048x384, .bf16⟩
  | .local _ .vmem, ⟨11, _⟩ => ⟨S1x384x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_call1_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_call2_v0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![64, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c0_i32_2 : BitVec 32 := 0#32
  let v6 : BitVec 1 := Scalar.cmpi .sgt arg1 c0_i32_2
  let c5_i32 : BitVec 32 := 5#32
  let v7 : BitVec 1 := Scalar.cmpi .slt arg1 c5_i32
  let v8 : BitVec 1 := Scalar.andi v6 v7
  let c1_i32_3 : BitVec 32 := 1#32
  let v9 : BitVec 1 := Scalar.cmpi .ne arg1 c1_i32_3
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c5_i32_5 : BitVec 32 := 5#32
  let v13 : BitVec 1 := Scalar.cmpi .eq arg1 c5_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sle arg1 c1_i32
  let c1_i32_0 : BitVec 32 := 1#32
  let v1 : BitVec 32 := Scalar.subi arg1 c1_i32_0
  let v2 : BitVec 32 := Scalar.select v0 arg1 v1
  let c0_i32 : BitVec 32 := 0#32
  let c0_i32_1 : BitVec 32 := 0#32
  let c0_i32_2 : BitVec 32 := 0#32
  ![v2.toNat, c0_i32.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sle arg1 c1_i32
  let c1_i32_0 : BitVec 32 := 1#32
  let v1 : BitVec 32 := Scalar.subi arg1 c1_i32_0
  let v2 : BitVec 32 := Scalar.select v0 arg1 v1
  let c0_i32 : BitVec 32 := 0#32
  let c0_i32_1 : BitVec 32 := 0#32
  let c0_i32_2 : BitVec 32 := 0#32
  ![v2.toNat, c0_i32.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sle arg1 c1_i32
  let c1_i32_0 : BitVec 32 := 1#32
  let v1 : BitVec 32 := Scalar.subi arg1 c1_i32_0
  let v2 : BitVec 32 := Scalar.select v0 arg1 v1
  let c0_i32 : BitVec 32 := 0#32
  let c0_i32_1 : BitVec 32 := 0#32
  let c0_i32_2 : BitVec 32 := 0#32
  ![v2.toNat, c0_i32.toNat, c0_i32_1.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S16x2048x2048 : Shape := ⟨3, ![16, 2048, 2048]⟩
abbrev S2x2x2048 : Shape := ⟨3, ![2, 2, 2048]⟩
abbrev S2x2x2048x5504 : Shape := ⟨4, ![2, 2, 2048, 5504]⟩
abbrev S2x2x5504x2048 : Shape := ⟨4, ![2, 2, 5504, 2048]⟩
abbrev S2048 : Shape := ⟨1, ![2048]⟩
abbrev S1x1x2048 : Shape := ⟨3, ![1, 1, 2048]⟩
abbrev S_ : Shape := ⟨0, ![]⟩
abbrev S16x2048 : Shape := ⟨2, ![16, 2048]⟩
abbrev S16x2048x1 : Shape := ⟨3, ![16, 2048, 1]⟩
abbrev S1x1x2048x5504 : Shape := ⟨4, ![1, 1, 2048, 5504]⟩
abbrev S2048x5504 : Shape := ⟨2, ![2048, 5504]⟩
abbrev S1x1x5504x2048 : Shape := ⟨4, ![1, 1, 5504, 2048]⟩
abbrev S5504x2048 : Shape := ⟨2, ![5504, 2048]⟩
abbrev S16x2048x5504 : Shape := ⟨3, ![16, 2048, 5504]⟩
abbrev S32768x2048 : Shape := ⟨2, ![32768, 2048]⟩

abbrev nBuf : Space → Nat
  | .hbm => 64
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2x2x2048, .f32⟩
  | .hbm, ⟨2, _⟩ => ⟨S2x2x2048x5504, .f32⟩
  | .hbm, ⟨3, _⟩ => ⟨S2x2x2048x5504, .f32⟩
  | .hbm, ⟨4, _⟩ => ⟨S2x2x5504x2048, .f32⟩
  | .hbm, ⟨5, _⟩ => ⟨S2048, .f32⟩
  | .hbm, ⟨6, _⟩ => ⟨S1x1x2048, .f32⟩
  | .hbm, ⟨7, _⟩ => ⟨S2048, .f32⟩
  | .hbm, ⟨8, _⟩ => ⟨S16x2048x2048, .f32⟩
  | .hbm, ⟨9, _⟩ => ⟨S_, .f32⟩
  | .hbm, ⟨10, _⟩ => ⟨S16x2048, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S_, .f32⟩
  | .hbm, ⟨16, _⟩ => ⟨S16x2048x1, .f32⟩
  | .hbm, ⟨17, _⟩ => ⟨S16x2048x1, .f32⟩
  | .hbm, ⟨18, _⟩ => ⟨S16x2048x1, .f32⟩
  | .hbm, ⟨19, _⟩ => ⟨S16x2048x2048, .f32⟩
  | .hbm, ⟨20, _⟩ => ⟨S16x2048x2048, .f32⟩
  | .hbm, ⟨21, _⟩ => ⟨S1x1x2048, .f32⟩
  | .hbm, ⟨22, _⟩ => ⟨S16x2048x2048, .f32⟩
  | .hbm, ⟨23, _⟩ => ⟨S16x2048x2048, .f32⟩
  | .hbm, ⟨24, _⟩ => ⟨S1x1x2048x5504, .f32⟩
  | .hbm, ⟨25, _⟩ => ⟨S2048x5504, .f32⟩
  | .hbm, ⟨26, _⟩ => ⟨S1x1x2048x5504, .f32⟩
  | .hbm, ⟨27, _⟩ => ⟨S2048x5504, .f32⟩
  | .hbm, ⟨28, _⟩ => ⟨S1x1x5504x2048, .f32⟩
  | .hbm, ⟨29, _⟩ => ⟨S5504x2048, .f32⟩
  | .hbm, ⟨30, _⟩ => ⟨S16x2048x5504, .f32⟩
  | .hbm, ⟨31, _⟩ => ⟨S16x2048x5504, .f32⟩
  | .hbm, ⟨32, _⟩ => ⟨S16x2048x5504, .f32⟩
  | .hbm, ⟨33, _⟩ => ⟨S_, .f32⟩
  | .hbm, ⟨34, _⟩ => ⟨S16x2048x5504, .f32⟩
  | .hbm, ⟨35, _⟩ => ⟨S16x2048x5504, .f32⟩
  | .hbm, ⟨36, _⟩ => ⟨S_, .f32⟩
  | .hbm, ⟨37, _⟩ => ⟨S16x2048x5504, .f32⟩
  | .hbm, ⟨38, _⟩ => ⟨S16x2048x5504, .f32⟩
  | .hbm, ⟨39, _⟩ => ⟨S16x2048x5504, .f32⟩
  | .hbm, ⟨40, _⟩ => ⟨S16x2048x5504, .f32⟩
  | .hbm, ⟨41, _⟩ => ⟨S16x2048x5504, .f32⟩
  | .hbm, ⟨42, _⟩ => ⟨S16x2048x2048, .f32⟩
  | .hbm, ⟨43, _⟩ => ⟨S_, .f32⟩
  | .hbm, ⟨44, _⟩ => ⟨S16x2048x2048, .f32⟩
  | .hbm, ⟨45, _⟩ => ⟨S16x2048x2048, .f32⟩
  | .hbm, ⟨46, _⟩ => ⟨S16x2048x2048, .f32⟩
  | .hbm, ⟨47, _⟩ => ⟨S16x2048x2048, .f32⟩
  | .hbm, ⟨48, _⟩ => ⟨S_, .f32⟩
  | .hbm, ⟨49, _⟩ => ⟨S16x2048, .f32⟩
  | .hbm, ⟨50, _⟩ => ⟨S16x2048x1, .f32⟩
  | .hbm, ⟨51, _⟩ => ⟨S_, .f32⟩
  | .hbm, ⟨52, _⟩ => ⟨S16x2048x1, .f32⟩
  | .hbm, ⟨53, _⟩ => ⟨S16x2048x1, .f32⟩
  | .hbm, ⟨54, _⟩ => ⟨S_, .f32⟩
  | .hbm, ⟨55, _⟩ => ⟨S16x2048x1, .f32⟩
  | .hbm, ⟨56, _⟩ => ⟨S16x2048x1, .f32⟩
  | .hbm, ⟨57, _⟩ => ⟨S16x2048x1, .f32⟩
  | .hbm, ⟨58, _⟩ => ⟨S16x2048x2048, .f32⟩
  | .hbm, ⟨59, _⟩ => ⟨S16x2048x2048, .f32⟩
  | .hbm, ⟨60, _⟩ => ⟨S1x1x2048, .f32⟩
  | .hbm, ⟨61, _⟩ => ⟨S16x2048x2048, .f32⟩
  | .hbm, ⟨62, _⟩ => ⟨S16x2048x2048, .f32⟩
  | .hbm, ⟨63, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]
-- ==== Kernel3.lean ====
abbrev S16x2048x2048 : Shape := ⟨3, ![16, 2048, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S2048x6144 : Shape := ⟨2, ![2048, 6144]⟩
abbrev S2048x6x1024 : Shape := ⟨3, ![2048, 6, 1024]⟩
abbrev S6x2048x1024 : Shape := ⟨3, ![6, 2048, 1024]⟩
abbrev S6144x2048 : Shape := ⟨2, ![6144, 2048]⟩
abbrev S6x1024x2048 : Shape := ⟨3, ![6, 1024, 2048]⟩
abbrev S32768x2048 : Shape := ⟨2, ![32768, 2048]⟩
abbrev S1x2048 : Shape := ⟨2, ![1, 2048]⟩
abbrev S512x2048 : Shape := ⟨2, ![512, 2048]⟩
abbrev S1x2048x1024 : Shape := ⟨3, ![1, 2048, 1024]⟩
abbrev S1x1024x2048 : Shape := ⟨3, ![1, 1024, 2048]⟩
abbrev S1x2048x384 : Shape := ⟨3, ![1, 2048, 384]⟩
abbrev S1x384x2048 : Shape := ⟨3, ![1, 384, 2048]⟩
abbrev S512 : Shape := ⟨1, ![512]⟩
abbrev S512x1 : Shape := ⟨2, ![512, 1]⟩
abbrev S2048x1024 : Shape := ⟨2, ![2048, 1024]⟩
abbrev S512x1024 : Shape := ⟨2, ![512, 1024]⟩
abbrev S1024x2048 : Shape := ⟨2, ![1024, 2048]⟩
abbrev S2048x384 : Shape := ⟨2, ![2048, 384]⟩
abbrev S512x384 : Shape := ⟨2, ![512, 384]⟩
abbrev S384x2048 : Shape := ⟨2, ![384, 2048]⟩

abbrev nBuf : Space → Nat
  | .hbm => 27
  | .vmem => 16
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S2048x5504, .bf16⟩
  | .hbm, ⟨7, _⟩ => ⟨S_, .i32⟩
  | .hbm, ⟨8, _⟩ => ⟨S_, .bf16⟩
  | .hbm, ⟨9, _⟩ => ⟨S2048x6144, .bf16⟩
  | .hbm, ⟨10, _⟩ => ⟨S2048x6x1024, .bf16⟩
  | .hbm, ⟨11, _⟩ => ⟨S6x2048x1024, .bf16⟩
  | .hbm, ⟨12, _⟩ => ⟨S2048x5504, .bf16⟩
  | .hbm, ⟨13, _⟩ => ⟨S_, .i32⟩
  | .hbm, ⟨14, _⟩ => ⟨S_, .bf16⟩
  | .hbm, ⟨15, _⟩ => ⟨S2048x6144, .bf16⟩
  | .hbm, ⟨16, _⟩ => ⟨S2048x6x1024, .bf16⟩
  | .hbm, ⟨17, _⟩ => ⟨S6x2048x1024, .bf16⟩
  | .hbm, ⟨18, _⟩ => ⟨S5504x2048, .bf16⟩
  | .hbm, ⟨19, _⟩ => ⟨S_, .i32⟩
  | .hbm, ⟨20, _⟩ => ⟨S_, .bf16⟩
  | .hbm, ⟨21, _⟩ => ⟨S6144x2048, .bf16⟩
  | .hbm, ⟨22, _⟩ => ⟨S6x1024x2048, .bf16⟩
  | .hbm, ⟨23, _⟩ => ⟨S32768x2048, .f32⟩
  | .hbm, ⟨24, _⟩ => ⟨S1x2048, .f32⟩
  | .hbm, ⟨25, _⟩ => ⟨S1x2048, .f32⟩
  | .hbm, ⟨26, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x1024x2048, .bf16⟩
  | .local _ .vmem, ⟨8, _⟩ => ⟨S1x1024x2048, .bf16⟩
  | .local _ .vmem, ⟨9, _⟩ => ⟨S1x2048x384, .bf16⟩
  | .local _ .vmem, ⟨10, _⟩ => ⟨S1x2048x384, .bf16⟩
  | .local _ .vmem, ⟨11, _⟩ => ⟨S1x384x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_call2_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨2, ![64, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c1_i32 : BitVec 32 := 1#32
  let v3 : BitVec 1 := Scalar.cmpi .eq arg1 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c0_i32_2 : BitVec 32 := 0#32
  let v6 : BitVec 1 := Scalar.cmpi .sgt arg1 c0_i32_2
  let c5_i32 : BitVec 32 := 5#32
  let v7 : BitVec 1 := Scalar.cmpi .slt arg1 c5_i32
  let v8 : BitVec 1 := Scalar.andi v6 v7
  let c1_i32_3 : BitVec 32 := 1#32
  let v9 : BitVec 1 := Scalar.cmpi .ne arg1 c1_i32_3
  let v10 : BitVec 1 := Scalar.andi v8 v9
  let v11 : BitVec 32 := Scalar.extui v10
  let c0_i32_4 : BitVec 32 := 0#32
  let v12 : BitVec 1 := Scalar.cmpi .ne v11 c0_i32_4
  v12

def k0_cond4 (i : grid0.Coords) : BitVec 1 :=
  let arg1 : BitVec 32 := BitVec.ofNat 32 (i 1).val
  let c5_i32_5 : BitVec 32 := 5#32
  let v13 : BitVec 1 := Scalar.cmpi .eq arg1 c5_i32_5
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sle arg1 c1_i32
  let c1_i32_0 : BitVec 32 := 1#32
  let v1 : BitVec 32 := Scalar.subi arg1 c1_i32_0
  let v2 : BitVec 32 := Scalar.select v0 arg1 v1
  let c0_i32 : BitVec 32 := 0#32
  let c0_i32_1 : BitVec 32 := 0#32
  let c0_i32_2 : BitVec 32 := 0#32
  ![v2.toNat, c0_i32.toNat, c0_i32_1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sle arg1 c1_i32
  let c1_i32_0 : BitVec 32 := 1#32
  let v1 : BitVec 32 := Scalar.subi arg1 c1_i32_0
  let v2 : BitVec 32 := Scalar.select v0 arg1 v1
  let c0_i32 : BitVec 32 := 0#32
  let c0_i32_1 : BitVec 32 := 0#32
  let c0_i32_2 : BitVec 32 := 0#32
  ![v2.toNat, c0_i32.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sle arg1 c1_i32
  let c1_i32_0 : BitVec 32 := 1#32
  let v1 : BitVec 32 := Scalar.subi arg1 c1_i32_0
  let v2 : BitVec 32 := Scalar.select v0 arg1 v1
  let c0_i32 : BitVec 32 := 0#32
  let c0_i32_1 : BitVec 32 := 0#32
  let c0_i32_2 : BitVec 32 := 0#32
  ![v2.toNat, c0_i32.toNat, c0_i32_1.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![c5_i32.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048x384 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x384x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S16x2048x2048 : Shape := ⟨3, ![16, 2048, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x5504 : Shape := ⟨3, ![16, 2048, 5504]⟩
abbrev S32768x2048 : Shape := ⟨2, ![32768, 2048]⟩

abbrev nBuf : Space → Nat
  | .hbm => 40
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048, .f32⟩
  | .hbm, ⟨6, _⟩ => ⟨S16x2048x2048, .f32⟩
  | .hbm, ⟨7, _⟩ => ⟨S_, .f32⟩
  | .hbm, ⟨8, _⟩ => ⟨S16x2048, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S16x2048x1, .f32⟩
  | .hbm, ⟨17, _⟩ => ⟨S16x2048x2048, .f32⟩
  | .hbm, ⟨18, _⟩ => ⟨S16x2048x2048, .f32⟩
  | .hbm, ⟨19, _⟩ => ⟨S1x1x2048, .f32⟩
  | .hbm, ⟨20, _⟩ => ⟨S16x2048x2048, .f32⟩
  | .hbm, ⟨21, _⟩ => ⟨S16x2048x2048, .f32⟩
  | .hbm, ⟨22, _⟩ => ⟨S16x2048x5504, .f32⟩
  | .hbm, ⟨23, _⟩ => ⟨S16x2048x5504, .f32⟩
  | .hbm, ⟨24, _⟩ => ⟨S16x2048x5504, .f32⟩
  | .hbm, ⟨25, _⟩ => ⟨S_, .f32⟩
  | .hbm, ⟨26, _⟩ => ⟨S16x2048x5504, .f32⟩
  | .hbm, ⟨27, _⟩ => ⟨S16x2048x5504, .f32⟩
  | .hbm, ⟨28, _⟩ => ⟨S_, .f32⟩
  | .hbm, ⟨29, _⟩ => ⟨S16x2048x5504, .f32⟩
  | .hbm, ⟨30, _⟩ => ⟨S16x2048x5504, .f32⟩
  | .hbm, ⟨31, _⟩ => ⟨S16x2048x5504, .f32⟩
  | .hbm, ⟨32, _⟩ => ⟨S16x2048x5504, .f32⟩
  | .hbm, ⟨33, _⟩ => ⟨S16x2048x5504, .f32⟩
  | .hbm, ⟨34, _⟩ => ⟨S16x2048x2048, .f32⟩
  | .hbm, ⟨35, _⟩ => ⟨S_, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩

abbrev nD : Nat := 1
abbrev τ : Topo := Topo.v7x

variable {F : FTy → Type} [FloatOps F]
-- ==== Kernel4.lean ====
abbrev S16x2048x1024 : Shape := ⟨3, ![16, 2048, 1024]⟩
abbrev S16x2048x5120 : Shape := ⟨3, ![16, 2048, 5120]⟩
abbrev S1024 : Shape := ⟨1, ![1024]⟩
abbrev S1024x1024 : Shape := ⟨2, ![1024, 1024]⟩
abbrev S2048x2048 : Shape := ⟨2, ![2048, 2048]⟩
abbrev S16x2048x2048 : Shape := ⟨3, ![16, 2048, 2048]⟩
abbrev S32768x1024 : Shape := ⟨2, ![32768, 1024]⟩
abbrev S32768x5120 : Shape := ⟨2, ![32768, 5120]⟩
abbrev S32768x2048 : Shape := ⟨2, ![32768, 2048]⟩
abbrev S1x1024 : Shape := ⟨2, ![1, 1024]⟩
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 18
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x5120, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S2048x2048, .f32⟩
  | .hbm, ⟨7, _⟩ => ⟨S16x2048x2048, .f32⟩
  | .hbm, ⟨8, _⟩ => ⟨S32768x1024, .f32⟩
  | .hbm, ⟨9, _⟩ => ⟨S32768x1024, .bf16⟩
  | .hbm, ⟨10, _⟩ => ⟨S32768x1024, .f32⟩
  | .hbm, ⟨11, _⟩ => ⟨S32768x5120, .f32⟩
  | .hbm, ⟨12, _⟩ => ⟨S1024x1024, .bf16⟩
  | .hbm, ⟨13, _⟩ => ⟨S2048x2048, .bf16⟩
  | .hbm, ⟨14, _⟩ => ⟨S32768x2048, .f32⟩
  | .hbm, ⟨15, _⟩ => ⟨S1x1024, .f32⟩
  | .hbm, ⟨16, _⟩ => ⟨S1x1024, .f32⟩
  | .hbm, ⟨17, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S1024x2048, .bf16⟩
  | .local _ .vmem, ⟨10, _⟩ => ⟨S1024x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S16x2048x1024 : Shape := ⟨3, ![16, 2048, 1024]⟩
abbrev S16x2048x5120 : Shape := ⟨3, ![16, 2048, 5120]⟩
abbrev S1024 : Shape := ⟨1, ![1024]⟩
abbrev S1024x1024 : Shape := ⟨2, ![1024, 1024]⟩
abbrev S2048x2048 : Shape := ⟨2, ![2048, 2048]⟩
abbrev S16x2048x2048 : Shape := ⟨3, ![16, 2048, 2048]⟩
abbrev S1x1x1024 : Shape := ⟨3, ![1, 1, 1024]⟩
abbrev S_ : Shape := ⟨0, ![]⟩
abbrev S32768x2048 : Shape := ⟨2, ![32768, 2048]⟩

abbrev nBuf : Space → Nat
  | .hbm => 47
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S16x2048x5120, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S2048x2048, .f32⟩
  | .hbm, ⟨7, _⟩ => ⟨S16x2048x2048, .f32⟩
  | .hbm, ⟨8, _⟩ => ⟨S16x2048x1024, .f32⟩
  | .hbm, ⟨9, _⟩ => ⟨S1x1x1024, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S_, .f32⟩
  | .hbm, ⟨16, _⟩ => ⟨S16x2048x1024, .f32⟩
  | .hbm, ⟨17, _⟩ => ⟨S16x2048x1024, .f32⟩
  | .hbm, ⟨18, _⟩ => ⟨S16x2048x1024, .f32⟩
  | .hbm, ⟨19, _⟩ => ⟨S_, .f32⟩
  | .hbm, ⟨20, _⟩ => ⟨S16x2048x1024, .f32⟩
  | .hbm, ⟨21, _⟩ => ⟨S16x2048x1024, .f32⟩
  | .hbm, ⟨22, _⟩ => ⟨S16x2048x1024, .f32⟩
  | .hbm, ⟨23, _⟩ => ⟨S_, .f32⟩
  | .hbm, ⟨24, _⟩ => ⟨S16x2048x1024, .f32⟩
  | .hbm, ⟨25, _⟩ => ⟨S16x2048x1024, .f32⟩
  | .hbm, ⟨26, _⟩ => ⟨S_, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S16x2048x1024, .f32⟩
  | .hbm, ⟨31, _⟩ => ⟨S1x1x1024, .f32⟩
  | .hbm, ⟨32, _⟩ => ⟨S16x2048x1024, .f32⟩
  | .hbm, ⟨33, _⟩ => ⟨S16x2048x1024, .f32⟩
  | .hbm, ⟨34, _⟩ => ⟨S16x2048x1024, .f32⟩
  | .hbm, ⟨35, _⟩ => ⟨S16x2048x1024, .f32⟩
  | .hbm, ⟨36, _⟩ => ⟨S_, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x2048x1024, .f32⟩
  | .hbm, ⟨41, _⟩ => ⟨S16x2048x1024, .f32⟩
  | .hbm, ⟨42, _⟩ => ⟨S16x2048x1024, .f32⟩
  | .hbm, ⟨43, _⟩ => ⟨S16x2048x2048, .f32⟩
  | .hbm, ⟨44, _⟩ => ⟨S16x2048x2048, .f32⟩
  | .hbm, ⟨45, _⟩ => ⟨S16x2048x2048, .f32⟩
  | .hbm, ⟨46, _⟩ => ⟨S32768x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel5.lean ====
abbrev S16x2048x2048 : Shape := ⟨3, ![16, 2048, 2048]⟩
abbrev S2048x2048 : Shape := ⟨2, ![2048, 2048]⟩
abbrev S32768x2048 : Shape := ⟨2, ![32768, 2048]⟩
abbrev S512x2048 : Shape := ⟨2, ![512, 2048]⟩

abbrev nBuf : Space → Nat
  | .hbm => 8
  | .vmem => 7
  | .smem => 0
  | _ => 0

abbrev bufTy : (tb : Table) → Fin (tcTables nBuf tb) → BufTy
  | .hbm, ⟨0, _⟩ => ⟨S16x2048x2048, .f32⟩
  | .hbm, ⟨1, _⟩ => ⟨S2048x2048, .f32⟩
  | .hbm, ⟨2, _⟩ => ⟨S16x2048x2048, .f32⟩
  | .hbm, ⟨3, _⟩ => ⟨S32768x2048, .f32⟩
  | .hbm, ⟨4, _⟩ => ⟨S32768x2048, .bf16⟩
  | .hbm, ⟨5, _⟩ => ⟨S2048x2048, .bf16⟩
  | .hbm, ⟨6, _⟩ => ⟨S32768x2048, .f32⟩
  | .hbm, ⟨7, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16x2048x2048 : Shape := ⟨3, ![16, 2048, 2048]⟩
abbrev S2048x2048 : Shape := ⟨2, ![2048, 2048]⟩
abbrev S32768x2048 : Shape := ⟨2, ![32768, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048x2048, .f32⟩
  | .hbm, ⟨2, _⟩ => ⟨S16x2048x2048, .f32⟩
  | .hbm, ⟨3, _⟩ => ⟨S16x2048x2048, .f32⟩
  | .hbm, ⟨4, _⟩ => ⟨S16x2048x2048, .f32⟩
  | .hbm, ⟨5, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.FfnBody.lean ====
/- The feed-forward kernel's payloads, read at one index over the extended reals. -/
module

public import proofs.«01_k».proof.Proof.Gen.Kernel2Ideal.Frame
public import Idealize.ShloMosaic.Lib.Pipeline.ValueKit
public import Idealize.ShloMosaic.Lib.Pointwise

@[expose] public section

set_option maxRecDepth 16384

noncomputable section

namespace Cert.Ffn

open Idealize.ShloMosaic Idealize.ShloMosaic.TcCoe Idealize.SL.Sem
open Cert.Kernel2Ideal Cert.Kernel2Ideal.Gen

/-- One row, scaled by the inverse root of its mean square and by the weights `g`. -/
def rms (x g : Fin 2048 → EReal) (k : Fin 2048) : EReal :=
  x k * Ideal.rsqrt (Ideal.div (∑ l, x l * x l) (Ideal.ofBits .f32 0x45000000#32) + Ideal.ofBits .f32 0x358637BD#32) * g k

/-- One gated activation: the row `x` against a column of the gate weights and a column of the up weights. -/
def act (x wg wu : Fin 2048 → EReal) : EReal :=
  (∑ k, x k * wg k) * Ideal.logistic (∑ k, x k * wg k) * ∑ k, x k * wu k

/-- A row after the layer: the residual row `x`, half of what the layer adds (`s`), normalised by the weights `g`. -/
def out (x s g : Fin 2048 → EReal) (q : Fin 2048) : EReal :=
  rms (fun l => x l + Ideal.ofBits .f32 0x3F000000#32 * s l) g q

/-- The part of the layer's sum that `n` columns of the weights give. -/
def part (n : ℕ) (x : Fin 2048 → EReal) (wg wu : Fin 2048 → Fin n → EReal) (wd : Fin n → Fin 2048 → EReal) (q : Fin 2048) : EReal :=
  ∑ f : Fin n, act x (fun k => wg k f) (fun k => wu k f) * wd f q

theorem pay3_at (x : Vec Ideal S512x2048 .f32) (g : Vec Ideal S1x2048 .f32) (i : Fin 512) (k : Fin 2048) :
    k0_pay3 (F := Ideal) x g (ix2 i k) = rms (fun l => x (ix2 i l)) (fun l => g (ix2 0 l)) k := by
  pointwise [k0_pay3]
  rfl

theorem pay4_at (x : Vec Ideal S512x2048 .bf16) (wg wu : Vec Ideal S1x2048x1024 .bf16) (wd : Vec Ideal S1x1024x2048 .bf16)
    (i : Fin 512) (q : Fin 2048) :
    k0_pay4 (F := Ideal) x wg wu wd (ix2 i q) =
      part 1024 (fun k => x (ix2 i k)) (fun k f => wg (ix3 0 k f)) (fun k f => wu (ix3 0 k f)) (fun f l => wd (ix3 0 f l)) q := by
  pointwise [k0_pay4]
  rfl

theorem pay2_at (acc : Vec Ideal S512x2048 .f32) (x : Vec Ideal S512x2048 .bf16) (wg wu : Vec Ideal S1x2048x1024 .bf16)
    (wd : Vec Ideal S1x1024x2048 .bf16) (i : Fin 512) (q : Fin 2048) :
    k0_pay2 (F := Ideal) acc x wg wu wd (ix2 i q) = acc (ix2 i q) +
      part 1024 (fun k => x (ix2 i k)) (fun k f => wg (ix3 0 k f)) (fun k f => wu (ix3 0 k f)) (fun f l => wd (ix3 0 f l)) q := by
  pointwise [k0_pay2]
  rfl

theorem pay1_at (acc : Vec Ideal S512x2048 .f32) (x : Vec Ideal S512x2048 .bf16) (wg wu : Vec Ideal S1x2048x384 .bf16)
    (wd : Vec Ideal S1x384x2048 .bf16) (i : Fin 512) (q : Fin 2048) :
    k0_pay1 (F := Ideal) acc x wg wu wd (ix2 i q) = acc (ix2 i q) +
      part 384 (fun k => x (ix2 i k)) (fun k f => wg (ix3 0 k f)) (fun k f => wu (ix3 0 k f)) (fun f l => wd (ix3 0 f l)) q := by
  pointwise [k0_pay1]
  rfl

theorem pay5_at (x acc : Vec Ideal S512x2048 .f32) (xn : Vec Ideal S512x2048 .bf16) (wg wu : Vec Ideal S1x2048x1024 .bf16)
    (wd : Vec Ideal S1x1024x2048 .bf16) (g : Vec Ideal S1x2048 .f32) (i : Fin 512) (q : Fin 2048) :
    k0_pay5 (F := Ideal) x acc xn wg wu wd g (ix2 i q) = out (fun l => x (ix2 i l)) (fun l => acc (ix2 i l) +
      part 1024 (fun k => xn (ix2 i k)) (fun k f => wg (ix3 0 k f)) (fun k f => wu (ix3 0 k f)) (fun f l => wd (ix3 0 f l)) l)
      (fun l => g (ix2 0 l)) q := by
  pointwise [k0_pay5]
  rfl

end Cert.Ffn
-- ==== Proof.FfnBlocks.lean ====
/- The feed-forward kernel's windows: what each grid point reads of the argument arrays. -/
module

public import proofs.«01_k».proof.Proof.FfnBody
public import Idealize.ShloMosaic.Lib.Claim
public import Idealize.ShloMosaic.Lib.StableHlo.ReadAt

@[expose] public section

set_option maxRecDepth 16384

noncomputable section

namespace Cert.Ffn

open Idealize.ShloMosaic Idealize.ShloMosaic.TcCoe Idealize.SL.Sem
open Cert.Kernel2Ideal Cert.Kernel2Ideal.Gen

/-- The weight tile that step `j` of a row block streams: step 1 works on the narrow last tile and keeps tile 1, which
    step 2 then uses. -/
abbrev streamed (j : ℕ) : ℕ := if j ≤ 1 then j else j - 1

theorem idx0 : ∀ t : Fin cfg0.N, win0_0.index t = ![t.val / 6, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![streamed (t.val % 6), 0, 0] := (by decide +kernel : ∀ t : Fin grid0.N, _)
theorem idx3 : ∀ t : Fin cfg0.N, win0_3.index t = ![streamed (t.val % 6), 0, 0] := (by decide +kernel : ∀ t : Fin grid0.N, _)
theorem idx4 : ∀ t : Fin cfg0.N, win0_4.index t = ![streamed (t.val % 6), 0, 0] := (by decide +kernel : ∀ t : Fin grid0.N, _)
theorem idx5 : ∀ t : Fin cfg0.N, win0_5.index t = ![5, 0, 0] := (by decide +kernel : ∀ t : Fin grid0.N, _)
theorem idx6 : ∀ t : Fin cfg0.N, win0_6.index t = ![5, 0, 0] := (by decide +kernel : ∀ t : Fin grid0.N, _)
theorem idx7 : ∀ t : Fin cfg0.N, win0_7.index t = ![5, 0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![t.val / 6, 0] := (by decide +kernel : ∀ t : Fin grid0.N, _)

theorem point_lt (t : Fin cfg0.N) : t.val < 384 := lt_of_lt_of_eq t.isLt N_0

variable (m : (ℓ : Loc nD τ sig) → Buf (Elt Ideal) ℓ)

abbrev H (c : Dev nD) : FVec Ideal S16x2048x2048 .f32 := m ((c : Thread nD τ).loc main_arg0)
abbrev G1 (c : Dev nD) : FVec Ideal S2x2x2048 .f32 := m ((c : Thread nD τ).loc main_arg1)
abbrev WG (c : Dev nD) : FVec Ideal S2x2x2048x5504 .f32 := m ((c : Thread nD τ).loc main_arg2)
abbrev WU (c : Dev nD) : FVec Ideal S2x2x2048x5504 .f32 := m ((c : Thread nD τ).loc main_arg3)
abbrev WD (c : Dev nD) : FVec Ideal S2x2x5504x2048 .f32 := m ((c : Thread nD τ).loc main_arg4)
abbrev G2 (c : Dev nD) : FVec Ideal S2048 .f32 := m ((c : Thread nD τ).loc main_arg5)

/-! ## The arrays that the host lines before the call prepare -/

theorem v5_at (c : Dev nD) (s : Fin 6) (k : Fin 2048) (f : Fin 1024) (l : Fin 5504) (hl : l.val = s.val * 1024 + f.val) :
    (show FVec Ideal S6x2048x1024 .bf16 from V m c main_v5) (ix3 s k f) = WG m c (ix4 1 1 k l) := by
  unfold V
  simp only [List.flatten_cons, List.flatten_nil, List.cons_append, List.nil_append, List.append_nil]
  after_reads_at
  rw [dif_pos (by omega)]
  exact congrArg (fun z => WG m c (ix4 1 1 k z)) (Fin.ext hl.symm)

theorem v11_at (c : Dev nD) (s : Fin 6) (k : Fin 2048) (f : Fin 1024) (l : Fin 5504) (hl : l.val = s.val * 1024 + f.val) :
    (show FVec Ideal S6x2048x1024 .bf16 from V m c main_v11) (ix3 s k f) = WU m c (ix4 1 1 k l) := by
  unfold V
  simp only [List.flatten_cons, List.flatten_nil, List.cons_append, List.nil_append, List.append_nil]
  after_reads_at
  rw [dif_pos (by omega)]
  exact congrArg (fun z => WU m c (ix4 1 1 k z)) (Fin.ext hl.symm)

theorem v16_at (c : Dev nD) (s : Fin 6) (f : Fin 1024) (q : Fin 2048) (l : Fin 5504) (hl : l.val = s.val * 1024 + f.val) :
    (show FVec Ideal S6x1024x2048 .bf16 from V m c main_v16) (ix3 s f q) = WD m c (ix4 1 1 l q) := by
  unfold V
  simp only [List.flatten_cons, List.flatten_nil, List.cons_append, List.nil_append, List.append_nil]
  after_reads_at
  rw [dif_pos (by omega)]
  exact congrArg (fun z => WD m c (ix4 1 1 z q)) (Fin.ext hl.symm)

theorem v17_at (c : Dev nD) (r : Fin 32768) (k : Fin 2048) :
    (show FVec Ideal S32768x2048 .f32 from V m c main_v17) (ix2 r k) = H m c (ix3 ⟨r / 2048, by omega⟩ ⟨r % 2048, by omega⟩ k) := by
  unfold V
  simp only [List.flatten_cons, List.flatten_nil, List.cons_append, List.nil_append, List.append_nil]
  after_reads_at

theorem v20_at (c : Dev nD) (k : Fin 2048) :
    (show FVec Ideal S1x2048 .f32 from V m c main_v20) (ix2 0 k) = G1 m c (ix3 1 1 k) := by
  unfold V
  simp only [List.flatten_cons, List.flatten_nil, List.cons_append, List.nil_append, List.append_nil]
  after_reads_at

theorem v21_at (c : Dev nD) (k : Fin 2048) :
    (show FVec Ideal S1x2048 .f32 from V m c main_v21) (ix2 0 k) = G2 m c (ix1 k) := by
  unfold V
  simp only [List.flatten_cons, List.flatten_nil, List.cons_append, List.nil_append, List.append_nil]
  after_reads_at

/-! ## The blocks -/

theorem hid_at (c : Dev nD) (t : Fin cfg0.N) (i : Fin 512) (k : Fin 2048) (r : Fin 32768) (hr : r.val = t.val / 6 * 512 + i.val) :
    (show FVec Ideal S512x2048 .f32 from iblk m c 0 t) (ix2 i k) = H m c (ix3 ⟨r / 2048, by omega⟩ ⟨r % 2048, by omega⟩ k) := by
  refine Eq.trans (?_ : _ = (show FVec Ideal S32768x2048 .f32 from V m c main_v17) (ix2 r k)) (v17_at m c r k)
  blk_ext [iblk, idx0 t]

theorem scale_at (c : Dev nD) (t : Fin cfg0.N) (k : Fin 2048) :
    (show FVec Ideal S1x2048 .f32 from iblk m c 1 t) (ix2 0 k) = G1 m c (ix3 1 1 k) := by
  refine Eq.trans (?_ : _ = (show FVec Ideal S1x2048 .f32 from V m c main_v20) (ix2 0 k)) (v20_at m c k)
  blk_ext [iblk, idx1 t]

theorem last_at (c : Dev nD) (t : Fin cfg0.N) (k : Fin 2048) :
    (show FVec Ideal S1x2048 .f32 from iblk m c 8 t) (ix2 0 k) = G2 m c (ix1 k) := by
  refine Eq.trans (?_ : _ = (show FVec Ideal S1x2048 .f32 from V m c main_v21) (ix2 0 k)) (v21_at m c k)
  blk_ext [iblk, idx8 t]

theorem gate_at (c : Dev nD) (t : Fin cfg0.N) (k : Fin 2048) (f : Fin 1024) (l : Fin 5504) (hl : l.val = streamed (t.val % 6) * 1024 + f.val) :
    (show FVec Ideal S1x2048x1024 .bf16 from iblk m c 2 t) (ix3 0 k f) = WG m c (ix4 1 1 k l) := by
  refine Eq.trans (?_ : _ = (show FVec Ideal S6x2048x1024 .bf16 from V m c main_v5) (ix3 ⟨streamed (t.val % 6), by omega⟩ k f)) (v5_at m c _ k f l hl)
  blk_ext [iblk, idx2 t]

theorem gateLast_at (c : Dev nD) (t : Fin cfg0.N) (k : Fin 2048) (f : Fin 384) (l : Fin 5504) (hl : l.val = 5 * 1024 + f.val) :
    (show FVec Ideal S1x2048x384 .bf16 from X0_5 m c t) (ix3 0 k f) = WG m c (ix4 1 1 k l) := by
  refine Eq.trans (?_ : _ = (show FVec Ideal S6x2048x1024 .bf16 from V m c main_v5) (ix3 5 k ⟨f.val, by omega⟩)) (v5_at m c 5 k _ l hl)
  unfold X0_5 Pipeline.Window.fill
  dsimp only
  rw [dif_pos (moved0_5 t _)]
  blk_ext [iblk, idx5 t]

theorem up_at (c : Dev nD) (t : Fin cfg0.N) (k : Fin 2048) (f : Fin 1024) (l : Fin 5504) (hl : l.val = streamed (t.val % 6) * 1024 + f.val) :
    (show FVec Ideal S1x2048x1024 .bf16 from iblk m c 3 t) (ix3 0 k f) = WU m c (ix4 1 1 k l) := by
  refine Eq.trans (?_ : _ = (show FVec Ideal S6x2048x1024 .bf16 from V m c main_v11) (ix3 ⟨streamed (t.val % 6), by omega⟩ k f)) (v11_at m c _ k f l hl)
  blk_ext [iblk, idx3 t]

theorem upLast_at (c : Dev nD) (t : Fin cfg0.N) (k : Fin 2048) (f : Fin 384) (l : Fin 5504) (hl : l.val = 5 * 1024 + f.val) :
    (show FVec Ideal S1x2048x384 .bf16 from X0_6 m c t) (ix3 0 k f) = WU m c (ix4 1 1 k l) := by
  refine Eq.trans (?_ : _ = (show FVec Ideal S6x2048x1024 .bf16 from V m c main_v11) (ix3 5 k ⟨f.val, by omega⟩)) (v11_at m c 5 k _ l hl)
  unfold X0_6 Pipeline.Window.fill
  dsimp only
  rw [dif_pos (moved0_6 t _)]
  blk_ext [iblk, idx6 t]

theorem down_at (c : Dev nD) (t : Fin cfg0.N) (f : Fin 1024) (q : Fin 2048) (l : Fin 5504) (hl : l.val = streamed (t.val % 6) * 1024 + f.val) :
    (show FVec Ideal S1x1024x2048 .bf16 from iblk m c 4 t) (ix3 0 f q) = WD m c (ix4 1 1 l q) := by
  refine Eq.trans (?_ : _ = (show FVec Ideal S6x1024x2048 .bf16 from V m c main_v16) (ix3 ⟨streamed (t.val % 6), by omega⟩ f q)) (v16_at m c _ f q l hl)
  blk_ext [iblk, idx4 t]

theorem downLast_at (c : Dev nD) (t : Fin cfg0.N) (f : Fin 384) (q : Fin 2048) (l : Fin 5504) (hl : l.val = 5 * 1024 + f.val) :
    (show FVec Ideal S1x384x2048 .bf16 from X0_7 m c t) (ix3 0 f q) = WD m c (ix4 1 1 l q) := by
  refine Eq.trans (?_ : _ = (show FVec Ideal S6x1024x2048 .bf16 from V m c main_v16) (ix3 5 ⟨f.val, by omega⟩ q)) (v16_at m c 5 _ q l hl)
  unfold X0_7 Pipeline.Window.fill
  dsimp only
  rw [dif_pos (moved0_7 t _)]
  blk_ext [iblk, idx7 t]

end Cert.Ffn
-- ==== Proof.FfnRef.lean ====
/- The feed-forward reference, read at one index over the extended reals. -/
module

public import proofs.«01_k».proof.Proof.FfnBody
public import proofs.«01_k».proof.Proof.Gen.Reference2Ideal.Run
public import proofs.«01_k».proof.Proof.Gen.Reference2Ideal.Read

@[expose] public section

set_option maxRecDepth 16384

noncomputable section

namespace Cert.Ffn

open Idealize.ShloMosaic Idealize.ShloMosaic.TcCoe Idealize.SL.Sem
open Cert.Reference2Ideal Cert.Reference2Ideal.Gen Cert.Reference2Ideal

theorem norm_at (x0 : FVec Ideal S16x2048x2048 .f32) (x1 : FVec Ideal S2x2x2048 .f32) (b : Fin 16) (s k : Fin 2048) :
    Read.val_main_v14 (F := Ideal) x0 x1 (ix3 b s k) = rms (fun l => x0 (ix3 b s l)) (fun l => x1 (ix3 1 1 l)) k := by
  pointwise [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_v13, Read.val_main_v14, Read.val_main_cst, Read.val_main_cst_0, Read.val_main_cst_1]
  rfl

theorem act_at (x0 : FVec Ideal S16x2048x2048 .f32) (x1 : FVec Ideal S2x2x2048 .f32) (x2 x3 : FVec Ideal S2x2x2048x5504 .f32) (b : Fin 16) (s : Fin 2048) (f : Fin 5504) :
    Read.val_main_v24 (F := Ideal) x0 x1 x2 x3 (ix3 b s f) = act (rms (fun l => x0 (ix3 b s l)) (fun l => x1 (ix3 1 1 l)))
      (fun k => x2 (ix4 1 1 k f)) (fun k => x3 (ix4 1 1 k f)) := by
  pointwise [Read.val_main_v24, Read.val_main_v23, Read.val_main_v22, Read.val_main_v21, Read.val_main_v15, Read.val_main_v16, Read.val_main_v17, Read.val_main_v18, norm_at,
     Read.val_main_call0_v0, Read.val_main_call0_v1, Read.val_main_call0_v2, Read.val_main_call0_v3, Read.val_main_call0_v4, Read.val_main_call0_v5, Read.val_main_call0_cst, Read.val_main_call0_cst_0]
  rfl

theorem res_at (x0 : FVec Ideal S16x2048x2048 .f32) (x1 : FVec Ideal S2x2x2048 .f32) (x2 x3 : FVec Ideal S2x2x2048x5504 .f32) (x4 : FVec Ideal S2x2x5504x2048 .f32) (b : Fin 16) (s q : Fin 2048) :
    Read.val_main_v28 (F := Ideal) x0 x1 x2 x3 x4 (ix3 b s q) = x0 (ix3 b s q) + Ideal.ofBits .f32 0x3F000000#32 *
      part 5504 (rms (fun l => x0 (ix3 b s l)) (fun l => x1 (ix3 1 1 l)))
        (fun k f => x2 (ix4 1 1 k f)) (fun k f => x3 (ix4 1 1 k f)) (fun f l => x4 (ix4 1 1 f l)) q := by
  pointwise [Read.val_main_v28, Read.val_main_v27, Read.val_main_v26, Read.val_main_v25, Read.val_main_v19, Read.val_main_v20, Read.val_main_cst_2, act_at]
  rfl

theorem ref_at (x0 : FVec Ideal S16x2048x2048 .f32) (x1 : FVec Ideal S2x2x2048 .f32) (x2 x3 : FVec Ideal S2x2x2048x5504 .f32) (x4 : FVec Ideal S2x2x5504x2048 .f32) (x5 : FVec Ideal S2048 .f32) (r : Fin 32768) (q : Fin 2048) :
    Read.val_main_v42 (F := Ideal) x0 x1 x2 x3 x4 x5 (ix2 r q) =
      out (fun l => x0 (ix3 ⟨r / 2048, by omega⟩ ⟨r % 2048, by omega⟩ l))
        (part 5504 (rms (fun l => x0 (ix3 ⟨r / 2048, by omega⟩ ⟨r % 2048, by omega⟩ l)) (fun l => x1 (ix3 1 1 l)))
          (fun k f => x2 (ix4 1 1 k f)) (fun k f => x3 (ix4 1 1 k f)) (fun f l => x4 (ix4 1 1 f l))) (fun l => x5 (ix1 l)) q := by
  pointwise [Read.val_main_v29, Read.val_main_v30, Read.val_main_v31, Read.val_main_v32, Read.val_main_v33, Read.val_main_v34, Read.val_main_v35, Read.val_main_v36, Read.val_main_v37, Read.val_main_v38, Read.val_main_v39, Read.val_main_v40, Read.val_main_v41, Read.val_main_v42, Read.val_main_cst_3, Read.val_main_cst_4, Read.val_main_cst_5, res_at]
  rfl

end Cert.Ffn
-- ==== Proof.FfnValue.lean ====
/- The feed-forward kernel's result: what a row block's six steps leave, and that it is the reference's. -/
module

public import proofs.«01_k».proof.Proof.FfnBlocks
public import proofs.«01_k».proof.Proof.FfnRef
public import proofs.«01_k».proof.Proof.Gen.Kernel2Ideal.Value
public import Idealize.ShloMosaic.Lib.Pipeline.ReadBack

@[expose] public section

set_option maxRecDepth 16384

noncomputable section

namespace Cert.Ffn

open Idealize.ShloMosaic Idealize.ShloMosaic.TcCoe Idealize.SL.Sem
open Cert.Kernel2Ideal Cert.Kernel2Ideal.Gen

variable (m : (ℓ : Loc nD τ sig) → Buf (Elt Ideal) ℓ)

/-- Row `r` of the residual. -/
def row (c : Dev nD) (r : Fin 32768) (l : Fin 2048) : EReal := H m c (ix3 ⟨r / 2048, by omega⟩ ⟨r % 2048, by omega⟩ l)

/-- Row `r` normalised. -/
def nrow (c : Dev nD) (r : Fin 32768) : Fin 2048 → EReal := rms (row m c r) fun l => G1 m c (ix3 1 1 l)

/-- What hidden column `f` adds to output column `q` of row `r`, zero past the last column. -/
def col (c : Dev nD) (r : Fin 32768) (q : Fin 2048) (f : ℕ) : EReal :=
  if h : f < 5504 then
    act (nrow m c r) (fun k => WG m c (ix4 1 1 k ⟨f, h⟩)) (fun k => WU m c (ix4 1 1 k ⟨f, h⟩)) * WD m c (ix4 1 1 ⟨f, h⟩ q)
  else 0

/-- The sum of `n` hidden columns from column `a` on. -/
def cols (c : Dev nD) (r : Fin 32768) (a n : ℕ) (q : Fin 2048) : EReal := ∑ f ∈ Finset.range n, col m c r q (a + f)

theorem part_eq (c : Dev nD) (r : Fin 32768) (a n : ℕ) (han : a + n ≤ 5504) (x : Fin 2048 → EReal)
    (wg wu : Fin 2048 → Fin n → EReal) (wd : Fin n → Fin 2048 → EReal) (hx : x = nrow m c r)
    (hg : ∀ k f, wg k f = WG m c (ix4 1 1 k ⟨a + f.val, by omega⟩)) (hu : ∀ k f, wu k f = WU m c (ix4 1 1 k ⟨a + f.val, by omega⟩))
    (hd : ∀ f q, wd f q = WD m c (ix4 1 1 ⟨a + f.val, by omega⟩ q)) (q : Fin 2048) :
    part n x wg wu wd q = cols m c r a n q := by
  unfold part cols
  rw [Finset.sum_range]
  refine Finset.sum_congr rfl fun f _ => ?_
  unfold col
  rw [dif_pos (show a + f.val < 5504 by omega), hd, hx]
  simp only [hg, hu]

theorem cols_all (c : Dev nD) (r : Fin 32768) (q : Fin 2048) :
    cols m c r 0 1024 q + cols m c r 5120 384 q + cols m c r 1024 1024 q + cols m c r 2048 1024 q + cols m c r 3072 1024 q
      + cols m c r 4096 1024 q = cols m c r 0 5504 q := by
  have split : ∀ n k, cols m c r 0 (n + k) q = cols m c r 0 n q + cols m c r n k q := fun n k => by
    unfold cols
    rw [Finset.sum_range_add]
    simp only [Nat.zero_add]
  rw [show (5504 : ℕ) = 1024 + 1024 + 1024 + 1024 + 1024 + 384 from rfl]
  simp only [split]
  abel

/-- The reference's row is the whole sum. -/
theorem ref_row (c : Dev nD) (r : Fin 32768) (q : Fin 2048) :
    Cert.Reference2Ideal.Read.val_main_v42 (F := Ideal) (H m c) (G1 m c) (WG m c) (WU m c) (WD m c) (G2 m c) (ix2 r q) =
      out (row m c r) (cols m c r 0 5504) (fun l => G2 m c (ix1 l)) q := by
  refine (ref_at (H m c) (G1 m c) (WG m c) (WU m c) (WD m c) (G2 m c) r q).trans ?_
  refine congrArg (fun s => out (row m c r) s (fun l => G2 m c (ix1 l)) q) ?_
  funext l
  refine part_eq m c r 0 5504 (by omega) _ _ _ _ rfl (fun k f => ?_) (fun k f => ?_) (fun f q => ?_) l <;>
    simp only [Nat.zero_add]

/-! ## The steps of a row block -/

theorem scr_A (c : Dev nD) (t : Fin cfg0.N) (h : t.val % 6 = 0) :
    (outsAt0 m c t.val t.isLt).2 = k0_pay3 (iblk m c 0 t) (iblk m c 1 t) := by
  rw [outsAt0_A m c t (by omega) (by omega) (by omega) (by omega)]
  frame_out

theorem scr_B (c : Dev nD) (t : Fin cfg0.N) (h : t.val % 6 = 1) :
    (outsAt0 m c t.val t.isLt).2 = (outsAt0 m c (t.val - 1) (Nat.lt_of_le_of_lt (Nat.sub_le _ _) t.isLt)).2 := by
  rw [outsAt0_B m c t (by omega) (by omega) (by omega) (by omega)]
  dsimp only
  unfold sout0_B_0
  rfl

theorem scr_C (c : Dev nD) (t : Fin cfg0.N) (h : 2 ≤ t.val % 6 ∧ t.val % 6 ≤ 4) :
    (outsAt0 m c t.val t.isLt).2 = (outsAt0 m c (t.val - 1) (Nat.lt_of_le_of_lt (Nat.sub_le _ _) t.isLt)).2 := by
  rw [outsAt0_C m c t (by omega) (by omega) (by omega) (by omega)]
  dsimp only
  unfold sout0_C_0
  rfl

theorem scr_D (c : Dev nD) (t : Fin cfg0.N) (h : t.val % 6 = 5) :
    (outsAt0 m c t.val t.isLt).2 = (outsAt0 m c (t.val - 1) (Nat.lt_of_le_of_lt (Nat.sub_le _ _) t.isLt)).2 := by
  rw [outsAt0_D m c t (by omega) (by omega) (by omega) (by omega)]
  dsimp only
  unfold sout0_D_0
  rfl

theorem acc_A (c : Dev nD) (t : Fin cfg0.N) (h : t.val % 6 = 0) :
    (outsAt0 m c t.val t.isLt).1 = k0_pay4 (k0_pay3 (iblk m c 0 t) (iblk m c 1 t)) (iblk m c 2 t) (iblk m c 3 t) (iblk m c 4 t) := by
  rw [outsAt0_A m c t (by omega) (by omega) (by omega) (by omega)]
  frame_out

theorem acc_B (c : Dev nD) (t : Fin cfg0.N) (h : t.val % 6 = 1) :
    (outsAt0 m c t.val t.isLt).1 = k0_pay1 (outsAt0 m c (t.val - 1) (Nat.lt_of_le_of_lt (Nat.sub_le _ _) t.isLt)).1 (outsAt0 m c (t.val - 1) (Nat.lt_of_le_of_lt (Nat.sub_le _ _) t.isLt)).2 (X0_5 m c t) (X0_6 m c t) (X0_7 m c t) := by
  rw [outsAt0_B m c t (by omega) (by omega) (by omega) (by omega)]
  frame_out
  rw [read_unread_whole]

theorem acc_C (c : Dev nD) (t : Fin cfg0.N) (h : 2 ≤ t.val % 6 ∧ t.val % 6 ≤ 4) :
    (outsAt0 m c t.val t.isLt).1 = k0_pay2 (outsAt0 m c (t.val - 1) (Nat.lt_of_le_of_lt (Nat.sub_le _ _) t.isLt)).1 (outsAt0 m c (t.val - 1) (Nat.lt_of_le_of_lt (Nat.sub_le _ _) t.isLt)).2 (iblk m c 2 t) (iblk m c 3 t) (iblk m c 4 t) := by
  rw [outsAt0_C m c t (by omega) (by omega) (by omega) (by omega)]
  frame_out
  rw [read_unread_whole]

theorem acc_D (c : Dev nD) (t : Fin cfg0.N) (h : t.val % 6 = 5) :
    (outsAt0 m c t.val t.isLt).1 = k0_pay5 (iblk m c 0 t) (outsAt0 m c (t.val - 1) (Nat.lt_of_le_of_lt (Nat.sub_le _ _) t.isLt)).1 (outsAt0 m c (t.val - 1) (Nat.lt_of_le_of_lt (Nat.sub_le _ _) t.isLt)).2 (iblk m c 2 t) (iblk m c 3 t) (iblk m c 4 t) (iblk m c 8 t) := by
  rw [outsAt0_D m c t (by omega) (by omega) (by omega) (by omega)]
  frame_out
  rw [read_unread_whole]

/-- The scratch holds the block's normalised rows at every step. -/
theorem scr_at (c : Dev nD) (i : Fin 512) (k : Fin 2048) (r : Fin 32768) (n : ℕ) : ∀ (hn : n < cfg0.N), r.val = n / 6 * 512 + i.val →
    (show FVec Ideal S512x2048 .bf16 from (outsAt0 m c n hn).2) (ix2 i k) = nrow m c r k := by
  induction n using Nat.strong_induction_on with
  | _ n ih =>
    intro hn hr
    have back : ¬ n % 6 = 0 → (outsAt0 m c n hn).2 = (outsAt0 m c (n - 1) (Nat.lt_of_le_of_lt (Nat.sub_le _ _) hn)).2 := fun h => by
      by_cases h1 : n % 6 = 1
      · exact scr_B m c ⟨n, hn⟩ h1
      by_cases h5 : n % 6 = 5
      · exact scr_D m c ⟨n, hn⟩ h5
      · exact scr_C m c ⟨n, hn⟩ (by dsimp only; omega)
    by_cases h0 : n % 6 = 0
    · refine (congrFun (scr_A m c ⟨n, hn⟩ h0) (ix2 i k)).trans ((pay3_at _ _ i k).trans ?_)
      unfold nrow
      congr 1
      · funext l
        exact hid_at m c ⟨n, hn⟩ i l r hr
      · funext l
        exact scale_at m c ⟨n, hn⟩ l
    · refine (congrFun (back h0) (ix2 i k)).trans (ih (n - 1) (by omega) _ ?_)
      omega

/-- What a full tile's product adds, at a point where the scratch holds the normalised rows. -/
theorem tile_at (c : Dev nD) (t : Fin cfg0.N) (x : Vec Ideal S512x2048 .bf16) (i : Fin 512) (q : Fin 2048) (r : Fin 32768)
    (hx : ∀ k, x (ix2 i k) = nrow m c r k) (a : ℕ) (ha : a = streamed (t.val % 6) * 1024) :
    part 1024 (fun k => x (ix2 i k)) (fun k f => (show FVec Ideal S1x2048x1024 .bf16 from iblk m c 2 t) (ix3 0 k f))
      (fun k f => (show FVec Ideal S1x2048x1024 .bf16 from iblk m c 3 t) (ix3 0 k f))
      (fun f l => (show FVec Ideal S1x1024x2048 .bf16 from iblk m c 4 t) (ix3 0 f l)) q = cols m c r a 1024 q :=
  have ht : streamed (t.val % 6) ≤ 4 := by unfold streamed; split <;> omega
  part_eq m c r a 1024 (by omega) _ _ _ _ (funext hx) (fun k f => gate_at m c t k f _ (by dsimp only; omega))
    (fun k f => up_at m c t k f _ (by dsimp only; omega)) (fun f l => down_at m c t f l _ (by dsimp only; omega)) q

/-- What the narrow last tile's product adds. -/
theorem last_tile_at (c : Dev nD) (t : Fin cfg0.N) (x : Vec Ideal S512x2048 .bf16) (i : Fin 512) (q : Fin 2048) (r : Fin 32768)
    (hx : ∀ k, x (ix2 i k) = nrow m c r k) :
    part 384 (fun k => x (ix2 i k)) (fun k f => (show FVec Ideal S1x2048x384 .bf16 from X0_5 m c t) (ix3 0 k f))
      (fun k f => (show FVec Ideal S1x2048x384 .bf16 from X0_6 m c t) (ix3 0 k f))
      (fun f l => (show FVec Ideal S1x384x2048 .bf16 from X0_7 m c t) (ix3 0 f l)) q = cols m c r 5120 384 q :=
  part_eq m c r 5120 384 (by omega) _ _ _ _ (funext hx) (fun k f => gateLast_at m c t k f _ (by dsimp only))
    (fun k f => upLast_at m c t k f _ (by dsimp only)) (fun f l => downLast_at m c t f l _ (by dsimp only)) q

theorem acc0_at (c : Dev nD) (i : Fin 512) (q : Fin 2048) (r : Fin 32768) (n : ℕ) (hn : n < cfg0.N) (h : n % 6 = 0)
    (hr : r.val = n / 6 * 512 + i.val) :
    (show FVec Ideal S512x2048 .f32 from (outsAt0 m c n hn).1) (ix2 i q) = cols m c r 0 1024 q := by
  refine (congrFun (acc_A m c ⟨n, hn⟩ h) (ix2 i q)).trans ((pay4_at _ _ _ _ i q).trans ?_)
  refine tile_at m c ⟨n, hn⟩ _ i q r (fun k => ?_) 0 (by dsimp only; rw [h]; rfl)
  exact (congrFun (scr_A m c ⟨n, hn⟩ h) (ix2 i k)).symm.trans (scr_at m c i k r n hn hr)

theorem acc1_at (c : Dev nD) (i : Fin 512) (q : Fin 2048) (r : Fin 32768) (n : ℕ) (hn : n < cfg0.N) (h : n % 6 = 1)
    (hr : r.val = n / 6 * 512 + i.val) :
    (show FVec Ideal S512x2048 .f32 from (outsAt0 m c n hn).1) (ix2 i q) = cols m c r 0 1024 q + cols m c r 5120 384 q := by
  refine (congrFun (acc_B m c ⟨n, hn⟩ h) (ix2 i q)).trans ((pay1_at _ _ _ _ _ i q).trans ?_)
  exact congrArg₂ (· + ·) (acc0_at m c i q r (n - 1) _ (by omega) (by omega))
    (last_tile_at m c ⟨n, hn⟩ _ i q r fun k => scr_at m c i k r (n - 1) _ (by omega))

/-- A middle step adds its tile to what the step before left. -/
theorem acc_step (c : Dev nD) (i : Fin 512) (q : Fin 2048) (r : Fin 32768) (n : ℕ) (hn : n < cfg0.N) (h : 2 ≤ n % 6 ∧ n % 6 ≤ 4)
    (hr : r.val = n / 6 * 512 + i.val) (a : ℕ) (ha : a = (n % 6 - 1) * 1024) (S : EReal)
    (hS : ∀ h', (show FVec Ideal S512x2048 .f32 from (outsAt0 m c (n - 1) h').1) (ix2 i q) = S) :
    (show FVec Ideal S512x2048 .f32 from (outsAt0 m c n hn).1) (ix2 i q) = S + cols m c r a 1024 q := by
  refine (congrFun (acc_C m c ⟨n, hn⟩ h) (ix2 i q)).trans ((pay2_at _ _ _ _ _ i q).trans ?_)
  exact congrArg₂ (· + ·) (hS _) (tile_at m c ⟨n, hn⟩ _ i q r (fun k => scr_at m c i k r (n - 1) _ (by omega)) a
    (by dsimp only [streamed]; rw [if_neg (by omega)]; exact ha))

theorem acc4_at (c : Dev nD) (i : Fin 512) (q : Fin 2048) (r : Fin 32768) (n : ℕ) (hn : n < cfg0.N) (h : n % 6 = 4)
    (hr : r.val = n / 6 * 512 + i.val) :
    (show FVec Ideal S512x2048 .f32 from (outsAt0 m c n hn).1) (ix2 i q) = cols m c r 0 1024 q + cols m c r 5120 384 q
      + cols m c r 1024 1024 q + cols m c r 2048 1024 q + cols m c r 3072 1024 q :=
  acc_step m c i q r n hn (by omega) hr 3072 (by omega) _ fun h3 =>
    acc_step m c i q r (n - 1) h3 (by omega) (by omega) 2048 (by omega) _ fun h2 =>
      acc_step m c i q r (n - 1 - 1) h2 (by omega) (by omega) 1024 (by omega) _ fun h1 =>
        acc1_at m c i q r (n - 1 - 1 - 1) h1 (by omega) (by omega)

/-- The last step's row is the reference's. -/
theorem out_at (c : Dev nD) (i : Fin 512) (q : Fin 2048) (r : Fin 32768) (n : ℕ) (hn : n < cfg0.N) (h : n % 6 = 5)
    (hr : r.val = n / 6 * 512 + i.val) :
    (show FVec Ideal S512x2048 .f32 from (outsAt0 m c n hn).1) (ix2 i q) =
      out (row m c r) (cols m c r 0 5504) (fun l => G2 m c (ix1 l)) q := by
  refine (congrFun (acc_D m c ⟨n, hn⟩ h) (ix2 i q)).trans ((pay5_at _ _ _ _ _ _ _ i q).trans ?_)
  congr 1
  · funext l
    exact hid_at m c ⟨n, hn⟩ i l r hr
  · funext l
    refine Eq.trans ?_ (cols_all m c r l)
    exact congrArg₂ (· + ·) (acc4_at m c i l r (n - 1) _ (by omega) (by omega))
      (tile_at m c ⟨n, hn⟩ _ i l r (fun k => scr_at m c i k r (n - 1) _ (by omega)) 4096
        (by dsimp only [streamed]; rw [if_neg (by omega), h]))
  · funext l
    exact last_at m c ⟨n, hn⟩ l

/-- The array the kernel leaves is the reference's. -/
theorem final (c : Dev nD) : (dats m 0 c).arrAt 9 cfg0.N =
    (show FVec Ideal S32768x2048 .f32 from
      Cert.Reference2Ideal.Read.val_main_v42 (F := Ideal) (H m c) (G1 m c) (WG m c) (WU m c) (WD m c) (G2 m c)) := by
  refine (dats m 0 c).arrAt_eq_of_covers 9 _ (by decide +kernel) fun t hf y => ?_
  have h5 := (flush0_9 t).mp hf
  have ht := point_lt t
  have h0 : (y 0).val < 512 := (y 0).isLt
  have h1 : (y 1).val < 2048 := (y 1).isLt
  rw [after0_9]
  refine Eq.trans (?_ : _ = (show FVec Ideal S512x2048 .f32 from (outsAt0 m c t.val t.isLt).1) (ix2 ⟨(y 0).val, h0⟩ ⟨(y 1).val, h1⟩))
    ((out_at m c ⟨(y 0).val, h0⟩ ⟨(y 1).val, h1⟩ ⟨t.val / 6 * 512 + (y 0).val, by omega⟩ t.val t.isLt h5 rfl).trans
      ((ref_row m c ⟨t.val / 6 * 512 + (y 0).val, by omega⟩ ⟨(y 1).val, h1⟩).symm.trans ?_))
  · blk_ext [idx9 t]
  · blk_ext [idx9 t]

end Cert.Ffn
-- ==== Proof.FfnClaim.lean ====
/- The feed-forward claim: the kernel's run and the reference's end at the same array. -/
module

public import proofs.«01_k».proof.Proof.FfnValue
public import proofs.«01_k».proof.Defs

@[expose] public section

set_option maxRecDepth 16384

noncomputable section

namespace Cert.Ffn

open Idealize.ShloMosaic Idealize.ShloMosaic.TcCoe Idealize.SL.Sem

theorem claim : Cert.algebraic_Kernel2Ideal_Reference2Ideal := by
  pair_intro
  · run_from Cert.Kernel2Ideal.Value.run m g
  · run_from Cert.Reference2Ideal.Value.run m' g'
    obtain ⟨h0, h1, h2, h3, h4, h5⟩ := hagree c
    refine (Cert.Reference2Ideal.Read.val_main_v42_eq m' c).trans ?_
    rw [h0, h1, h2, h3, h4, h5]
    exact (final m c).symm.trans (Cert.Kernel2Ideal.Value.final9 m c)

theorem frame_reference : Cert.quiescent_Reference2Ideal := by
  intro m g _
  exact (θ_run _ _ _).mono (fun r h => ⟨fun c => (h c).2, sem_eq_zero_of_no_sems (by decide) r.2⟩) (Cert.Reference2Ideal.Value.run m g)

end Cert.Ffn
-- ==== Proof.HalfBody.lean ====
/- The payloads of the feed-forward kernel that leaves the residual, read at one index over the extended reals. -/
module

public import proofs.«01_k».proof.Proof.FfnBody
public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Half

open Cert.Ffn (rms act part)
open Idealize.ShloMosaic Idealize.ShloMosaic.TcCoe Idealize.SL.Sem
open Cert.Kernel3Ideal Cert.Kernel3Ideal.Gen

/-- A row after the layer: the residual row `x` and half of what the layer adds (`s`). -/
def out (x s : Fin 2048 → EReal) (q : Fin 2048) : EReal := x q + Ideal.ofBits .f32 0x3F000000#32 * s q

theorem pay4_at (x : Vec Ideal S512x2048 .f32) (g : Vec Ideal S1x2048 .f32) (i : Fin 512) (k : Fin 2048) :
    k0_pay4 (F := Ideal) x g (ix2 i k) = rms (fun l => x (ix2 i l)) (fun l => g (ix2 0 l)) k := by
  pointwise [k0_pay4]
  rfl

theorem pay5_at (x : Vec Ideal S512x2048 .bf16) (wg wu : Vec Ideal S1x2048x1024 .bf16) (wd : Vec Ideal S1x1024x2048 .bf16)
    (i : Fin 512) (q : Fin 2048) :
    k0_pay5 (F := Ideal) x wg wu wd (ix2 i q) =
      part 1024 (fun k => x (ix2 i k)) (fun k f => wg (ix3 0 k f)) (fun k f => wu (ix3 0 k f)) (fun f l => wd (ix3 0 f l)) q := by
  pointwise [k0_pay5]
  rfl

theorem pay2_at (acc : Vec Ideal S512x2048 .f32) (x : Vec Ideal S512x2048 .bf16) (wg wu : Vec Ideal S1x2048x1024 .bf16)
    (wd : Vec Ideal S1x1024x2048 .bf16) (i : Fin 512) (q : Fin 2048) :
    k0_pay2 (F := Ideal) acc x wg wu wd (ix2 i q) = acc (ix2 i q) +
      part 1024 (fun k => x (ix2 i k)) (fun k f => wg (ix3 0 k f)) (fun k f => wu (ix3 0 k f)) (fun f l => wd (ix3 0 f l)) q := by
  pointwise [k0_pay2]
  rfl

theorem pay1_at (acc : Vec Ideal S512x2048 .f32) (x : Vec Ideal S512x2048 .bf16) (wg wu : Vec Ideal S1x2048x384 .bf16)
    (wd : Vec Ideal S1x384x2048 .bf16) (i : Fin 512) (q : Fin 2048) :
    k0_pay1 (F := Ideal) acc x wg wu wd (ix2 i q) = acc (ix2 i q) +
      part 384 (fun k => x (ix2 i k)) (fun k f => wg (ix3 0 k f)) (fun k f => wu (ix3 0 k f)) (fun f l => wd (ix3 0 f l)) q := by
  pointwise [k0_pay1]
  rfl

theorem pay3_at (x acc : Vec Ideal S512x2048 .f32) (xn : Vec Ideal S512x2048 .bf16) (wg wu : Vec Ideal S1x2048x1024 .bf16)
    (wd : Vec Ideal S1x1024x2048 .bf16) (i : Fin 512) (q : Fin 2048) :
    k0_pay3 (F := Ideal) x acc xn wg wu wd (ix2 i q) = out (fun l => x (ix2 i l)) (fun l => acc (ix2 i l) +
      part 1024 (fun k => xn (ix2 i k)) (fun k f => wg (ix3 0 k f)) (fun k f => wu (ix3 0 k f)) (fun f l => wd (ix3 0 f l)) l) q := by
  pointwise [k0_pay3]
  rfl

end Cert.Half
-- ==== Proof.HalfBlocks.lean ====
/- What each grid point of the feed-forward kernel that leaves the residual reads of the argument arrays. -/
module

public import proofs.«01_k».proof.Proof.HalfBody
public import Idealize.ShloMosaic.Lib.Claim
public import Idealize.ShloMosaic.Lib.StableHlo.ReadAt

@[expose] public section

set_option maxRecDepth 16384

noncomputable section

namespace Cert.Half

open Cert.Ffn (rms act part)
open Idealize.ShloMosaic Idealize.ShloMosaic.TcCoe Idealize.SL.Sem
open Cert.Kernel3Ideal Cert.Kernel3Ideal.Gen

/-- The weight tile that step `j` of a row block streams: step 1 works on the narrow last tile and keeps tile 1, which
    step 2 then uses. -/
abbrev streamed (j : ℕ) : ℕ := if j ≤ 1 then j else j - 1

theorem idx0 : ∀ t : Fin cfg0.N, win0_0.index t = ![t.val / 6, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![streamed (t.val % 6), 0, 0] := (by decide +kernel : ∀ t : Fin grid0.N, _)
theorem idx3 : ∀ t : Fin cfg0.N, win0_3.index t = ![streamed (t.val % 6), 0, 0] := (by decide +kernel : ∀ t : Fin grid0.N, _)
theorem idx4 : ∀ t : Fin cfg0.N, win0_4.index t = ![streamed (t.val % 6), 0, 0] := (by decide +kernel : ∀ t : Fin grid0.N, _)
theorem idx5 : ∀ t : Fin cfg0.N, win0_5.index t = ![5, 0, 0] := (by decide +kernel : ∀ t : Fin grid0.N, _)
theorem idx6 : ∀ t : Fin cfg0.N, win0_6.index t = ![5, 0, 0] := (by decide +kernel : ∀ t : Fin grid0.N, _)
theorem idx7 : ∀ t : Fin cfg0.N, win0_7.index t = ![5, 0, 0] := (by decide +kernel : ∀ t : Fin grid0.N, _)
theorem idx9 : ∀ t : Fin cfg0.N, win0_9.index t = ![t.val / 6, 0] := (by decide +kernel : ∀ t : Fin grid0.N, _)

theorem point_lt (t : Fin cfg0.N) : t.val < 384 := lt_of_lt_of_eq t.isLt N_0

variable (m : (ℓ : Loc nD τ sig) → Buf (Elt Ideal) ℓ)

abbrev H (c : Dev nD) : FVec Ideal S16x2048x2048 .f32 := m ((c : Thread nD τ).loc main_arg0)
abbrev G1 (c : Dev nD) : FVec Ideal S2048 .f32 := m ((c : Thread nD τ).loc main_arg1)
abbrev WG (c : Dev nD) : FVec Ideal S2048x5504 .f32 := m ((c : Thread nD τ).loc main_arg2)
abbrev WU (c : Dev nD) : FVec Ideal S2048x5504 .f32 := m ((c : Thread nD τ).loc main_arg3)
abbrev WD (c : Dev nD) : FVec Ideal S5504x2048 .f32 := m ((c : Thread nD τ).loc main_arg4)

/-! ## The arrays that the host lines before the call prepare -/

theorem v3_at (c : Dev nD) (s : Fin 6) (k : Fin 2048) (f : Fin 1024) (l : Fin 5504) (hl : l.val = s.val * 1024 + f.val) :
    (show FVec Ideal S6x2048x1024 .bf16 from V m c main_v3) (ix3 s k f) = WG m c (ix2 k l) := by
  unfold V
  simp only [List.flatten_cons, List.flatten_nil, List.cons_append, List.nil_append, List.append_nil]
  after_reads_at
  rw [dif_pos (by omega)]
  exact congrArg (fun z => WG m c (ix2 k z)) (Fin.ext hl.symm)

theorem v7_at (c : Dev nD) (s : Fin 6) (k : Fin 2048) (f : Fin 1024) (l : Fin 5504) (hl : l.val = s.val * 1024 + f.val) :
    (show FVec Ideal S6x2048x1024 .bf16 from V m c main_v7) (ix3 s k f) = WU m c (ix2 k l) := by
  unfold V
  simp only [List.flatten_cons, List.flatten_nil, List.cons_append, List.nil_append, List.append_nil]
  after_reads_at
  rw [dif_pos (by omega)]
  exact congrArg (fun z => WU m c (ix2 k z)) (Fin.ext hl.symm)

theorem v10_at (c : Dev nD) (s : Fin 6) (f : Fin 1024) (q : Fin 2048) (l : Fin 5504) (hl : l.val = s.val * 1024 + f.val) :
    (show FVec Ideal S6x1024x2048 .bf16 from V m c main_v10) (ix3 s f q) = WD m c (ix2 l q) := by
  unfold V
  simp only [List.flatten_cons, List.flatten_nil, List.cons_append, List.nil_append, List.append_nil]
  after_reads_at
  rw [dif_pos (by omega)]
  exact congrArg (fun z => WD m c (ix2 z q)) (Fin.ext hl.symm)

theorem v11_at (c : Dev nD) (r : Fin 32768) (k : Fin 2048) :
    (show FVec Ideal S32768x2048 .f32 from V m c main_v11) (ix2 r k) = H m c (ix3 ⟨r / 2048, by omega⟩ ⟨r % 2048, by omega⟩ k) := by
  unfold V
  simp only [List.flatten_cons, List.flatten_nil, List.cons_append, List.nil_append, List.append_nil]
  after_reads_at

theorem v12_at (c : Dev nD) (k : Fin 2048) :
    (show FVec Ideal S1x2048 .f32 from V m c main_v12) (ix2 0 k) = G1 m c (ix1 k) := by
  unfold V
  simp only [List.flatten_cons, List.flatten_nil, List.cons_append, List.nil_append, List.append_nil]
  after_reads_at

/-! ## The blocks -/

theorem hid_at (c : Dev nD) (t : Fin cfg0.N) (i : Fin 512) (k : Fin 2048) (r : Fin 32768) (hr : r.val = t.val / 6 * 512 + i.val) :
    (show FVec Ideal S512x2048 .f32 from iblk m c 0 t) (ix2 i k) = H m c (ix3 ⟨r / 2048, by omega⟩ ⟨r % 2048, by omega⟩ k) := by
  refine Eq.trans (?_ : _ = (show FVec Ideal S32768x2048 .f32 from V m c main_v11) (ix2 r k)) (v11_at m c r k)
  blk_ext [iblk, idx0 t]

theorem scale_at (c : Dev nD) (t : Fin cfg0.N) (k : Fin 2048) :
    (show FVec Ideal S1x2048 .f32 from iblk m c 1 t) (ix2 0 k) = G1 m c (ix1 k) := by
  refine Eq.trans (?_ : _ = (show FVec Ideal S1x2048 .f32 from V m c main_v12) (ix2 0 k)) (v12_at m c k)
  blk_ext [iblk, idx1 t]

theorem gate_at (c : Dev nD) (t : Fin cfg0.N) (k : Fin 2048) (f : Fin 1024) (l : Fin 5504) (hl : l.val = streamed (t.val % 6) * 1024 + f.val) :
    (show FVec Ideal S1x2048x1024 .bf16 from iblk m c 2 t) (ix3 0 k f) = WG m c (ix2 k l) := by
  refine Eq.trans (?_ : _ = (show FVec Ideal S6x2048x1024 .bf16 from V m c main_v3) (ix3 ⟨streamed (t.val % 6), by omega⟩ k f)) (v3_at m c _ k f l hl)
  blk_ext [iblk, idx2 t]

theorem gateLast_at (c : Dev nD) (t : Fin cfg0.N) (k : Fin 2048) (f : Fin 384) (l : Fin 5504) (hl : l.val = 5 * 1024 + f.val) :
    (show FVec Ideal S1x2048x384 .bf16 from X0_5 m c t) (ix3 0 k f) = WG m c (ix2 k l) := by
  refine Eq.trans (?_ : _ = (show FVec Ideal S6x2048x1024 .bf16 from V m c main_v3) (ix3 5 k ⟨f.val, by omega⟩)) (v3_at m c 5 k _ l hl)
  unfold X0_5 Pipeline.Window.fill
  dsimp only
  rw [dif_pos (moved0_5 t _)]
  blk_ext [iblk, idx5 t]

theorem up_at (c : Dev nD) (t : Fin cfg0.N) (k : Fin 2048) (f : Fin 1024) (l : Fin 5504) (hl : l.val = streamed (t.val % 6) * 1024 + f.val) :
    (show FVec Ideal S1x2048x1024 .bf16 from iblk m c 3 t) (ix3 0 k f) = WU m c (ix2 k l) := by
  refine Eq.trans (?_ : _ = (show FVec Ideal S6x2048x1024 .bf16 from V m c main_v7) (ix3 ⟨streamed (t.val % 6), by omega⟩ k f)) (v7_at m c _ k f l hl)
  blk_ext [iblk, idx3 t]

theorem upLast_at (c : Dev nD) (t : Fin cfg0.N) (k : Fin 2048) (f : Fin 384) (l : Fin 5504) (hl : l.val = 5 * 1024 + f.val) :
    (show FVec Ideal S1x2048x384 .bf16 from X0_6 m c t) (ix3 0 k f) = WU m c (ix2 k l) := by
  refine Eq.trans (?_ : _ = (show FVec Ideal S6x2048x1024 .bf16 from V m c main_v7) (ix3 5 k ⟨f.val, by omega⟩)) (v7_at m c 5 k _ l hl)
  unfold X0_6 Pipeline.Window.fill
  dsimp only
  rw [dif_pos (moved0_6 t _)]
  blk_ext [iblk, idx6 t]

theorem down_at (c : Dev nD) (t : Fin cfg0.N) (f : Fin 1024) (q : Fin 2048) (l : Fin 5504) (hl : l.val = streamed (t.val % 6) * 1024 + f.val) :
    (show FVec Ideal S1x1024x2048 .bf16 from iblk m c 4 t) (ix3 0 f q) = WD m c (ix2 l q) := by
  refine Eq.trans (?_ : _ = (show FVec Ideal S6x1024x2048 .bf16 from V m c main_v10) (ix3 ⟨streamed (t.val % 6), by omega⟩ f q)) (v10_at m c _ f q l hl)
  blk_ext [iblk, idx4 t]

theorem downLast_at (c : Dev nD) (t : Fin cfg0.N) (f : Fin 384) (q : Fin 2048) (l : Fin 5504) (hl : l.val = 5 * 1024 + f.val) :
    (show FVec Ideal S1x384x2048 .bf16 from X0_7 m c t) (ix3 0 f q) = WD m c (ix2 l q) := by
  refine Eq.trans (?_ : _ = (show FVec Ideal S6x1024x2048 .bf16 from V m c main_v10) (ix3 5 ⟨f.val, by omega⟩ q)) (v10_at m c 5 _ q l hl)
  unfold X0_7 Pipeline.Window.fill
  dsimp only
  rw [dif_pos (moved0_7 t _)]
  blk_ext [iblk, idx7 t]

end Cert.Half
-- ==== Proof.HalfRef.lean ====
/- The reference of the feed-forward half-step that leaves the residual, read at one index over the extended reals. -/
module

public import proofs.«01_k».proof.Proof.HalfBody
public import proofs.«01_k».proof.Proof.Gen.Reference3Ideal.Run
public import proofs.«01_k».proof.Proof.Gen.Reference3Ideal.Read

@[expose] public section

set_option maxRecDepth 16384

noncomputable section

namespace Cert.Half

open Cert.Ffn (rms act part)
open Idealize.ShloMosaic Idealize.ShloMosaic.TcCoe Idealize.SL.Sem
open Cert.Reference3Ideal Cert.Reference3Ideal.Gen Cert.Reference3Ideal

theorem norm_at (x0 : FVec Ideal S16x2048x2048 .f32) (x1 : FVec Ideal S2048 .f32) (b : Fin 16) (s k : Fin 2048) :
    Read.val_main_v12 (F := Ideal) x0 x1 (ix3 b s k) = rms (fun l => x0 (ix3 b s l)) (fun l => x1 (ix1 l)) k := by
  pointwise [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_cst, Read.val_main_cst_0, Read.val_main_cst_1]
  rfl

theorem act_at (x0 : FVec Ideal S16x2048x2048 .f32) (x1 : FVec Ideal S2048 .f32) (x2 x3 : FVec Ideal S2048x5504 .f32) (b : Fin 16) (s : Fin 2048) (f : Fin 5504) :
    Read.val_main_v16 (F := Ideal) x0 x1 x2 x3 (ix3 b s f) = act (rms (fun l => x0 (ix3 b s l)) (fun l => x1 (ix1 l)))
      (fun k => x2 (ix2 k f)) (fun k => x3 (ix2 k f)) := by
  pointwise [Read.val_main_v13, Read.val_main_v14, Read.val_main_v15, Read.val_main_v16, norm_at,
     Read.val_main_call0_v0, Read.val_main_call0_v1, Read.val_main_call0_v2, Read.val_main_call0_v3, Read.val_main_call0_v4, Read.val_main_call0_v5, Read.val_main_call0_cst, Read.val_main_call0_cst_0]
  rfl

theorem ref_at (x0 : FVec Ideal S16x2048x2048 .f32) (x1 : FVec Ideal S2048 .f32) (x2 x3 : FVec Ideal S2048x5504 .f32) (x4 : FVec Ideal S5504x2048 .f32) (r : Fin 32768) (q : Fin 2048) :
    Read.val_main_v21 (F := Ideal) x0 x1 x2 x3 x4 (ix2 r q) =
      out (fun l => x0 (ix3 ⟨r / 2048, by omega⟩ ⟨r % 2048, by omega⟩ l))
        (part 5504 (rms (fun l => x0 (ix3 ⟨r / 2048, by omega⟩ ⟨r % 2048, by omega⟩ l)) (fun l => x1 (ix1 l)))
          (fun k f => x2 (ix2 k f)) (fun k f => x3 (ix2 k f)) (fun f l => x4 (ix2 f l))) q := by
  pointwise [Read.val_main_v17, Read.val_main_v18, Read.val_main_v19, Read.val_main_v20, Read.val_main_v21, Read.val_main_cst_2, act_at]
  rfl

end Cert.Half
-- ==== Proof.HalfValue.lean ====
/- The result of the feed-forward kernel that leaves the residual: what a row block's six steps leave, and that it is the reference's. -/
module

public import proofs.«01_k».proof.Proof.HalfBlocks
public import proofs.«01_k».proof.Proof.HalfRef
public import proofs.«01_k».proof.Proof.Gen.Kernel3Ideal.Value
public import Idealize.ShloMosaic.Lib.Pipeline.ReadBack

@[expose] public section

set_option maxRecDepth 16384

noncomputable section

namespace Cert.Half

open Cert.Ffn (rms act part)
open Idealize.ShloMosaic Idealize.ShloMosaic.TcCoe Idealize.SL.Sem
open Cert.Kernel3Ideal Cert.Kernel3Ideal.Gen

variable (m : (ℓ : Loc nD τ sig) → Buf (Elt Ideal) ℓ)

/-- Row `r` of the residual. -/
def row (c : Dev nD) (r : Fin 32768) (l : Fin 2048) : EReal := H m c (ix3 ⟨r / 2048, by omega⟩ ⟨r % 2048, by omega⟩ l)

/-- Row `r` normalised. -/
def nrow (c : Dev nD) (r : Fin 32768) : Fin 2048 → EReal := rms (row m c r) fun l => G1 m c (ix1 l)

/-- What hidden column `f` adds to output column `q` of row `r`, zero past the last column. -/
def col (c : Dev nD) (r : Fin 32768) (q : Fin 2048) (f : ℕ) : EReal :=
  if h : f < 5504 then
    act (nrow m c r) (fun k => WG m c (ix2 k ⟨f, h⟩)) (fun k => WU m c (ix2 k ⟨f, h⟩)) * WD m c (ix2 ⟨f, h⟩ q)
  else 0

/-- The sum of `n` hidden columns from column `a` on. -/
def cols (c : Dev nD) (r : Fin 32768) (a n : ℕ) (q : Fin 2048) : EReal := ∑ f ∈ Finset.range n, col m c r q (a + f)

theorem part_eq (c : Dev nD) (r : Fin 32768) (a n : ℕ) (han : a + n ≤ 5504) (x : Fin 2048 → EReal)
    (wg wu : Fin 2048 → Fin n → EReal) (wd : Fin n → Fin 2048 → EReal) (hx : x = nrow m c r)
    (hg : ∀ k f, wg k f = WG m c (ix2 k ⟨a + f.val, by omega⟩)) (hu : ∀ k f, wu k f = WU m c (ix2 k ⟨a + f.val, by omega⟩))
    (hd : ∀ f q, wd f q = WD m c (ix2 ⟨a + f.val, by omega⟩ q)) (q : Fin 2048) :
    part n x wg wu wd q = cols m c r a n q := by
  unfold part cols
  rw [Finset.sum_range]
  refine Finset.sum_congr rfl fun f _ => ?_
  unfold col
  rw [dif_pos (show a + f.val < 5504 by omega), hd, hx]
  simp only [hg, hu]

theorem cols_all (c : Dev nD) (r : Fin 32768) (q : Fin 2048) :
    cols m c r 0 1024 q + cols m c r 5120 384 q + cols m c r 1024 1024 q + cols m c r 2048 1024 q + cols m c r 3072 1024 q
      + cols m c r 4096 1024 q = cols m c r 0 5504 q := by
  have split : ∀ n k, cols m c r 0 (n + k) q = cols m c r 0 n q + cols m c r n k q := fun n k => by
    unfold cols
    rw [Finset.sum_range_add]
    simp only [Nat.zero_add]
  rw [show (5504 : ℕ) = 1024 + 1024 + 1024 + 1024 + 1024 + 384 from rfl]
  simp only [split]
  abel

/-- The reference's row is the whole sum. -/
theorem ref_row (c : Dev nD) (r : Fin 32768) (q : Fin 2048) :
    Cert.Reference3Ideal.Read.val_main_v21 (F := Ideal) (H m c) (G1 m c) (WG m c) (WU m c) (WD m c) (ix2 r q) =
      out (row m c r) (cols m c r 0 5504) q := by
  refine (ref_at (H m c) (G1 m c) (WG m c) (WU m c) (WD m c) r q).trans ?_
  refine congrArg (fun s => out (row m c r) s q) ?_
  funext l
  refine part_eq m c r 0 5504 (by omega) _ _ _ _ rfl (fun k f => ?_) (fun k f => ?_) (fun f q => ?_) l <;>
    simp only [Nat.zero_add]

/-! ## The steps of a row block -/

theorem scr_A (c : Dev nD) (t : Fin cfg0.N) (h : t.val % 6 = 0) :
    (outsAt0 m c t.val t.isLt).2 = k0_pay4 (iblk m c 0 t) (iblk m c 1 t) := by
  rw [outsAt0_A m c t (by omega) (by omega) (by omega) (by omega)]
  frame_out

theorem scr_B (c : Dev nD) (t : Fin cfg0.N) (h : t.val % 6 = 1) :
    (outsAt0 m c t.val t.isLt).2 = (outsAt0 m c (t.val - 1) (Nat.lt_of_le_of_lt (Nat.sub_le _ _) t.isLt)).2 := by
  rw [outsAt0_B m c t (by omega) (by omega) (by omega) (by omega)]
  dsimp only
  unfold sout0_B_0
  rfl

theorem scr_C (c : Dev nD) (t : Fin cfg0.N) (h : 2 ≤ t.val % 6 ∧ t.val % 6 ≤ 4) :
    (outsAt0 m c t.val t.isLt).2 = (outsAt0 m c (t.val - 1) (Nat.lt_of_le_of_lt (Nat.sub_le _ _) t.isLt)).2 := by
  rw [outsAt0_C m c t (by omega) (by omega) (by omega) (by omega)]
  dsimp only
  unfold sout0_C_0
  rfl

theorem scr_D (c : Dev nD) (t : Fin cfg0.N) (h : t.val % 6 = 5) :
    (outsAt0 m c t.val t.isLt).2 = (outsAt0 m c (t.val - 1) (Nat.lt_of_le_of_lt (Nat.sub_le _ _) t.isLt)).2 := by
  rw [outsAt0_D m c t (by omega) (by omega) (by omega) (by omega)]
  dsimp only
  unfold sout0_D_0
  rfl

theorem acc_A (c : Dev nD) (t : Fin cfg0.N) (h : t.val % 6 = 0) :
    (outsAt0 m c t.val t.isLt).1 = k0_pay5 (k0_pay4 (iblk m c 0 t) (iblk m c 1 t)) (iblk m c 2 t) (iblk m c 3 t) (iblk m c 4 t) := by
  rw [outsAt0_A m c t (by omega) (by omega) (by omega) (by omega)]
  frame_out

theorem acc_B (c : Dev nD) (t : Fin cfg0.N) (h : t.val % 6 = 1) :
    (outsAt0 m c t.val t.isLt).1 = k0_pay1 (outsAt0 m c (t.val - 1) (Nat.lt_of_le_of_lt (Nat.sub_le _ _) t.isLt)).1 (outsAt0 m c (t.val - 1) (Nat.lt_of_le_of_lt (Nat.sub_le _ _) t.isLt)).2 (X0_5 m c t) (X0_6 m c t) (X0_7 m c t) := by
  rw [outsAt0_B m c t (by omega) (by omega) (by omega) (by omega)]
  frame_out
  rw [read_unread_whole]

theorem acc_C (c : Dev nD) (t : Fin cfg0.N) (h : 2 ≤ t.val % 6 ∧ t.val % 6 ≤ 4) :
    (outsAt0 m c t.val t.isLt).1 = k0_pay2 (outsAt0 m c (t.val - 1) (Nat.lt_of_le_of_lt (Nat.sub_le _ _) t.isLt)).1 (outsAt0 m c (t.val - 1) (Nat.lt_of_le_of_lt (Nat.sub_le _ _) t.isLt)).2 (iblk m c 2 t) (iblk m c 3 t) (iblk m c 4 t) := by
  rw [outsAt0_C m c t (by omega) (by omega) (by omega) (by omega)]
  frame_out
  rw [read_unread_whole]

theorem acc_D (c : Dev nD) (t : Fin cfg0.N) (h : t.val % 6 = 5) :
    (outsAt0 m c t.val t.isLt).1 = k0_pay3 (iblk m c 0 t) (outsAt0 m c (t.val - 1) (Nat.lt_of_le_of_lt (Nat.sub_le _ _) t.isLt)).1 (outsAt0 m c (t.val - 1) (Nat.lt_of_le_of_lt (Nat.sub_le _ _) t.isLt)).2 (iblk m c 2 t) (iblk m c 3 t) (iblk m c 4 t) := by
  rw [outsAt0_D m c t (by omega) (by omega) (by omega) (by omega)]
  frame_out
  rw [read_unread_whole]

/-- The scratch holds the block's normalised rows at every step. -/
theorem scr_at (c : Dev nD) (i : Fin 512) (k : Fin 2048) (r : Fin 32768) (n : ℕ) : ∀ (hn : n < cfg0.N), r.val = n / 6 * 512 + i.val →
    (show FVec Ideal S512x2048 .bf16 from (outsAt0 m c n hn).2) (ix2 i k) = nrow m c r k := by
  induction n using Nat.strong_induction_on with
  | _ n ih =>
    intro hn hr
    have back : ¬ n % 6 = 0 → (outsAt0 m c n hn).2 = (outsAt0 m c (n - 1) (Nat.lt_of_le_of_lt (Nat.sub_le _ _) hn)).2 := fun h => by
      by_cases h1 : n % 6 = 1
      · exact scr_B m c ⟨n, hn⟩ h1
      by_cases h5 : n % 6 = 5
      · exact scr_D m c ⟨n, hn⟩ h5
      · exact scr_C m c ⟨n, hn⟩ (by dsimp only; omega)
    by_cases h0 : n % 6 = 0
    · refine (congrFun (scr_A m c ⟨n, hn⟩ h0) (ix2 i k)).trans ((pay4_at _ _ i k).trans ?_)
      unfold nrow
      congr 1
      · funext l
        exact hid_at m c ⟨n, hn⟩ i l r hr
      · funext l
        exact scale_at m c ⟨n, hn⟩ l
    · refine (congrFun (back h0) (ix2 i k)).trans (ih (n - 1) (by omega) _ ?_)
      omega

/-- What a full tile's product adds, at a point where the scratch holds the normalised rows. -/
theorem tile_at (c : Dev nD) (t : Fin cfg0.N) (x : Vec Ideal S512x2048 .bf16) (i : Fin 512) (q : Fin 2048) (r : Fin 32768)
    (hx : ∀ k, x (ix2 i k) = nrow m c r k) (a : ℕ) (ha : a = streamed (t.val % 6) * 1024) :
    part 1024 (fun k => x (ix2 i k)) (fun k f => (show FVec Ideal S1x2048x1024 .bf16 from iblk m c 2 t) (ix3 0 k f))
      (fun k f => (show FVec Ideal S1x2048x1024 .bf16 from iblk m c 3 t) (ix3 0 k f))
      (fun f l => (show FVec Ideal S1x1024x2048 .bf16 from iblk m c 4 t) (ix3 0 f l)) q = cols m c r a 1024 q :=
  have ht : streamed (t.val % 6) ≤ 4 := by unfold streamed; split <;> omega
  part_eq m c r a 1024 (by omega) _ _ _ _ (funext hx) (fun k f => gate_at m c t k f _ (by dsimp only; omega))
    (fun k f => up_at m c t k f _ (by dsimp only; omega)) (fun f l => down_at m c t f l _ (by dsimp only; omega)) q

/-- What the narrow last tile's product adds. -/
theorem last_tile_at (c : Dev nD) (t : Fin cfg0.N) (x : Vec Ideal S512x2048 .bf16) (i : Fin 512) (q : Fin 2048) (r : Fin 32768)
    (hx : ∀ k, x (ix2 i k) = nrow m c r k) :
    part 384 (fun k => x (ix2 i k)) (fun k f => (show FVec Ideal S1x2048x384 .bf16 from X0_5 m c t) (ix3 0 k f))
      (fun k f => (show FVec Ideal S1x2048x384 .bf16 from X0_6 m c t) (ix3 0 k f))
      (fun f l => (show FVec Ideal S1x384x2048 .bf16 from X0_7 m c t) (ix3 0 f l)) q = cols m c r 5120 384 q :=
  part_eq m c r 5120 384 (by omega) _ _ _ _ (funext hx) (fun k f => gateLast_at m c t k f _ (by dsimp only))
    (fun k f => upLast_at m c t k f _ (by dsimp only)) (fun f l => downLast_at m c t f l _ (by dsimp only)) q

theorem acc0_at (c : Dev nD) (i : Fin 512) (q : Fin 2048) (r : Fin 32768) (n : ℕ) (hn : n < cfg0.N) (h : n % 6 = 0)
    (hr : r.val = n / 6 * 512 + i.val) :
    (show FVec Ideal S512x2048 .f32 from (outsAt0 m c n hn).1) (ix2 i q) = cols m c r 0 1024 q := by
  refine (congrFun (acc_A m c ⟨n, hn⟩ h) (ix2 i q)).trans ((pay5_at _ _ _ _ i q).trans ?_)
  refine tile_at m c ⟨n, hn⟩ _ i q r (fun k => ?_) 0 (by dsimp only; rw [h]; rfl)
  exact (congrFun (scr_A m c ⟨n, hn⟩ h) (ix2 i k)).symm.trans (scr_at m c i k r n hn hr)

theorem acc1_at (c : Dev nD) (i : Fin 512) (q : Fin 2048) (r : Fin 32768) (n : ℕ) (hn : n < cfg0.N) (h : n % 6 = 1)
    (hr : r.val = n / 6 * 512 + i.val) :
    (show FVec Ideal S512x2048 .f32 from (outsAt0 m c n hn).1) (ix2 i q) = cols m c r 0 1024 q + cols m c r 5120 384 q := by
  refine (congrFun (acc_B m c ⟨n, hn⟩ h) (ix2 i q)).trans ((pay1_at _ _ _ _ _ i q).trans ?_)
  exact congrArg₂ (· + ·) (acc0_at m c i q r (n - 1) _ (by omega) (by omega))
    (last_tile_at m c ⟨n, hn⟩ _ i q r fun k => scr_at m c i k r (n - 1) _ (by omega))

/-- A middle step adds its tile to what the step before left. -/
theorem acc_step (c : Dev nD) (i : Fin 512) (q : Fin 2048) (r : Fin 32768) (n : ℕ) (hn : n < cfg0.N) (h : 2 ≤ n % 6 ∧ n % 6 ≤ 4)
    (hr : r.val = n / 6 * 512 + i.val) (a : ℕ) (ha : a = (n % 6 - 1) * 1024) (S : EReal)
    (hS : ∀ h', (show FVec Ideal S512x2048 .f32 from (outsAt0 m c (n - 1) h').1) (ix2 i q) = S) :
    (show FVec Ideal S512x2048 .f32 from (outsAt0 m c n hn).1) (ix2 i q) = S + cols m c r a 1024 q := by
  refine (congrFun (acc_C m c ⟨n, hn⟩ h) (ix2 i q)).trans ((pay2_at _ _ _ _ _ i q).trans ?_)
  exact congrArg₂ (· + ·) (hS _) (tile_at m c ⟨n, hn⟩ _ i q r (fun k => scr_at m c i k r (n - 1) _ (by omega)) a
    (by dsimp only [streamed]; rw [if_neg (by omega)]; exact ha))

theorem acc4_at (c : Dev nD) (i : Fin 512) (q : Fin 2048) (r : Fin 32768) (n : ℕ) (hn : n < cfg0.N) (h : n % 6 = 4)
    (hr : r.val = n / 6 * 512 + i.val) :
    (show FVec Ideal S512x2048 .f32 from (outsAt0 m c n hn).1) (ix2 i q) = cols m c r 0 1024 q + cols m c r 5120 384 q
      + cols m c r 1024 1024 q + cols m c r 2048 1024 q + cols m c r 3072 1024 q :=
  acc_step m c i q r n hn (by omega) hr 3072 (by omega) _ fun h3 =>
    acc_step m c i q r (n - 1) h3 (by omega) (by omega) 2048 (by omega) _ fun h2 =>
      acc_step m c i q r (n - 1 - 1) h2 (by omega) (by omega) 1024 (by omega) _ fun h1 =>
        acc1_at m c i q r (n - 1 - 1 - 1) h1 (by omega) (by omega)

/-- The last step's row is the reference's. -/
theorem out_at (c : Dev nD) (i : Fin 512) (q : Fin 2048) (r : Fin 32768) (n : ℕ) (hn : n < cfg0.N) (h : n % 6 = 5)
    (hr : r.val = n / 6 * 512 + i.val) :
    (show FVec Ideal S512x2048 .f32 from (outsAt0 m c n hn).1) (ix2 i q) =
      out (row m c r) (cols m c r 0 5504) q := by
  refine (congrFun (acc_D m c ⟨n, hn⟩ h) (ix2 i q)).trans ((pay3_at _ _ _ _ _ _ i q).trans ?_)
  congr 1
  · funext l
    exact hid_at m c ⟨n, hn⟩ i l r hr
  · funext l
    refine Eq.trans ?_ (cols_all m c r l)
    exact congrArg₂ (· + ·) (acc4_at m c i l r (n - 1) _ (by omega) (by omega))
      (tile_at m c ⟨n, hn⟩ _ i l r (fun k => scr_at m c i k r (n - 1) _ (by omega)) 4096
        (by dsimp only [streamed]; rw [if_neg (by omega), h]))

/-- The array the kernel leaves is the reference's. -/
theorem final (c : Dev nD) : (dats m 0 c).arrAt 9 cfg0.N =
    (show FVec Ideal S32768x2048 .f32 from
      Cert.Reference3Ideal.Read.val_main_v21 (F := Ideal) (H m c) (G1 m c) (WG m c) (WU m c) (WD m c)) := by
  refine (dats m 0 c).arrAt_eq_of_covers 9 _ (by decide +kernel) fun t hf y => ?_
  have h5 := (flush0_9 t).mp hf
  have ht := point_lt t
  have h0 : (y 0).val < 512 := (y 0).isLt
  have h1 : (y 1).val < 2048 := (y 1).isLt
  rw [after0_9]
  refine Eq.trans (?_ : _ = (show FVec Ideal S512x2048 .f32 from (outsAt0 m c t.val t.isLt).1) (ix2 ⟨(y 0).val, h0⟩ ⟨(y 1).val, h1⟩))
    ((out_at m c ⟨(y 0).val, h0⟩ ⟨(y 1).val, h1⟩ ⟨t.val / 6 * 512 + (y 0).val, by omega⟩ t.val t.isLt h5 rfl).trans
      ((ref_row m c ⟨t.val / 6 * 512 + (y 0).val, by omega⟩ ⟨(y 1).val, h1⟩).symm.trans ?_))
  · blk_ext [idx9 t]
  · blk_ext [idx9 t]

end Cert.Half
-- ==== Proof.HalfClaim.lean ====
/- The claim about the feed-forward half-step that leaves the residual: the kernel's run and the reference's end at the same array. -/
module

public import proofs.«01_k».proof.Proof.HalfValue
public import proofs.«01_k».proof.Defs

@[expose] public section

set_option maxRecDepth 16384

noncomputable section

namespace Cert.Half

open Idealize.ShloMosaic Idealize.ShloMosaic.TcCoe Idealize.SL.Sem

theorem claim : Cert.algebraic_Kernel3Ideal_Reference3Ideal := by
  pair_intro
  · run_from Cert.Kernel3Ideal.Value.run m g
  · run_from Cert.Reference3Ideal.Value.run m' g'
    refine (Cert.Reference3Ideal.Read.val_main_v21_eq _ _ _ _ _).trans ?_
    exact (final m c).symm.trans (Cert.Kernel3Ideal.Value.final9 m c)

theorem frame_reference : Cert.quiescent_Reference3Ideal := by
  intro m g _
  exact (θ_run _ _ _).mono (fun r h => ⟨fun c => (h c).2, sem_eq_zero_of_no_sems (by decide) r.2⟩) (Cert.Reference3Ideal.Value.run m g)

end Cert.Half
-- ==== Proof.MixBody.lean ====
/- The retention and state-space mixer's output step: the kernel's payloads and the reference, read at one index. -/
module

public import proofs.«01_k».proof.Proof.Gen.Kernel4Ideal.Frame
public import proofs.«01_k».proof.Proof.Gen.Reference4Ideal.Run
public import proofs.«01_k».proof.Proof.Gen.Reference4Ideal.Read
public import Idealize.ShloMosaic.Lib.Pipeline.ValueKit
public import Idealize.ShloMosaic.Lib.Pointwise

@[expose] public section

set_option maxRecDepth 16384

noncomputable section

namespace Cert.Mix

open Idealize.ShloMosaic Idealize.ShloMosaic.TcCoe Idealize.SL.Sem
/-- The tanh form of GELU. -/
def gelu (y : EReal) : EReal :=
  Ideal.ofBits .f32 0x3F000000#32 * y * (1 +
    Ideal.tanh (Ideal.ofBits .f32 0x3F4C422A#32 * (y + Ideal.ofBits .f32 0x3D372713#32 * (y * y * y))))

/-- The gated linear unit on the GELU of a row `y`, with the weights `w` and the bias `b`. -/
def gated (y : Fin 1024 → EReal) (w : Fin 1024 → Fin 1024 → EReal) (b : Fin 1024 → EReal) (k : Fin 1024) : EReal :=
  gelu (y k) * Ideal.logistic ((∑ l, gelu (y l) * w l k) + b k)

/-- An entry after the step: the residual `h`, and what the retention's row `a` and the gated row `z` give. -/
def out (h : EReal) (a z wa wz : Fin 1024 → EReal) : EReal := h + ((∑ k, a k * wa k) + ∑ k, z k * wz k)

theorem out_congr {h h' : EReal} {a a' z z' wa wa' wz wz' : Fin 1024 → EReal} (e1 : h = h') (e2 : a = a') (e3 : z = z') (e4 : wa = wa')
    (e5 : wz = wz') : out h a z wa wz = out h' a' z' wa' wz' := by
  subst e1 e2 e3 e4 e5
  rfl

theorem gated_congr {y y' : Fin 1024 → EReal} {w w' : Fin 1024 → Fin 1024 → EReal} {b b' : Fin 1024 → EReal} (e1 : y = y') (e2 : w = w')
    (e3 : b = b') : gated y w b = gated y' w' b' := by
  subst e1 e2 e3
  rfl

section

open Cert.Kernel4Ideal Cert.Kernel4Ideal.Gen

theorem pay1_at (z : FVec Ideal S512x1024 .bf16) (h : FVec Ideal S512x2048 .f32) (a : FVec Ideal S512x1024 .bf16)
    (wa wz : Vec Ideal S1024x2048 .bf16) (i : Fin 512) (q : Fin 2048) :
    k0_pay1 (F := Ideal) z h a wa wz (ix2 i q) =
      out (h (ix2 i q)) (fun k => a (ix2 i k)) (fun k => z (ix2 i k)) (fun k => wa (ix2 k q)) (fun k => wz (ix2 k q)) := by
  pointwise [k0_pay1]
  rfl

theorem pay2_at (y : Vec Ideal S512x1024 .f32) (d : Vec Ideal S1x1024 .f32) (u : Vec Ideal S512x1024 .f32)
    (w : Vec Ideal S1024x1024 .bf16) (b : Vec Ideal S1x1024 .f32) (i : Fin 512) (k : Fin 1024) :
    k0_pay2 (F := Ideal) y d u w b (ix2 i k) = gated (fun l => y (ix2 i l) + d (ix2 0 l) * u (ix2 i l))
      (fun l k => w (ix2 l k)) (fun k => b (ix2 0 k)) k := by
  pointwise [k0_pay2]
  rfl

theorem pay3_at (h : Vec Ideal S512x2048 .f32) (i : Fin 512) (q : Fin 2048) : k0_pay3 (F := Ideal) h (ix2 i q) = h (ix2 i q) := by
  pointwise [k0_pay3]

theorem pay4_at (a : Vec Ideal S512x1024 .bf16) (i : Fin 512) (k : Fin 1024) : k0_pay4 (F := Ideal) a (ix2 i k) = a (ix2 i k) := by
  pointwise [k0_pay4]

end

/-! ## The reference -/

namespace R

open Cert.Reference4Ideal Cert.Reference4Ideal.Gen

/-- A row of the state-space output with the scaled input added. -/
abbrev skip (x1 : FVec Ideal S16x2048x1024 .f32) (x2 : FVec Ideal S16x2048x5120 .f32) (x3 : FVec Ideal S1024 .f32) (b : Fin 16) (s : Fin 2048) (l : Fin 1024) : EReal :=
  x1 (ix3 b s l) + x3 (ix1 l) * x2 (ix3 b s ⟨4096 + l, by omega⟩)

theorem skip_at (x1 : FVec Ideal S16x2048x1024 .f32) (x2 : FVec Ideal S16x2048x5120 .f32) (x3 : FVec Ideal S1024 .f32) (b : Fin 16) (s : Fin 2048) (l : Fin 1024) :
    Read.val_main_v4 (F := Ideal) x1 x2 x3 (ix3 b s l) = skip x1 x2 x3 b s l := by
  pointwise [Read.val_main_v0, Read.val_main_v1, Read.val_main_v2, Read.val_main_v3, Read.val_main_v4]

theorem gelu_at (x1 : FVec Ideal S16x2048x1024 .f32) (x2 : FVec Ideal S16x2048x5120 .f32) (x3 : FVec Ideal S1024 .f32) (b : Fin 16) (s : Fin 2048) (l : Fin 1024) :
    Read.val_main_v17 (F := Ideal) x1 x2 x3 (ix3 b s l) = gelu (skip x1 x2 x3 b s l) := by
  pointwise [Read.val_main_v5, Read.val_main_v6, Read.val_main_v7, Read.val_main_v8, Read.val_main_v9, Read.val_main_v10, Read.val_main_v11, Read.val_main_v12, Read.val_main_v13, Read.val_main_v14, Read.val_main_v15, Read.val_main_v16, Read.val_main_v17, Read.val_main_cst, Read.val_main_cst_0, Read.val_main_cst_1, Read.val_main_cst_2, skip_at]
  unfold gelu
  rw [mul_comm (Ideal.ofBits .f32 0x3F000000#32) (skip x1 x2 x3 b s l), mul_assoc (skip x1 x2 x3 b s l) (Ideal.ofBits .f32 0x3F000000#32)]

theorem gated_at (x1 : FVec Ideal S16x2048x1024 .f32) (x2 : FVec Ideal S16x2048x5120 .f32) (x3 : FVec Ideal S1024 .f32) (x4 : FVec Ideal S1024x1024 .f32) (x5 : FVec Ideal S1024 .f32) (b : Fin 16) (s : Fin 2048) (k : Fin 1024) :
    Read.val_main_v28 (F := Ideal) x1 x2 x3 x4 x5 (ix3 b s k) = gated (skip x1 x2 x3 b s) (fun l k => x4 (ix2 l k)) (fun k => x5 (ix1 k)) k := by
  pointwise [Read.val_main_v18, Read.val_main_v19, Read.val_main_v20, Read.val_main_v21, Read.val_main_v22, Read.val_main_v23, Read.val_main_v24, Read.val_main_v25, Read.val_main_v26, Read.val_main_v27, Read.val_main_v28, Read.val_main_cst_3, Read.val_main_cst_4, gelu_at]
  rfl

theorem left_at (x0 x1 : FVec Ideal S16x2048x1024 .f32) (x2 : FVec Ideal S16x2048x5120 .f32) (x3 : FVec Ideal S1024 .f32) (x4 : FVec Ideal S1024x1024 .f32) (x5 : FVec Ideal S1024 .f32) (b : Fin 16) (s : Fin 2048) (k : Fin 1024) :
    Read.val_main_v29 (F := Ideal) x0 x1 x2 x3 x4 x5 (ix3 b s ⟨k.val, by omega⟩) = x0 (ix3 b s k) := by
  unfold Read.val_main_v29
  refine concatenate_pair_apply_left (t := S16x2048x2048) (s₁ := S16x2048x1024) (s₂ := S16x2048x1024) 2 _ _ _ _ rfl (ix3 b s k) fun a => ?_
  match a with
  | ⟨0, _⟩ => rfl
  | ⟨1, _⟩ => rfl
  | ⟨2, _⟩ => rfl

theorem right_at (x0 x1 : FVec Ideal S16x2048x1024 .f32) (x2 : FVec Ideal S16x2048x5120 .f32) (x3 : FVec Ideal S1024 .f32) (x4 : FVec Ideal S1024x1024 .f32) (x5 : FVec Ideal S1024 .f32) (b : Fin 16) (s : Fin 2048) (k : Fin 1024) :
    Read.val_main_v29 (F := Ideal) x0 x1 x2 x3 x4 x5 (ix3 b s ⟨1024 + k.val, by omega⟩) = gated (skip x1 x2 x3 b s) (fun l k => x4 (ix2 l k)) (fun k => x5 (ix1 k)) k := by
  refine Eq.trans ?_ (gated_at x1 x2 x3 x4 x5 b s k)
  unfold Read.val_main_v29
  refine concatenate_pair_apply_right (t := S16x2048x2048) (s₁ := S16x2048x1024) (s₂ := S16x2048x1024) 2 _ _ _ _ rfl rfl (ix3 b s k) (fun a ha => ?_) (Nat.add_comm _ _)
  match a, ha with
  | ⟨0, _⟩, _ => rfl
  | ⟨1, _⟩, _ => rfl
  | ⟨2, _⟩, ha => exact absurd rfl ha

theorem sum_at (x0 x1 : FVec Ideal S16x2048x1024 .f32) (x2 : FVec Ideal S16x2048x5120 .f32) (x3 : FVec Ideal S1024 .f32) (x4 : FVec Ideal S1024x1024 .f32) (x5 : FVec Ideal S1024 .f32) (x6 : FVec Ideal S2048x2048 .f32) (x7 : FVec Ideal S16x2048x2048 .f32) (r : Fin 32768) (q : Fin 2048) :
    Read.val_main_v32 (F := Ideal) x0 x1 x2 x3 x4 x5 x6 x7 (ix2 r q) = x7 (ix3 ⟨r / 2048, by omega⟩ ⟨r % 2048, by omega⟩ q) +
      ∑ k : Fin 2048, Read.val_main_v29 (F := Ideal) x0 x1 x2 x3 x4 x5 (ix3 ⟨r / 2048, by omega⟩ ⟨r % 2048, by omega⟩ k) * x6 (ix2 k q) := by
  generalize hz : Read.val_main_v29 (F := Ideal) x0 x1 x2 x3 x4 x5 = z
  pointwise [Read.val_main_v30, Read.val_main_v31, Read.val_main_v32, hz]

theorem ref_at (x0 x1 : FVec Ideal S16x2048x1024 .f32) (x2 : FVec Ideal S16x2048x5120 .f32) (x3 : FVec Ideal S1024 .f32) (x4 : FVec Ideal S1024x1024 .f32) (x5 : FVec Ideal S1024 .f32) (x6 : FVec Ideal S2048x2048 .f32) (x7 : FVec Ideal S16x2048x2048 .f32) (r : Fin 32768) (q : Fin 2048) :
    Read.val_main_v32 (F := Ideal) x0 x1 x2 x3 x4 x5 x6 x7 (ix2 r q) = out (x7 (ix3 ⟨r / 2048, by omega⟩ ⟨r % 2048, by omega⟩ q))
      (fun k => x0 (ix3 ⟨r / 2048, by omega⟩ ⟨r % 2048, by omega⟩ k))
      (gated (skip x1 x2 x3 ⟨r / 2048, by omega⟩ ⟨r % 2048, by omega⟩) (fun l k => x4 (ix2 l k)) fun k => x5 (ix1 k))
      (fun k => x6 (ix2 ⟨k.val, by omega⟩ q)) (fun k => x6 (ix2 ⟨1024 + k.val, by omega⟩ q)) := by
  rw [sum_at]
  refine congrArg (x7 _ + ·) ((Fin.sum_univ_add (a := 1024) (b := 1024) _).trans ?_)
  exact congrArg₂ (· + ·) (Finset.sum_congr rfl fun k _ => congrArg (· * _) (left_at x0 x1 x2 x3 x4 x5 _ _ k))
    (Finset.sum_congr rfl fun k _ => congrArg (· * _) (right_at x0 x1 x2 x3 x4 x5 _ _ k))

end R

end Cert.Mix
-- ==== Proof.Mix.lean ====
/- The retention and state-space mixer's output step: the kernel's windows, and that its array is the reference's. -/
module

public import proofs.«01_k».proof.Proof.MixBody
public import proofs.«01_k».proof.Proof.Gen.Kernel4Ideal.Value
public import proofs.«01_k».proof.Defs
public import Idealize.ShloMosaic.Lib.Pipeline.ReadBack
public import Idealize.ShloMosaic.Lib.Claim
public import Idealize.ShloMosaic.Lib.StableHlo.ReadAt

@[expose] public section

set_option maxRecDepth 16384

noncomputable section

namespace Cert.Mix

open Idealize.ShloMosaic Idealize.ShloMosaic.TcCoe Idealize.SL.Sem
open Cert.Kernel4Ideal Cert.Kernel4Ideal.Gen

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 4] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![1, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)

theorem point_lt (t : Fin cfg0.N) : t.val < 64 := lt_of_lt_of_eq t.isLt N_0

variable (m : (ℓ : Loc nD τ sig) → Buf (Elt Ideal) ℓ)

abbrev YA (c : Dev nD) : FVec Ideal S16x2048x1024 .f32 := m ((c : Thread nD τ).loc main_arg0)
abbrev YS (c : Dev nD) : FVec Ideal S16x2048x1024 .f32 := m ((c : Thread nD τ).loc main_arg1)
abbrev P (c : Dev nD) : FVec Ideal S16x2048x5120 .f32 := m ((c : Thread nD τ).loc main_arg2)
abbrev D (c : Dev nD) : FVec Ideal S1024 .f32 := m ((c : Thread nD τ).loc main_arg3)
abbrev G (c : Dev nD) : FVec Ideal S1024x1024 .f32 := m ((c : Thread nD τ).loc main_arg4)
abbrev B (c : Dev nD) : FVec Ideal S1024 .f32 := m ((c : Thread nD τ).loc main_arg5)
abbrev W (c : Dev nD) : FVec Ideal S2048x2048 .f32 := m ((c : Thread nD τ).loc main_arg6)
abbrev H (c : Dev nD) : FVec Ideal S16x2048x2048 .f32 := m ((c : Thread nD τ).loc main_arg7)

/-! ## The arrays the windows read -/

theorem v1_at (c : Dev nD) (r : Fin 32768) (k : Fin 1024) :
    (show FVec Ideal S32768x1024 .bf16 from V m c main_v1) (ix2 r k) = YA m c (ix3 ⟨r / 2048, by omega⟩ ⟨r % 2048, by omega⟩ k) := by
  unfold V
  simp only [List.flatten_cons, List.flatten_nil, List.cons_append, List.nil_append, List.append_nil]
  after_reads_at

theorem v2_at (c : Dev nD) (r : Fin 32768) (k : Fin 1024) :
    (show FVec Ideal S32768x1024 .f32 from V m c main_v2) (ix2 r k) = YS m c (ix3 ⟨r / 2048, by omega⟩ ⟨r % 2048, by omega⟩ k) := by
  unfold V
  simp only [List.flatten_cons, List.flatten_nil, List.cons_append, List.nil_append, List.append_nil]
  after_reads_at

theorem v3_at (c : Dev nD) (r : Fin 32768) (k : Fin 5120) :
    (show FVec Ideal S32768x5120 .f32 from V m c main_v3) (ix2 r k) = P m c (ix3 ⟨r / 2048, by omega⟩ ⟨r % 2048, by omega⟩ k) := by
  unfold V
  simp only [List.flatten_cons, List.flatten_nil, List.cons_append, List.nil_append, List.append_nil]
  after_reads_at

theorem v4_at (c : Dev nD) (l k : Fin 1024) : (show FVec Ideal S1024x1024 .bf16 from V m c main_v4) (ix2 l k) = G m c (ix2 l k) := by
  unfold V
  simp only [List.flatten_cons, List.flatten_nil, List.cons_append, List.nil_append, List.append_nil]
  after_reads_at

theorem v5_at (c : Dev nD) (k q : Fin 2048) : (show FVec Ideal S2048x2048 .bf16 from V m c main_v5) (ix2 k q) = W m c (ix2 k q) := by
  unfold V
  simp only [List.flatten_cons, List.flatten_nil, List.cons_append, List.nil_append, List.append_nil]
  after_reads_at

theorem v6_at (c : Dev nD) (r : Fin 32768) (k : Fin 2048) :
    (show FVec Ideal S32768x2048 .f32 from V m c main_v6) (ix2 r k) = H m c (ix3 ⟨r / 2048, by omega⟩ ⟨r % 2048, by omega⟩ k) := by
  unfold V
  simp only [List.flatten_cons, List.flatten_nil, List.cons_append, List.nil_append, List.append_nil]
  after_reads_at

theorem v7_at (c : Dev nD) (k : Fin 1024) : (show FVec Ideal S1x1024 .f32 from V m c main_v7) (ix2 0 k) = D m c (ix1 k) := by
  unfold V
  simp only [List.flatten_cons, List.flatten_nil, List.cons_append, List.nil_append, List.append_nil]
  after_reads_at

theorem v8_at (c : Dev nD) (k : Fin 1024) : (show FVec Ideal S1x1024 .f32 from V m c main_v8) (ix2 0 k) = B m c (ix1 k) := by
  unfold V
  simp only [List.flatten_cons, List.flatten_nil, List.cons_append, List.nil_append, List.append_nil]
  after_reads_at

/-! ## The windows' blocks -/

theorem ya_at (c : Dev nD) (t : Fin cfg0.N) (i : Fin 512) (k : Fin 1024) (r : Fin 32768) (hr : r.val = t.val * 512 + i.val) :
    (show FVec Ideal S512x1024 .bf16 from iblk m c 0 t) (ix2 i k) = YA m c (ix3 ⟨r / 2048, by omega⟩ ⟨r % 2048, by omega⟩ k) := by
  refine Eq.trans (?_ : _ = (show FVec Ideal S32768x1024 .bf16 from V m c main_v1) (ix2 r k)) (v1_at m c r k)
  blk_ext [iblk, idx0 t]

theorem ys_at (c : Dev nD) (t : Fin cfg0.N) (i : Fin 512) (k : Fin 1024) (r : Fin 32768) (hr : r.val = t.val * 512 + i.val) :
    (show FVec Ideal S512x1024 .f32 from iblk m c 1 t) (ix2 i k) = YS m c (ix3 ⟨r / 2048, by omega⟩ ⟨r % 2048, by omega⟩ k) := by
  refine Eq.trans (?_ : _ = (show FVec Ideal S32768x1024 .f32 from V m c main_v2) (ix2 r k)) (v2_at m c r k)
  blk_ext [iblk, idx1 t]

theorem u_at (c : Dev nD) (t : Fin cfg0.N) (i : Fin 512) (k : Fin 1024) (r : Fin 32768) (hr : r.val = t.val * 512 + i.val) :
    (show FVec Ideal S512x1024 .f32 from iblk m c 2 t) (ix2 i k) =
      P m c (ix3 ⟨r / 2048, by omega⟩ ⟨r % 2048, by omega⟩ ⟨4096 + k, by omega⟩) := by
  refine Eq.trans (?_ : _ = (show FVec Ideal S32768x5120 .f32 from V m c main_v3) (ix2 r ⟨4096 + k, by omega⟩)) (v3_at m c r _)
  blk_ext [iblk, idx2 t]

theorem d_at (c : Dev nD) (t : Fin cfg0.N) (k : Fin 1024) : (show FVec Ideal S1x1024 .f32 from iblk m c 3 t) (ix2 0 k) = D m c (ix1 k) := by
  refine Eq.trans (?_ : _ = (show FVec Ideal S1x1024 .f32 from V m c main_v7) (ix2 0 k)) (v7_at m c k)
  blk_ext [iblk, idx3 t]

theorem g_at (c : Dev nD) (t : Fin cfg0.N) (l k : Fin 1024) :
    (show FVec Ideal S1024x1024 .bf16 from iblk m c 4 t) (ix2 l k) = G m c (ix2 l k) := by
  refine Eq.trans (?_ : _ = (show FVec Ideal S1024x1024 .bf16 from V m c main_v4) (ix2 l k)) (v4_at m c l k)
  blk_ext [iblk, idx4 t]

theorem b_at (c : Dev nD) (t : Fin cfg0.N) (k : Fin 1024) : (show FVec Ideal S1x1024 .f32 from iblk m c 5 t) (ix2 0 k) = B m c (ix1 k) := by
  refine Eq.trans (?_ : _ = (show FVec Ideal S1x1024 .f32 from V m c main_v8) (ix2 0 k)) (v8_at m c k)
  blk_ext [iblk, idx5 t]

theorem wa_at (c : Dev nD) (t : Fin cfg0.N) (k : Fin 1024) (q : Fin 2048) :
    (show FVec Ideal S1024x2048 .bf16 from iblk m c 6 t) (ix2 k q) = W m c (ix2 ⟨k.val, by omega⟩ q) := by
  refine Eq.trans (?_ : _ = (show FVec Ideal S2048x2048 .bf16 from V m c main_v5) (ix2 ⟨k.val, by omega⟩ q)) (v5_at m c _ q)
  blk_ext [iblk, idx6 t]

theorem wz_at (c : Dev nD) (t : Fin cfg0.N) (k : Fin 1024) (q : Fin 2048) :
    (show FVec Ideal S1024x2048 .bf16 from iblk m c 7 t) (ix2 k q) = W m c (ix2 ⟨1024 + k.val, by omega⟩ q) := by
  refine Eq.trans (?_ : _ = (show FVec Ideal S2048x2048 .bf16 from V m c main_v5) (ix2 ⟨1024 + k.val, by omega⟩ q)) (v5_at m c _ q)
  blk_ext [iblk, idx7 t]

theorem h_at (c : Dev nD) (t : Fin cfg0.N) (i : Fin 512) (q : Fin 2048) (r : Fin 32768) (hr : r.val = t.val * 512 + i.val) :
    (show FVec Ideal S512x2048 .f32 from iblk m c 8 t) (ix2 i q) = H m c (ix3 ⟨r / 2048, by omega⟩ ⟨r % 2048, by omega⟩ q) := by
  refine Eq.trans (?_ : _ = (show FVec Ideal S32768x2048 .f32 from V m c main_v6) (ix2 r q)) (v6_at m c r q)
  blk_ext [iblk, idx8 t]

/-! ## The output -/

theorem out_eq (x0 : Vec Ideal S512x1024 .bf16) (x1 x2 : Vec Ideal S512x1024 .f32) (x3 : Vec Ideal S1x1024 .f32) (x4 : Vec Ideal S1024x1024 .bf16)
    (x5 : Vec Ideal S1x1024 .f32) (x6 x7 : Vec Ideal S1024x2048 .bf16) (x8 : Vec Ideal S512x2048 .f32) :
    out0_9 x0 x1 x2 x3 x4 x5 x6 x7 x8 = k0_pay1 (k0_pay2 x1 x3 x2 x4 x5) (k0_pay3 x8) (k0_pay4 x0) x6 x7 := by
  frame_out

theorem body_at (x0 : Vec Ideal S512x1024 .bf16) (x1 x2 : Vec Ideal S512x1024 .f32) (x3 : Vec Ideal S1x1024 .f32) (x4 : Vec Ideal S1024x1024 .bf16)
    (x5 : Vec Ideal S1x1024 .f32) (x6 x7 : Vec Ideal S1024x2048 .bf16) (x8 : Vec Ideal S512x2048 .f32) (i : Fin 512) (q : Fin 2048) :
    out0_9 x0 x1 x2 x3 x4 x5 x6 x7 x8 (ix2 i q) = out (x8 (ix2 i q)) (fun k => x0 (ix2 i k))
      (gated (fun l => x1 (ix2 i l) + x3 (ix2 0 l) * x2 (ix2 i l)) (fun l k => x4 (ix2 l k)) (fun k => x5 (ix2 0 k)))
      (fun k => x6 (ix2 k q)) (fun k => x7 (ix2 k q)) := by
  rw [out_eq, pay1_at, pay3_at]
  simp only [pay4_at, pay2_at]

/-- The reference's array at the kernel's arguments. -/
abbrev Ref (c : Dev nD) : FVec Ideal S32768x2048 .f32 :=
  Cert.Reference4Ideal.Read.val_main_v32 (F := Ideal) (YA m c) (YS m c) (P m c) (D m c) (G m c) (B m c) (W m c) (H m c)

/-- A grid point's block of the reference's array. -/
theorem out_at (c : Dev nD) (t : Fin cfg0.N) (i : Fin 512) (q : Fin 2048) (r : Fin 32768) (hr : r.val = t.val * 512 + i.val) :
    (show FVec Ideal S512x2048 .f32 from out0_9 (iblk m c 0 t) (iblk m c 1 t) (iblk m c 2 t) (iblk m c 3 t) (iblk m c 4 t) (iblk m c 5 t)
      (iblk m c 6 t) (iblk m c 7 t) (iblk m c 8 t)) (ix2 i q) = Ref m c (ix2 r q) := by
  refine (body_at _ _ _ _ _ _ _ _ _ i q).trans (Eq.trans ?_
    (R.ref_at (YA m c) (YS m c) (P m c) (D m c) (G m c) (B m c) (W m c) (H m c) r q).symm)
  have e1 := h_at m c t i q r hr
  have e2 := funext fun k => ya_at m c t i k r hr
  have e3 : (fun l => (show FVec Ideal S512x1024 .f32 from iblk m c 1 t) (ix2 i l) +
      (show FVec Ideal S1x1024 .f32 from iblk m c 3 t) (ix2 0 l) * (show FVec Ideal S512x1024 .f32 from iblk m c 2 t) (ix2 i l)) =
      R.skip (YS m c) (P m c) (D m c) ⟨r / 2048, by omega⟩ ⟨r % 2048, by omega⟩ :=
    funext fun l => congrArg₂ (· + ·) (ys_at m c t i l r hr) (congrArg₂ (· * ·) (d_at m c t l) (u_at m c t i l r hr))
  have e4 := funext fun l => funext fun k => g_at m c t l k
  have e5 := funext fun k => b_at m c t k
  have e6 := funext fun k => wa_at m c t k q
  have e7 := funext fun k => wz_at m c t k q
  exact out_congr e1 e2 (gated_congr e3 e4 e5) e6 e7

/-- The array the kernel leaves is the reference's. -/
theorem final (c : Dev nD) : (dats m 0 c).arrAt 9 cfg0.N = (show FVec Ideal S32768x2048 .f32 from Ref m c) := by
  refine (dats m 0 c).arrAt_eq_of_covers 9 _ (by decide +kernel) fun t hf y => ?_
  have ht := point_lt t
  have h0 : (y 0).val < 512 := (y 0).isLt
  have h1 : (y 1).val < 2048 := (y 1).isLt
  have hZ := out_at m c t ⟨(y 0).val, h0⟩ ⟨(y 1).val, h1⟩ ⟨t.val * 512 + (y 0).val, by omega⟩ rfl
  rw [after0_9]
  generalize out0_9 (iblk m c 0 t) (iblk m c 1 t) (iblk m c 2 t) (iblk m c 3 t) (iblk m c 4 t) (iblk m c 5 t)
    (iblk m c 6 t) (iblk m c 7 t) (iblk m c 8 t) = Z at hZ ⊢
  refine Eq.trans (?_ : _ = (show FVec Ideal S512x2048 .f32 from Z) (ix2 ⟨(y 0).val, h0⟩ ⟨(y 1).val, h1⟩)) (hZ.trans ?_)
  · blk_ext [idx9 t]
  · generalize Ref m c = X
    blk_ext [idx9 t]

theorem claim : Cert.algebraic_Kernel4Ideal_Reference4Ideal := by
  pair_intro
  · run_from Cert.Kernel4Ideal.Value.run_blocks m g
  · run_from Cert.Reference4Ideal.Value.run m' g'
    obtain ⟨h0, h1, h2, h3, h4, h5, h6, h7⟩ := hagree c
    refine (Cert.Reference4Ideal.Read.val_main_v32_eq m' c).trans ?_
    rw [h0, h1, h2, h3, h4, h5, h6, h7]
    exact (final m c).symm

theorem frame_reference : Cert.quiescent_Reference4Ideal := by
  intro m g _
  exact (θ_run _ _ _).mono (fun r h => ⟨fun c => (h c).2, sem_eq_zero_of_no_sems (by decide) r.2⟩) (Cert.Reference4Ideal.Value.run m g)

end Cert.Mix
-- ==== Proof.OutProj.lean ====
/- The attention's output projection: the kernel's windows and payload, and that its array is the reference's. -/
module

public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt

@[expose] public section

set_option maxRecDepth 16384

noncomputable section

namespace Cert.OutProj

open Idealize.ShloMosaic Idealize.ShloMosaic.TcCoe Idealize.SL.Sem
open Cert.Kernel5Ideal Cert.Kernel5Ideal.Gen

theorem pay_at (h : Vec Ideal S512x2048 .f32) (o : Vec Ideal S512x2048 .bf16) (w : Vec Ideal S2048x2048 .bf16) (i : Fin 512) (q : Fin 2048) :
    k0_pay1 (F := Ideal) h o w (ix2 i q) = h (ix2 i q) + ∑ k : Fin 2048, o (ix2 i k) * w (ix2 k q) := by
  pointwise [k0_pay1]

theorem ref_at (x0 : FVec Ideal S16x2048x2048 .f32) (x1 : FVec Ideal S2048x2048 .f32) (x2 : FVec Ideal S16x2048x2048 .f32) (r : Fin 32768) (q : Fin 2048) :
    Cert.Reference5Ideal.Read.val_main_v2 (F := Ideal) x0 x1 x2 (ix2 r q) = x2 (ix3 ⟨r / 2048, by omega⟩ ⟨r % 2048, by omega⟩ q) +
      ∑ k : Fin 2048, x0 (ix3 ⟨r / 2048, by omega⟩ ⟨r % 2048, by omega⟩ k) * x1 (ix2 k q) := by
  pointwise [Cert.Reference5Ideal.Read.val_main_v0, Cert.Reference5Ideal.Read.val_main_v1, Cert.Reference5Ideal.Read.val_main_v2]

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

theorem point_lt (t : Fin cfg0.N) : t.val < 64 := lt_of_lt_of_eq t.isLt N_0

variable (m : (ℓ : Loc nD τ sig) → Buf (Elt Ideal) ℓ)

abbrev O (c : Dev nD) : FVec Ideal S16x2048x2048 .f32 := m ((c : Thread nD τ).loc main_arg0)
abbrev W (c : Dev nD) : FVec Ideal S2048x2048 .f32 := m ((c : Thread nD τ).loc main_arg1)
abbrev H (c : Dev nD) : FVec Ideal S16x2048x2048 .f32 := m ((c : Thread nD τ).loc main_arg2)

theorem v1_at (c : Dev nD) (r : Fin 32768) (k : Fin 2048) :
    (show FVec Ideal S32768x2048 .bf16 from V m c main_v1) (ix2 r k) = O m c (ix3 ⟨r / 2048, by omega⟩ ⟨r % 2048, by omega⟩ k) := by
  unfold V
  simp only [List.flatten_cons, List.flatten_nil, List.cons_append, List.nil_append, List.append_nil]
  after_reads_at

theorem v2_at (c : Dev nD) (k q : Fin 2048) : (show FVec Ideal S2048x2048 .bf16 from V m c main_v2) (ix2 k q) = W m c (ix2 k q) := by
  unfold V
  simp only [List.flatten_cons, List.flatten_nil, List.cons_append, List.nil_append, List.append_nil]
  after_reads_at

theorem v3_at (c : Dev nD) (r : Fin 32768) (k : Fin 2048) :
    (show FVec Ideal S32768x2048 .f32 from V m c main_v3) (ix2 r k) = H m c (ix3 ⟨r / 2048, by omega⟩ ⟨r % 2048, by omega⟩ k) := by
  unfold V
  simp only [List.flatten_cons, List.flatten_nil, List.cons_append, List.nil_append, List.append_nil]
  after_reads_at

theorem in_at (c : Dev nD) (t : Fin cfg0.N) (i : Fin 512) (k : Fin 2048) (r : Fin 32768) (hr : r.val = t.val * 512 + i.val) :
    (show FVec Ideal S512x2048 .bf16 from iblk m c 0 t) (ix2 i k) = O m c (ix3 ⟨r / 2048, by omega⟩ ⟨r % 2048, by omega⟩ k) := by
  refine Eq.trans (?_ : _ = (show FVec Ideal S32768x2048 .bf16 from V m c main_v1) (ix2 r k)) (v1_at m c r k)
  blk_ext [iblk, idx0 t]

theorem weight_at (c : Dev nD) (t : Fin cfg0.N) (k q : Fin 2048) :
    (show FVec Ideal S2048x2048 .bf16 from iblk m c 1 t) (ix2 k q) = W m c (ix2 k q) := by
  refine Eq.trans (?_ : _ = (show FVec Ideal S2048x2048 .bf16 from V m c main_v2) (ix2 k q)) (v2_at m c k q)
  blk_ext [iblk, idx1 t]

theorem hid_at (c : Dev nD) (t : Fin cfg0.N) (i : Fin 512) (k : Fin 2048) (r : Fin 32768) (hr : r.val = t.val * 512 + i.val) :
    (show FVec Ideal S512x2048 .f32 from iblk m c 2 t) (ix2 i k) = H m c (ix3 ⟨r / 2048, by omega⟩ ⟨r % 2048, by omega⟩ k) := by
  refine Eq.trans (?_ : _ = (show FVec Ideal S32768x2048 .f32 from V m c main_v3) (ix2 r k)) (v3_at m c r k)
  blk_ext [iblk, idx2 t]

theorem out_eq (x0 : Vec Ideal S512x2048 .bf16) (x1 : Vec Ideal S2048x2048 .bf16) (x2 : Vec Ideal S512x2048 .f32) :
    out0_3 x0 x1 x2 = k0_pay1 x2 x0 x1 := by
  frame_out

/-- A grid point's block of the reference's array. -/
theorem out_at (c : Dev nD) (t : Fin cfg0.N) (i : Fin 512) (q : Fin 2048) (r : Fin 32768) (hr : r.val = t.val * 512 + i.val) :
    (show FVec Ideal S512x2048 .f32 from out0_3 (iblk m c 0 t) (iblk m c 1 t) (iblk m c 2 t)) (ix2 i q) =
      Cert.Reference5Ideal.Read.val_main_v2 (F := Ideal) (O m c) (W m c) (H m c) (ix2 r q) := by
  refine (congrFun (out_eq _ _ _) (ix2 i q)).trans ((pay_at _ _ _ i q).trans (Eq.trans ?_ (ref_at (O m c) (W m c) (H m c) r q).symm))
  exact congrArg₂ (· + ·) (hid_at m c t i q r hr)
    (Finset.sum_congr rfl fun k _ => congrArg₂ (· * ·) (in_at m c t i k r hr) (weight_at m c t k q))

/-- The array the kernel leaves is the reference's. -/
theorem final (c : Dev nD) : (dats m 0 c).arrAt 3 cfg0.N =
    (show FVec Ideal S32768x2048 .f32 from Cert.Reference5Ideal.Read.val_main_v2 (F := Ideal) (O m c) (W m c) (H m c)) := by
  refine (dats m 0 c).arrAt_eq_of_covers 3 _ (by decide +kernel) fun t hf y => ?_
  have ht := point_lt t
  have h0 : (y 0).val < 512 := (y 0).isLt
  have h1 : (y 1).val < 2048 := (y 1).isLt
  have hZ := out_at m c t ⟨(y 0).val, h0⟩ ⟨(y 1).val, h1⟩ ⟨t.val * 512 + (y 0).val, by omega⟩ rfl
  rw [after0_3]
  generalize out0_3 (iblk m c 0 t) (iblk m c 1 t) (iblk m c 2 t) = Z at hZ ⊢
  refine Eq.trans (?_ : _ = (show FVec Ideal S512x2048 .f32 from Z) (ix2 ⟨(y 0).val, h0⟩ ⟨(y 1).val, h1⟩)) (hZ.trans ?_)
  · blk_ext [idx3 t]
  · blk_ext [idx3 t]

theorem claim : Cert.algebraic_Kernel5Ideal_Reference5Ideal := by
  pair_intro
  · run_from Cert.Kernel5Ideal.Value.run_blocks m g
  · run_from Cert.Reference5Ideal.Value.run m' g'
    refine (Cert.Reference5Ideal.Read.val_main_v2_eq _ _ _).trans ?_
    exact (final m c).symm

theorem frame_reference : Cert.quiescent_Reference5Ideal := by
  intro m g _
  exact (θ_run _ _ _).mono (fun r h => ⟨fun c => (h c).2, sem_eq_zero_of_no_sems (by decide) r.2⟩) (Cert.Reference5Ideal.Value.run m g)

end Cert.OutProj
-- ==== Proof.S5Pre.lean ====
/- What the precondition says of each argument entry: it is a real number, and no diagonal entry is zero. -/
module

public import proofs.«01_k».proof.Pre_finite
public import Idealize.ShloMosaic.Lib.ReduceAll
public import Idealize.ShloMosaic.Lib.Pointwise

@[expose] public section

noncomputable section

namespace Cert.S5

open Idealize.ShloMosaic
open Cert.Pre_finite

/-- An extended real that is a real number. -/
def IsReal (x : EReal) : Prop := ∃ r : ℝ, x = (r : EReal)

/-- A bit that says "below infinity in absolute value" says that the number is real. -/
theorem real_of_bit (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have hlt : max x (-x) < ⊤ := by
    by_contra hn
    have : Ideal.cmp .olt (max x (-x)) ⊤ = BitVec.ofBool (decide (max x (-x) < ⊤)) := rfl
    rw [this, decide_eq_false hn] at h
    exact absurd h (by decide)
  have h1 : x ≠ ⊤ := fun e => by rw [e] at hlt; simp at hlt
  have h2 : x ≠ ⊥ := fun e => by rw [e] at hlt; simp at hlt
  exact ⟨x.toReal, (EReal.coe_toReal h1 h2).symm⟩

/-- A bit that says "above zero". -/
theorem pos_of_bit (x : EReal) (h : Ideal.cmp .ogt x (Ideal.ofBits .f32 0x00000000#32) = 1#1) : 0 < x := by
  have hz : Ideal.ofBits .f32 0x00000000#32 = 0 := by simp [Ideal.ofBits, Ideal.ieee]
  rw [hz] at h
  by_contra hn
  have : Ideal.cmp .ogt x 0 = BitVec.ofBool (decide (0 < x)) := rfl
  rw [this, decide_eq_false hn] at h
  exact absurd h (by decide)

theorem both {a b : BitVec 1} (h : IntOp.andi a b = 1#1) : a = 1#1 ∧ b = 1#1 := IntOp.andi_eq_one.1 h

instance : Subsingleton S_.Idx := ⟨fun a b => funext fun i => i.elim0⟩

variable [Facts]

/-- The precondition, entry by entry. -/
theorem entries (x0 x1 : FVec Ideal S1x64x64 .f32) (x2 : FVec Ideal S1x64 .f32) (x3 x4 : FVec Ideal S1x64x64x16 .f32)
    (x5 x6 : FVec Ideal S1x64x16x64 .f32) (h : Cert.Pre_finite.fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i))
      ∧ (∀ i, IsReal (x6 i)) ∧ ∀ i, (0 : EReal) < x0 i * x0 i + x1 i * x1 i := by
  have h := congrFun h (fun a => a.elim0)
  dsimp only [Cert.Pre_finite.fn, fn_part1, fn_part2] at h
  obtain ⟨h, hd⟩ := both h
  obtain ⟨h, h6⟩ := both h
  obtain ⟨h, h5⟩ := both h
  obtain ⟨h, h4⟩ := both h
  obtain ⟨h, h3⟩ := both h
  obtain ⟨h, h2⟩ := both h
  obtain ⟨h0, h1⟩ := both h
  exact ⟨fun i => real_of_bit _ (Host.reduce_andi_all _ _ _ _ _ h0 i), fun i => real_of_bit _ (Host.reduce_andi_all _ _ _ _ _ h1 i),
    fun i => real_of_bit _ (Host.reduce_andi_all _ _ _ _ _ h2 i), fun i => real_of_bit _ (Host.reduce_andi_all _ _ _ _ _ h3 i),
    fun i => real_of_bit _ (Host.reduce_andi_all _ _ _ _ _ h4 i), fun i => real_of_bit _ (Host.reduce_andi_all _ _ _ _ _ h5 i),
    fun i => real_of_bit _ (Host.reduce_andi_all _ _ _ _ _ h6 i), fun i => pos_of_bit _ (Host.reduce_andi_all _ _ _ _ _ hd i)⟩

end Cert.S5
-- ==== Proof.S5Defs.lean ====
/- The state-space layer's numbers, one at a time, over the extended reals: the discretised diagonal, the discretised
   input weights, the powers of the diagonal, and the recurrence. -/
module

public import Idealize.ShloMosaic.Lib.Pipeline.ValueKit
public import Idealize.ShloMosaic.Lib.Pointwise

@[expose] public section

noncomputable section

namespace Cert.S5

open Idealize.ShloMosaic

/-- The discretised diagonal entry, its real part, of a continuous entry `r + i·s` and a step `exp l`. -/
def aRe (r s l : EReal) : EReal := Ideal.exp (r * Ideal.exp l) * Ideal.cos (s * Ideal.exp l)

/-- The discretised diagonal entry, its imaginary part. -/
def aIm (r s l : EReal) : EReal := Ideal.exp (r * Ideal.exp l) * Ideal.sin (s * Ideal.exp l)

/-- The factor of the input weights, its real part: (a − 1) divided by the continuous entry. -/
def fRe (r s l : EReal) : EReal := Ideal.div ((aRe r s l - 1) * r + aIm r s l * s) (r * r + s * s)

/-- The factor of the input weights, its imaginary part. -/
def fIm (r s l : EReal) : EReal := Ideal.div (aIm r s l * r - (aRe r s l - 1) * s) (r * r + s * s)

/-- A discretised input weight, its real part. -/
def bRe (r s l u v : EReal) : EReal := fRe r s l * u - fIm r s l * v

/-- A discretised input weight, its imaginary part. -/
def bIm (r s l u v : EReal) : EReal := fRe r s l * v + fIm r s l * u

/-- The powers of a complex number, as the kernel's host code forms them. -/
def pw (a b : EReal) : ℕ → EReal × EReal
  | 0 => (1, 0)
  | k + 1 => ((pw a b k).1 * a - (pw a b k).2 * b, (pw a b k).1 * b + (pw a b k).2 * a)

/-- The recurrence h ← a·h + x over the steps, from a first state. -/
def rec (a b : EReal) (xr xi : ℕ → EReal) (hr hi : EReal) : ℕ → EReal × EReal
  | 0 => (hr, hi)
  | t + 1 => (a * (rec a b xr xi hr hi t).1 - b * (rec a b xr xi hr hi t).2 + xr t,
      a * (rec a b xr xi hr hi t).2 + b * (rec a b xr xi hr hi t).1 + xi t)

/-- An entry of the unit matrix. -/
def hit (e k : ℕ) : EReal := if e = k then 1 else 0

end Cert.S5
-- ==== Proof.S5Math.lean ====
/- The recurrence and its closed form: over the reals a linear recurrence is a sum of powers. -/
module

public import proofs.«01_k».proof.Proof.S5Pre
public import proofs.«01_k».proof.Proof.S5Defs
public import Mathlib.Data.Complex.Basic
public import Mathlib.Data.Complex.BigOperators

@[expose] public section

noncomputable section

namespace Cert.S5

open Idealize.ShloMosaic

/-- A complex number as a pair of extended reals. -/
def two (z : ℂ) : EReal × EReal := ((z.re : EReal), (z.im : EReal))

theorem sum_real {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem pw_two (a : ℂ) (k : ℕ) : pw (a.re : EReal) (a.im : EReal) k = two (a ^ k) := by
  induction k with
  | zero => simp [pw, two]
  | succ k ih =>
    rw [pw, ih, pow_succ]
    simp only [two, Complex.mul_re, Complex.mul_im, EReal.coe_sub, EReal.coe_add, EReal.coe_mul]

/-- The recurrence over the complex numbers. -/
def step (a : ℂ) (x : ℕ → ℂ) (h : ℂ) : ℕ → ℂ
  | 0 => h
  | t + 1 => a * step a x h t + x t

theorem rec_two (a h : ℂ) (x : ℕ → ℂ) (xr xi : ℕ → EReal) (hr : ∀ t, xr t = ((x t).re : EReal)) (hi : ∀ t, xi t = ((x t).im : EReal)) (t : ℕ) :
    rec (a.re : EReal) (a.im : EReal) xr xi (h.re : EReal) (h.im : EReal) t = two (step a x h t) := by
  induction t with
  | zero => rfl
  | succ t ih =>
    rw [rec, ih, step, hr, hi]
    simp only [two, Complex.mul_re, Complex.mul_im, Complex.add_re, Complex.add_im, EReal.coe_sub, EReal.coe_add, EReal.coe_mul]

/-- One input `b` at step `s`, from a zero state. -/
theorem step_pulse (a b : ℂ) (s : ℕ) (x : ℕ → ℂ) (hx : ∀ t, x t = if t = s then b else 0) (t : ℕ) :
    step a x 0 t = if s < t then a ^ (t - 1 - s) * b else 0 := by
  induction t with
  | zero => simp [step]
  | succ t ih =>
    rw [step, ih, hx]
    rcases Nat.lt_trichotomy s t with h | h | h
    · rw [if_pos h, if_neg (by omega), if_pos (by omega), show t + 1 - 1 - s = (t - 1 - s) + 1 by omega, pow_succ]
      ring
    · rw [if_neg (by omega), if_pos h.symm, if_pos (by omega), show t + 1 - 1 - s = 0 by omega]
      simp
    · rw [if_neg (by omega), if_neg (by omega), if_neg (by omega)]
      simp

/-- No input. -/
theorem step_free (a h : ℂ) (x : ℕ → ℂ) (t : ℕ) (hx : ∀ u, u < t → x u = 0) : step a x h t = a ^ t * h := by
  induction t with
  | zero => simp [step]
  | succ t ih =>
    rw [step, ih fun u hu => hx u (by omega), hx t (by omega), pow_succ]
    ring

/-- No input and a zero state. -/
theorem step_none (a : ℂ) (x : ℕ → ℂ) (t : ℕ) (hx : ∀ u, x u = 0) : step a x 0 t = 0 := by
  rw [step_free a 0 x t fun u _ => hx u, mul_zero]

/-! ## Which entries are real -/

theorem IsReal.mul {x y : EReal} : IsReal x → IsReal y → IsReal (x * y) := by
  rintro ⟨a, rfl⟩ ⟨b, rfl⟩; exact ⟨a * b, (EReal.coe_mul a b).symm⟩

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.one : IsReal 1 := ⟨1, rfl⟩

theorem IsReal.exp {x : EReal} : IsReal x → IsReal (Ideal.exp x) := by
  rintro ⟨a, rfl⟩; exact ⟨Real.exp a, rfl⟩

theorem IsReal.cos {x : EReal} : IsReal x → IsReal (Ideal.cos x) := by
  rintro ⟨a, rfl⟩; exact ⟨Real.cos a, rfl⟩

theorem IsReal.sin {x : EReal} : IsReal x → IsReal (Ideal.sin x) := by
  rintro ⟨a, rfl⟩; exact ⟨Real.sin a, rfl⟩

theorem IsReal.div {x y : EReal} (hx : IsReal x) (hy : IsReal y) (h : 0 < y) : IsReal (Ideal.div x y) := by
  obtain ⟨b, rfl⟩ := hy
  have hb : b ≠ 0 := fun e => by rw [e] at h; exact lt_irrefl _ h
  rw [Ideal.div_coe hb]
  exact hx.mul ⟨1 / b, rfl⟩

theorem IsReal.aRe {r s l : EReal} (hr : IsReal r) (hs : IsReal s) (hl : IsReal l) : IsReal (aRe r s l) :=
  (hr.mul hl.exp).exp.mul (hs.mul hl.exp).cos

theorem IsReal.aIm {r s l : EReal} (hr : IsReal r) (hs : IsReal s) (hl : IsReal l) : IsReal (aIm r s l) :=
  (hr.mul hl.exp).exp.mul (hs.mul hl.exp).sin

theorem IsReal.fRe {r s l : EReal} (hr : IsReal r) (hs : IsReal s) (hl : IsReal l) (h : 0 < r * r + s * s) : IsReal (fRe r s l) :=
  ((((IsReal.aRe hr hs hl).sub .one).mul hr).add ((IsReal.aIm hr hs hl).mul hs)).div ((hr.mul hr).add (hs.mul hs)) h

theorem IsReal.fIm {r s l : EReal} (hr : IsReal r) (hs : IsReal s) (hl : IsReal l) (h : 0 < r * r + s * s) : IsReal (fIm r s l) :=
  (((IsReal.aIm hr hs hl).mul hr).sub (((IsReal.aRe hr hs hl).sub .one).mul hs)).div ((hr.mul hr).add (hs.mul hs)) h

theorem IsReal.bRe {r s l u v : EReal} (hr : IsReal r) (hs : IsReal s) (hl : IsReal l) (hu : IsReal u) (hv : IsReal v)
    (h : 0 < r * r + s * s) : IsReal (bRe r s l u v) :=
  ((IsReal.fRe hr hs hl h).mul hu).sub ((IsReal.fIm hr hs hl h).mul hv)

theorem IsReal.bIm {r s l u v : EReal} (hr : IsReal r) (hs : IsReal s) (hl : IsReal l) (hu : IsReal u) (hv : IsReal v)
    (h : 0 < r * r + s * s) : IsReal (bIm r s l u v) :=
  ((IsReal.fRe hr hs hl h).mul hv).add ((IsReal.fIm hr hs hl h).mul hu)

/-- A real pair is a complex number. -/
theorem IsReal.pair {x y : EReal} : IsReal x → IsReal y → ∃ z : ℂ, x = (z.re : EReal) ∧ y = (z.im : EReal) := by
  rintro ⟨a, rfl⟩ ⟨b, rfl⟩; exact ⟨⟨a, b⟩, rfl, rfl⟩

/-! ## Sums against a unit matrix -/

/-- The inputs of experiment `e` at step `t`, in group `i`: at most one of the sixteen channels is hit. -/
theorem hit_sum (f : Fin 16 → EReal) (e t i : ℕ) (hi : i < 8) :
    (∑ q : Fin 16, f q * hit e (t * 128 + i * 16 + q.val)) =
      if t = e / 128 ∧ i = e % 128 / 16 then f ⟨e % 16, Nat.mod_lt _ (by omega)⟩ else 0 := by
  by_cases h : t = e / 128 ∧ i = e % 128 / 16
  · rw [if_pos h, Finset.sum_eq_single (⟨e % 16, Nat.mod_lt _ (by omega)⟩ : Fin 16)]
    · unfold hit
      rw [if_pos (by dsimp only; omega), mul_one]
    · intro q _ hq
      unfold hit
      rw [if_neg (fun e' => hq (Fin.ext (by dsimp only; omega))), mul_zero]
    · intro h'; exact absurd (Finset.mem_univ _) h'
  · rw [if_neg h]
    refine Finset.sum_eq_zero fun q _ => ?_
    unfold hit
    rw [if_neg (by omega), mul_zero]

end Cert.S5
-- ==== Proof.S5Reads.lean ====
/- The weight preparation's host operations, read one by one: what each array holds in terms of the arrays that it is
   computed from. -/
module

public import Idealize.ShloMosaic.Lib.StableHlo.ReadAt
public import Idealize.ShloMosaic.Lib.Claim
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.S5

open Idealize.ShloMosaic Idealize.ShloMosaic.TcCoe Idealize.SL.Sem
open Cert.KernelIdeal Cert.KernelIdeal.Gen

/-- The references that the host operations write, in order. -/
def written : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_cst, main_v23, main_v24, main_v25, main_v26, main_v27, main_v28, main_v29, main_v30, main_v31, main_v32, main_v33, main_v34, main_v35, main_v36, main_v37, main_v38, main_v39, main_v40, main_v41, main_v42, main_v43, main_v44, main_v45, main_v46, main_cst_0, main_v47, main_cst_1, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_v74, main_v75, main_v76, main_v77, main_v78, main_v79, main_v80, main_v81, main_v82, main_v83, main_v84, main_v85, main_v86, main_v87, main_v88, main_v89, main_v90, main_v91, main_v92, main_v93, main_v94, main_v95, main_v96, main_v97, main_v98, main_v99, main_v100, main_v101, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_v143, main_v144, main_v145, main_v146, main_v147, main_v148, main_v149, main_v150, main_v151, main_v152, main_v153, main_v154, main_v155, main_v156, main_v157, main_v158, main_v159, main_v160, main_v161, main_v162, main_v163, main_v164, main_v165, main_v166, main_v167, main_v168, main_v169, main_v170, main_v171, main_v172, main_v173, main_v174, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205, main_v206, main_v207, main_v208, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242, main_v243, main_v244, main_v245, main_v246, main_v247, main_v248, main_v249, main_v250, main_v251, main_v252, main_v253, main_v254, main_v255, main_v256, main_v257, main_v258, main_v259, main_v260, main_v261, main_v262, main_v263, main_v264, main_v265, main_v266, main_v267, main_v268, main_v269, main_v270, main_v271, main_v272, main_v273, main_v274, main_v275, main_v276, main_v277, main_v278, main_v279, main_v280, main_v281, main_v282, main_v283, main_v284, main_v285, main_v286, main_v287, main_v288]

theorem written_eq : (hostOps0 : List (HloOp τ sig (Elt Ideal))).map HloOp.writes = written.map fun w => {Proc.devRef (τ := τ) .tc w} := rfl

variable (m : (ℓ : Loc nD τ sig) → Buf (Elt Ideal) ℓ) (c : Dev nD)

/-- The buffers after the first `i` host operations. -/
abbrev U (i : ℕ) : Valuation τ sig (Elt Ideal) := StableHlo.upto hostOps0 (fun b => m (c, b)) i

/-- After all the host operations a reference holds what the operation at position `i` leaves there, when no later one writes it. -/
theorem read_op {i : ℕ} {op : HloOp τ sig (Elt Ideal)} {rest : List (HloOp τ sig (Elt Ideal))} {r : Ref sig .tc}
    (hs : (hostOps0 : List (HloOp τ sig (Elt Ideal))).drop i = op :: rest) (hr : r ∉ written.drop (i + 1)) :
    V m c r = op.result (U m c i) (Proc.devRef .tc r) := by
  refine StableHlo.after_last_write (written.drop (i + 1)) hs ?_ hr _
  have h := congrArg (List.drop (i + 1)) written_eq
  rw [← List.map_drop, ← List.map_drop, ← List.tail_drop, hs] at h
  exact h

/-- A reference that no operation from position `i` on writes holds before that operation what it holds after all of them. -/
theorem keep {i : ℕ} {r : Ref sig .tc} (hr : r ∉ written.drop i) : U m c i (Proc.devRef .tc r) = V m c r := by
  have h := StableHlo.after_append ((hostOps0 : List (HloOp τ sig (Elt Ideal))).take i) (hostOps0.drop i) (fun b => m (c, b))
  rw [List.take_append_drop] at h
  have hw := congrArg (List.drop i) written_eq
  rw [← List.map_drop, ← List.map_drop] at hw
  refine Eq.trans ?_ (congrFun h (Proc.devRef .tc r)).symm
  exact (StableHlo.after_unwritten (written.drop i) hw hr _).symm

/-- What a reference holds after the host operations. -/
def rd (r : Ref sig .tc) : Buf (Elt Ideal) ((c : Thread nD τ).loc r) := V m c r

/-- An argument holds what it held at the start. -/
theorem arg {r : Ref sig .tc} (hr : r ∉ written) : rd m c r = m ((c : Thread nD τ).loc r) :=
  StableHlo.after_unwritten written written_eq hr _

/-- What a reference written by a constant holds. -/
theorem nul (i : ℕ) {y : Ref sig .tc} {v hy} {rest : List (HloOp τ sig (Elt Ideal))}
    (hs : (hostOps0 : List (HloOp τ sig (Elt Ideal))).drop i = StableHlo.nullary y v hy :: rest)
    (h : y ∉ written.drop (i + 1)) : rd m c y = v := by
  unfold rd
  rw [read_op m c hs h]
  exact StableHlo.nullary_result y v hy _

/-- What a reference written by an operation of one operand holds. -/
theorem un (i : ℕ) {a y : Ref sig .tc} {f ha hy} {rest : List (HloOp τ sig (Elt Ideal))}
    (hs : (hostOps0 : List (HloOp τ sig (Elt Ideal))).drop i = StableHlo.unary a y f ha hy :: rest)
    (h : y ∉ written.drop (i + 1)) (h' : a ∉ written.drop i) : rd m c y = f (rd m c a) := by
  unfold rd
  rw [read_op m c hs h, ← keep m c h']
  exact StableHlo.unary_result a y f ha hy _

/-- What a reference written by an operation of two operands holds. -/
theorem bin (i : ℕ) {a b y : Ref sig .tc} {f ha hb hy} {rest : List (HloOp τ sig (Elt Ideal))}
    (hs : (hostOps0 : List (HloOp τ sig (Elt Ideal))).drop i = StableHlo.binary a b y f ha hb hy :: rest)
    (h : y ∉ written.drop (i + 1)) (h' : a ∉ written.drop i) (h'' : b ∉ written.drop i) : rd m c y = f (rd m c a) (rd m c b) := by
  unfold rd
  rw [read_op m c hs h, ← keep m c h', ← keep m c h'']
  exact StableHlo.binary_result a b y f ha hb hy _

/-- What a reference written by a reshape holds. -/
theorem cast (i : ℕ) {a y : Ref sig .tc} {he hn ha hy} {rest : List (HloOp τ sig (Elt Ideal))}
    (hs : (hostOps0 : List (HloOp τ sig (Elt Ideal))).drop i = StableHlo.reshape a y he hn ha hy :: rest)
    (h : y ∉ written.drop (i + 1)) (h' : a ∉ written.drop i) : rd m c y = fun k => he ▸ shapeCast y.ty.shape (rd m c a) hn k := by
  unfold rd
  rw [read_op m c hs h, ← keep m c h']
  exact StableHlo.reshape_result a y he hn ha hy _

/-- What a reference written by an operation of many operands holds. -/
theorem nary (i : ℕ) {n : ℕ} {xs : Fin n → Ref sig .tc} {y : Ref sig .tc} {f hx hy} {rest : List (HloOp τ sig (Elt Ideal))}
    (hs : (hostOps0 : List (HloOp τ sig (Elt Ideal))).drop i = StableHlo.nary xs y f hx hy :: rest)
    (h : y ∉ written.drop (i + 1)) (h' : ∀ k, xs k ∉ written.drop i) : rd m c y = f fun k => rd m c (xs k) := by
  unfold rd
  rw [read_op m c hs h, ← funext fun k => keep m c (h' k)]
  exact StableHlo.nary_result xs y f hx hy _

end Cert.S5
-- ==== Proof.S5Prefix.lean ====
/- The arrays that the weight preparation hands to the call, read at one index over the extended reals. -/
module

public import proofs.«01_k».proof.Proof.S5Defs
public import proofs.«01_k».proof.Proof.S5Reads

@[expose] public section

set_option maxRecDepth 16384

noncomputable section

namespace Cert.S5

open Idealize.ShloMosaic Idealize.ShloMosaic.TcCoe Idealize.SL.Sem
open Cert.KernelIdeal Cert.KernelIdeal.Gen

variable (m : (ℓ : Loc nD τ sig) → Buf (Elt Ideal) ℓ) (c : Dev nD)

abbrev X0 : FVec Ideal S1x64x64 .f32 := m ((c : Thread nD τ).loc main_arg0)
abbrev X1 : FVec Ideal S1x64x64 .f32 := m ((c : Thread nD τ).loc main_arg1)
abbrev X2 : FVec Ideal S1x64 .f32 := m ((c : Thread nD τ).loc main_arg2)
abbrev X3 : FVec Ideal S1x64x64x16 .f32 := m ((c : Thread nD τ).loc main_arg3)
abbrev X4 : FVec Ideal S1x64x64x16 .f32 := m ((c : Thread nD τ).loc main_arg4)
abbrev X5 : FVec Ideal S1x64x16x64 .f32 := m ((c : Thread nD τ).loc main_arg5)
abbrev X6 : FVec Ideal S1x64x16x64 .f32 := m ((c : Thread nD τ).loc main_arg6)

/-- The diagonal's real part, of group `g`, entry `n`. -/
abbrev ar (g n : Fin 64) : EReal := aRe (X0 m c (ix3 0 g n)) (X1 m c (ix3 0 g n)) (X2 m c (ix2 0 g))

/-- The diagonal's imaginary part. -/
abbrev ai (g n : Fin 64) : EReal := aIm (X0 m c (ix3 0 g n)) (X1 m c (ix3 0 g n)) (X2 m c (ix2 0 g))

/-- The input weights' real part, of group `g`, entry `n`, channel `q`. -/
abbrev br (g n : Fin 64) (q : Fin 16) : EReal :=
  bRe (X0 m c (ix3 0 g n)) (X1 m c (ix3 0 g n)) (X2 m c (ix2 0 g)) (X3 m c (ix4 0 g n q)) (X4 m c (ix4 0 g n q))

/-- The input weights' imaginary part. -/
abbrev bi (g n : Fin 64) (q : Fin 16) : EReal :=
  bIm (X0 m c (ix3 0 g n)) (X1 m c (ix3 0 g n)) (X2 m c (ix2 0 g)) (X3 m c (ix4 0 g n q)) (X4 m c (ix4 0 g n q))

theorem v0_at (g n : Fin 64) : (show FVec Ideal S64x64 .f32 from rd m c main_v0) (ix2 g n) = X0 m c (ix3 0 g n) := by
  have e_main_v0 := cast m c 0 (y := main_v0) rfl (by decide) (by decide)
  have e_main_arg0 := arg m c (r := main_arg0) (by decide)
  rw [e_main_arg0] at e_main_v0
  refine (congrFun e_main_v0 (ix2 g n)).trans ?_
  show shapeCast S64x64 (X0 m c) shapeCasts_S1x64x64_S64x64 (ix2 g n) = _
  pointwise []

theorem v1_at (g n : Fin 64) : (show FVec Ideal S64x64 .f32 from rd m c main_v1) (ix2 g n) = X1 m c (ix3 0 g n) := by
  have e_main_v1 := cast m c 1 (y := main_v1) rfl (by decide) (by decide)
  have e_main_arg1 := arg m c (r := main_arg1) (by decide)
  rw [e_main_arg1] at e_main_v1
  refine (congrFun e_main_v1 (ix2 g n)).trans ?_
  show shapeCast S64x64 (X1 m c) shapeCasts_S1x64x64_S64x64 (ix2 g n) = _
  pointwise []

theorem v2_at (g : Fin 64) : (show FVec Ideal S64 .f32 from rd m c main_v2) (ix1 g) = X2 m c (ix2 0 g) := by
  have e_main_v2 := cast m c 2 (y := main_v2) rfl (by decide) (by decide)
  have e_main_arg2 := arg m c (r := main_arg2) (by decide)
  rw [e_main_arg2] at e_main_v2
  refine (congrFun e_main_v2 (ix1 g)).trans ?_
  show shapeCast S64 (X2 m c) shapeCasts_S1x64_S64 (ix1 g) = _
  pointwise []

theorem v3_at (g n : Fin 64) (q : Fin 16) : (show FVec Ideal S64x64x16 .f32 from rd m c main_v3) (ix3 g n q) = X3 m c (ix4 0 g n q) := by
  have e_main_v3 := cast m c 3 (y := main_v3) rfl (by decide) (by decide)
  have e_main_arg3 := arg m c (r := main_arg3) (by decide)
  rw [e_main_arg3] at e_main_v3
  refine (congrFun e_main_v3 (ix3 g n q)).trans ?_
  show shapeCast S64x64x16 (X3 m c) shapeCasts_S1x64x64x16_S64x64x16 (ix3 g n q) = _
  pointwise []

theorem v4_at (g n : Fin 64) (q : Fin 16) : (show FVec Ideal S64x64x16 .f32 from rd m c main_v4) (ix3 g n q) = X4 m c (ix4 0 g n q) := by
  have e_main_v4 := cast m c 4 (y := main_v4) rfl (by decide) (by decide)
  have e_main_arg4 := arg m c (r := main_arg4) (by decide)
  rw [e_main_arg4] at e_main_v4
  refine (congrFun e_main_v4 (ix3 g n q)).trans ?_
  show shapeCast S64x64x16 (X4 m c) shapeCasts_S1x64x64x16_S64x64x16 (ix3 g n q) = _
  pointwise []

theorem v5_at (g : Fin 64) (p : Fin 16) (n : Fin 64) : (show FVec Ideal S64x16x64 .f32 from rd m c main_v5) (ix3 g p n) = X5 m c (ix4 0 g p n) := by
  have e_main_v5 := cast m c 5 (y := main_v5) rfl (by decide) (by decide)
  have e_main_arg5 := arg m c (r := main_arg5) (by decide)
  rw [e_main_arg5] at e_main_v5
  refine (congrFun e_main_v5 (ix3 g p n)).trans ?_
  show shapeCast S64x16x64 (X5 m c) shapeCasts_S1x64x16x64_S64x16x64 (ix3 g p n) = _
  pointwise []

theorem v6_at (g : Fin 64) (p : Fin 16) (n : Fin 64) : (show FVec Ideal S64x16x64 .f32 from rd m c main_v6) (ix3 g p n) = X6 m c (ix4 0 g p n) := by
  have e_main_v6 := cast m c 6 (y := main_v6) rfl (by decide) (by decide)
  have e_main_arg6 := arg m c (r := main_arg6) (by decide)
  rw [e_main_arg6] at e_main_v6
  refine (congrFun e_main_v6 (ix3 g p n)).trans ?_
  show shapeCast S64x16x64 (X6 m c) shapeCasts_S1x64x16x64_S64x16x64 (ix3 g p n) = _
  pointwise []

theorem ar_at (g n : Fin 64) : (show FVec Ideal S64x64 .f32 from rd m c main_v15) (ix2 g n) = ar m c g n := by
  have e_main_v7 := un m c 7 (y := main_v7) rfl (by decide) (by decide)
  have e_main_v8 := un m c 8 (y := main_v8) rfl (by decide) (by decide)
  have e_main_v9 := un m c 9 (y := main_v9) rfl (by decide) (by decide)
  have e_main_v10 := bin m c 10 (y := main_v10) rfl (by decide) (by decide) (by decide)
  have e_main_v11 := un m c 11 (y := main_v11) rfl (by decide) (by decide)
  have e_main_v12 := un m c 12 (y := main_v12) rfl (by decide) (by decide)
  have e_main_v13 := bin m c 13 (y := main_v13) rfl (by decide) (by decide) (by decide)
  have e_main_v14 := un m c 14 (y := main_v14) rfl (by decide) (by decide)
  have e_main_v15 := bin m c 15 (y := main_v15) rfl (by decide) (by decide) (by decide)
  dsimp only
  rw [e_main_v15, e_main_v14, e_main_v13, e_main_v12, e_main_v11, e_main_v10, e_main_v9, e_main_v8, e_main_v7]
  pointwise [v0_at, v1_at, v2_at, v3_at, v4_at]
  rfl

theorem ai_at (g n : Fin 64) : (show FVec Ideal S64x64 .f32 from rd m c main_v19) (ix2 g n) = ai m c g n := by
  have e_main_v7 := un m c 7 (y := main_v7) rfl (by decide) (by decide)
  have e_main_v8 := un m c 8 (y := main_v8) rfl (by decide) (by decide)
  have e_main_v9 := un m c 9 (y := main_v9) rfl (by decide) (by decide)
  have e_main_v10 := bin m c 10 (y := main_v10) rfl (by decide) (by decide) (by decide)
  have e_main_v11 := un m c 11 (y := main_v11) rfl (by decide) (by decide)
  have e_main_v16 := un m c 16 (y := main_v16) rfl (by decide) (by decide)
  have e_main_v17 := bin m c 17 (y := main_v17) rfl (by decide) (by decide) (by decide)
  have e_main_v18 := un m c 18 (y := main_v18) rfl (by decide) (by decide)
  have e_main_v19 := bin m c 19 (y := main_v19) rfl (by decide) (by decide) (by decide)
  dsimp only
  rw [e_main_v19, e_main_v18, e_main_v17, e_main_v16, e_main_v11, e_main_v10, e_main_v9, e_main_v8, e_main_v7]
  pointwise [v0_at, v1_at, v2_at, v3_at, v4_at]
  rfl

theorem br_at (g n : Fin 64) (q : Fin 16) : (show FVec Ideal S64x64x16 .f32 from rd m c main_v39) (ix3 g n q) = br m c g n q := by
  have e_main_cst := nul m c 23 (y := main_cst) rfl (by decide)
  have e_main_v23 := un m c 24 (y := main_v23) rfl (by decide) (by decide)
  have e_main_v24 := bin m c 25 (y := main_v24) rfl (by decide) (by decide) (by decide)
  have e_main_v25 := bin m c 26 (y := main_v25) rfl (by decide) (by decide) (by decide)
  have e_main_v26 := bin m c 27 (y := main_v26) rfl (by decide) (by decide) (by decide)
  have e_main_v27 := bin m c 28 (y := main_v27) rfl (by decide) (by decide) (by decide)
  have e_main_v20 := bin m c 20 (y := main_v20) rfl (by decide) (by decide) (by decide)
  have e_main_v21 := bin m c 21 (y := main_v21) rfl (by decide) (by decide) (by decide)
  have e_main_v22 := bin m c 22 (y := main_v22) rfl (by decide) (by decide) (by decide)
  have e_main_v28 := bin m c 29 (y := main_v28) rfl (by decide) (by decide) (by decide)
  have e_main_v33 := un m c 34 (y := main_v33) rfl (by decide) (by decide)
  have e_main_v34 := un m c 35 (y := main_v34) rfl (by decide) (by decide)
  have e_main_v35 := bin m c 36 (y := main_v35) rfl (by decide) (by decide) (by decide)
  have e_main_v29 := bin m c 30 (y := main_v29) rfl (by decide) (by decide) (by decide)
  have e_main_v30 := bin m c 31 (y := main_v30) rfl (by decide) (by decide) (by decide)
  have e_main_v31 := bin m c 32 (y := main_v31) rfl (by decide) (by decide) (by decide)
  have e_main_v32 := bin m c 33 (y := main_v32) rfl (by decide) (by decide) (by decide)
  have e_main_v36 := un m c 37 (y := main_v36) rfl (by decide) (by decide)
  have e_main_v37 := un m c 38 (y := main_v37) rfl (by decide) (by decide)
  have e_main_v38 := bin m c 39 (y := main_v38) rfl (by decide) (by decide) (by decide)
  have e_main_v39 := bin m c 40 (y := main_v39) rfl (by decide) (by decide) (by decide)
  dsimp only
  rw [e_main_v39, e_main_v38, e_main_v37, e_main_v36, e_main_v32, e_main_v31, e_main_v30, e_main_v29, e_main_v35, e_main_v34, e_main_v33, e_main_v28, e_main_v22, e_main_v21, e_main_v20, e_main_v27, e_main_v26, e_main_v25, e_main_v24, e_main_v23, e_main_cst]
  pointwise [v0_at, v1_at, v2_at, v3_at, v4_at, ar_at, ai_at]
  rfl

theorem bi_at (g n : Fin 64) (q : Fin 16) : (show FVec Ideal S64x64x16 .f32 from rd m c main_v46) (ix3 g n q) = bi m c g n q := by
  have e_main_cst := nul m c 23 (y := main_cst) rfl (by decide)
  have e_main_v23 := un m c 24 (y := main_v23) rfl (by decide) (by decide)
  have e_main_v24 := bin m c 25 (y := main_v24) rfl (by decide) (by decide) (by decide)
  have e_main_v25 := bin m c 26 (y := main_v25) rfl (by decide) (by decide) (by decide)
  have e_main_v26 := bin m c 27 (y := main_v26) rfl (by decide) (by decide) (by decide)
  have e_main_v27 := bin m c 28 (y := main_v27) rfl (by decide) (by decide) (by decide)
  have e_main_v20 := bin m c 20 (y := main_v20) rfl (by decide) (by decide) (by decide)
  have e_main_v21 := bin m c 21 (y := main_v21) rfl (by decide) (by decide) (by decide)
  have e_main_v22 := bin m c 22 (y := main_v22) rfl (by decide) (by decide) (by decide)
  have e_main_v28 := bin m c 29 (y := main_v28) rfl (by decide) (by decide) (by decide)
  have e_main_v40 := un m c 41 (y := main_v40) rfl (by decide) (by decide)
  have e_main_v41 := un m c 42 (y := main_v41) rfl (by decide) (by decide)
  have e_main_v42 := bin m c 43 (y := main_v42) rfl (by decide) (by decide) (by decide)
  have e_main_v29 := bin m c 30 (y := main_v29) rfl (by decide) (by decide) (by decide)
  have e_main_v30 := bin m c 31 (y := main_v30) rfl (by decide) (by decide) (by decide)
  have e_main_v31 := bin m c 32 (y := main_v31) rfl (by decide) (by decide) (by decide)
  have e_main_v32 := bin m c 33 (y := main_v32) rfl (by decide) (by decide) (by decide)
  have e_main_v43 := un m c 44 (y := main_v43) rfl (by decide) (by decide)
  have e_main_v44 := un m c 45 (y := main_v44) rfl (by decide) (by decide)
  have e_main_v45 := bin m c 46 (y := main_v45) rfl (by decide) (by decide) (by decide)
  have e_main_v46 := bin m c 47 (y := main_v46) rfl (by decide) (by decide) (by decide)
  dsimp only
  rw [e_main_v46, e_main_v45, e_main_v44, e_main_v43, e_main_v32, e_main_v31, e_main_v30, e_main_v29, e_main_v42, e_main_v41, e_main_v40, e_main_v28, e_main_v22, e_main_v21, e_main_v20, e_main_v27, e_main_v26, e_main_v25, e_main_v24, e_main_v23, e_main_cst]
  pointwise [v0_at, v1_at, v2_at, v3_at, v4_at, ar_at, ai_at]
  rfl

/-- The power `k` of the diagonal entry of group `g`, entry `n`. -/
abbrev pn (g n : Fin 64) (k : ℕ) : EReal × EReal := pw (ar m c g n) (ai m c g n) k

theorem p0r_at (g n : Fin 64) : (show FVec Ideal S64x64 .f32 from rd m c main_v47) (ix2 g n) = (pn m c g n 0).1 := by
  have e_main_cst_0 := nul m c 48 (y := main_cst_0) rfl (by decide)
  have e_main_v47 := un m c 49 (y := main_v47) rfl (by decide) (by decide)
  dsimp only
  rw [e_main_v47, e_main_cst_0]
  pointwise []
  rfl

theorem p0i_at (g n : Fin 64) : (show FVec Ideal S64x64 .f32 from rd m c main_v48) (ix2 g n) = (pn m c g n 0).2 := by
  have e_main_cst_1 := nul m c 50 (y := main_cst_1) rfl (by decide)
  have e_main_v48 := un m c 51 (y := main_v48) rfl (by decide) (by decide)
  dsimp only
  rw [e_main_v48, e_main_cst_1]
  pointwise []
  rfl

theorem p1r_at (g n : Fin 64) : (show FVec Ideal S64x64 .f32 from rd m c main_v51) (ix2 g n) = (pn m c g n 1).1 := by
  have e_main_v49 := bin m c 52 (y := main_v49) rfl (by decide) (by decide) (by decide)
  have e_main_v50 := bin m c 53 (y := main_v50) rfl (by decide) (by decide) (by decide)
  have e_main_v51 := bin m c 54 (y := main_v51) rfl (by decide) (by decide) (by decide)
  dsimp only
  rw [e_main_v51, e_main_v50, e_main_v49]
  pointwise [ar_at, ai_at, p0r_at, p0i_at]
  rfl

theorem p1i_at (g n : Fin 64) : (show FVec Ideal S64x64 .f32 from rd m c main_v54) (ix2 g n) = (pn m c g n 1).2 := by
  have e_main_v52 := bin m c 55 (y := main_v52) rfl (by decide) (by decide) (by decide)
  have e_main_v53 := bin m c 56 (y := main_v53) rfl (by decide) (by decide) (by decide)
  have e_main_v54 := bin m c 57 (y := main_v54) rfl (by decide) (by decide) (by decide)
  dsimp only
  rw [e_main_v54, e_main_v53, e_main_v52]
  pointwise [ar_at, ai_at, p0r_at, p0i_at]
  rfl

theorem p2r_at (g n : Fin 64) : (show FVec Ideal S64x64 .f32 from rd m c main_v57) (ix2 g n) = (pn m c g n 2).1 := by
  have e_main_v55 := bin m c 58 (y := main_v55) rfl (by decide) (by decide) (by decide)
  have e_main_v56 := bin m c 59 (y := main_v56) rfl (by decide) (by decide) (by decide)
  have e_main_v57 := bin m c 60 (y := main_v57) rfl (by decide) (by decide) (by decide)
  dsimp only
  rw [e_main_v57, e_main_v56, e_main_v55]
  pointwise [ar_at, ai_at, p1r_at, p1i_at]
  rfl

theorem p2i_at (g n : Fin 64) : (show FVec Ideal S64x64 .f32 from rd m c main_v60) (ix2 g n) = (pn m c g n 2).2 := by
  have e_main_v58 := bin m c 61 (y := main_v58) rfl (by decide) (by decide) (by decide)
  have e_main_v59 := bin m c 62 (y := main_v59) rfl (by decide) (by decide) (by decide)
  have e_main_v60 := bin m c 63 (y := main_v60) rfl (by decide) (by decide) (by decide)
  dsimp only
  rw [e_main_v60, e_main_v59, e_main_v58]
  pointwise [ar_at, ai_at, p1r_at, p1i_at]
  rfl

theorem p3r_at (g n : Fin 64) : (show FVec Ideal S64x64 .f32 from rd m c main_v63) (ix2 g n) = (pn m c g n 3).1 := by
  have e_main_v61 := bin m c 64 (y := main_v61) rfl (by decide) (by decide) (by decide)
  have e_main_v62 := bin m c 65 (y := main_v62) rfl (by decide) (by decide) (by decide)
  have e_main_v63 := bin m c 66 (y := main_v63) rfl (by decide) (by decide) (by decide)
  dsimp only
  rw [e_main_v63, e_main_v62, e_main_v61]
  pointwise [ar_at, ai_at, p2r_at, p2i_at]
  rfl

theorem p3i_at (g n : Fin 64) : (show FVec Ideal S64x64 .f32 from rd m c main_v66) (ix2 g n) = (pn m c g n 3).2 := by
  have e_main_v64 := bin m c 67 (y := main_v64) rfl (by decide) (by decide) (by decide)
  have e_main_v65 := bin m c 68 (y := main_v65) rfl (by decide) (by decide) (by decide)
  have e_main_v66 := bin m c 69 (y := main_v66) rfl (by decide) (by decide) (by decide)
  dsimp only
  rw [e_main_v66, e_main_v65, e_main_v64]
  pointwise [ar_at, ai_at, p2r_at, p2i_at]
  rfl

theorem p4r_at (g n : Fin 64) : (show FVec Ideal S64x64 .f32 from rd m c main_v69) (ix2 g n) = (pn m c g n 4).1 := by
  have e_main_v67 := bin m c 70 (y := main_v67) rfl (by decide) (by decide) (by decide)
  have e_main_v68 := bin m c 71 (y := main_v68) rfl (by decide) (by decide) (by decide)
  have e_main_v69 := bin m c 72 (y := main_v69) rfl (by decide) (by decide) (by decide)
  dsimp only
  rw [e_main_v69, e_main_v68, e_main_v67]
  pointwise [ar_at, ai_at, p3r_at, p3i_at]
  rfl

theorem p4i_at (g n : Fin 64) : (show FVec Ideal S64x64 .f32 from rd m c main_v72) (ix2 g n) = (pn m c g n 4).2 := by
  have e_main_v70 := bin m c 73 (y := main_v70) rfl (by decide) (by decide) (by decide)
  have e_main_v71 := bin m c 74 (y := main_v71) rfl (by decide) (by decide) (by decide)
  have e_main_v72 := bin m c 75 (y := main_v72) rfl (by decide) (by decide) (by decide)
  dsimp only
  rw [e_main_v72, e_main_v71, e_main_v70]
  pointwise [ar_at, ai_at, p3r_at, p3i_at]
  rfl

theorem p5r_at (g n : Fin 64) : (show FVec Ideal S64x64 .f32 from rd m c main_v75) (ix2 g n) = (pn m c g n 5).1 := by
  have e_main_v73 := bin m c 76 (y := main_v73) rfl (by decide) (by decide) (by decide)
  have e_main_v74 := bin m c 77 (y := main_v74) rfl (by decide) (by decide) (by decide)
  have e_main_v75 := bin m c 78 (y := main_v75) rfl (by decide) (by decide) (by decide)
  dsimp only
  rw [e_main_v75, e_main_v74, e_main_v73]
  pointwise [ar_at, ai_at, p4r_at, p4i_at]
  rfl

theorem p5i_at (g n : Fin 64) : (show FVec Ideal S64x64 .f32 from rd m c main_v78) (ix2 g n) = (pn m c g n 5).2 := by
  have e_main_v76 := bin m c 79 (y := main_v76) rfl (by decide) (by decide) (by decide)
  have e_main_v77 := bin m c 80 (y := main_v77) rfl (by decide) (by decide) (by decide)
  have e_main_v78 := bin m c 81 (y := main_v78) rfl (by decide) (by decide) (by decide)
  dsimp only
  rw [e_main_v78, e_main_v77, e_main_v76]
  pointwise [ar_at, ai_at, p4r_at, p4i_at]
  rfl

theorem p6r_at (g n : Fin 64) : (show FVec Ideal S64x64 .f32 from rd m c main_v81) (ix2 g n) = (pn m c g n 6).1 := by
  have e_main_v79 := bin m c 82 (y := main_v79) rfl (by decide) (by decide) (by decide)
  have e_main_v80 := bin m c 83 (y := main_v80) rfl (by decide) (by decide) (by decide)
  have e_main_v81 := bin m c 84 (y := main_v81) rfl (by decide) (by decide) (by decide)
  dsimp only
  rw [e_main_v81, e_main_v80, e_main_v79]
  pointwise [ar_at, ai_at, p5r_at, p5i_at]
  rfl

theorem p6i_at (g n : Fin 64) : (show FVec Ideal S64x64 .f32 from rd m c main_v84) (ix2 g n) = (pn m c g n 6).2 := by
  have e_main_v82 := bin m c 85 (y := main_v82) rfl (by decide) (by decide) (by decide)
  have e_main_v83 := bin m c 86 (y := main_v83) rfl (by decide) (by decide) (by decide)
  have e_main_v84 := bin m c 87 (y := main_v84) rfl (by decide) (by decide) (by decide)
  dsimp only
  rw [e_main_v84, e_main_v83, e_main_v82]
  pointwise [ar_at, ai_at, p5r_at, p5i_at]
  rfl

theorem p7r_at (g n : Fin 64) : (show FVec Ideal S64x64 .f32 from rd m c main_v87) (ix2 g n) = (pn m c g n 7).1 := by
  have e_main_v85 := bin m c 88 (y := main_v85) rfl (by decide) (by decide) (by decide)
  have e_main_v86 := bin m c 89 (y := main_v86) rfl (by decide) (by decide) (by decide)
  have e_main_v87 := bin m c 90 (y := main_v87) rfl (by decide) (by decide) (by decide)
  dsimp only
  rw [e_main_v87, e_main_v86, e_main_v85]
  pointwise [ar_at, ai_at, p6r_at, p6i_at]
  rfl

theorem p7i_at (g n : Fin 64) : (show FVec Ideal S64x64 .f32 from rd m c main_v90) (ix2 g n) = (pn m c g n 7).2 := by
  have e_main_v88 := bin m c 91 (y := main_v88) rfl (by decide) (by decide) (by decide)
  have e_main_v89 := bin m c 92 (y := main_v89) rfl (by decide) (by decide) (by decide)
  have e_main_v90 := bin m c 93 (y := main_v90) rfl (by decide) (by decide) (by decide)
  dsimp only
  rw [e_main_v90, e_main_v89, e_main_v88]
  pointwise [ar_at, ai_at, p6r_at, p6i_at]
  rfl

theorem p8r_at (g n : Fin 64) : (show FVec Ideal S64x64 .f32 from rd m c main_v93) (ix2 g n) = (pn m c g n 8).1 := by
  have e_main_v91 := bin m c 94 (y := main_v91) rfl (by decide) (by decide) (by decide)
  have e_main_v92 := bin m c 95 (y := main_v92) rfl (by decide) (by decide) (by decide)
  have e_main_v93 := bin m c 96 (y := main_v93) rfl (by decide) (by decide) (by decide)
  dsimp only
  rw [e_main_v93, e_main_v92, e_main_v91]
  pointwise [ar_at, ai_at, p7r_at, p7i_at]
  rfl

theorem p8i_at (g n : Fin 64) : (show FVec Ideal S64x64 .f32 from rd m c main_v96) (ix2 g n) = (pn m c g n 8).2 := by
  have e_main_v94 := bin m c 97 (y := main_v94) rfl (by decide) (by decide) (by decide)
  have e_main_v95 := bin m c 98 (y := main_v95) rfl (by decide) (by decide) (by decide)
  have e_main_v96 := bin m c 99 (y := main_v96) rfl (by decide) (by decide) (by decide)
  dsimp only
  rw [e_main_v96, e_main_v95, e_main_v94]
  pointwise [ar_at, ai_at, p7r_at, p7i_at]
  rfl

theorem p9r_at (g n : Fin 64) : (show FVec Ideal S64x64 .f32 from rd m c main_v99) (ix2 g n) = (pn m c g n 9).1 := by
  have e_main_v97 := bin m c 100 (y := main_v97) rfl (by decide) (by decide) (by decide)
  have e_main_v98 := bin m c 101 (y := main_v98) rfl (by decide) (by decide) (by decide)
  have e_main_v99 := bin m c 102 (y := main_v99) rfl (by decide) (by decide) (by decide)
  dsimp only
  rw [e_main_v99, e_main_v98, e_main_v97]
  pointwise [ar_at, ai_at, p8r_at, p8i_at]
  rfl

theorem p9i_at (g n : Fin 64) : (show FVec Ideal S64x64 .f32 from rd m c main_v102) (ix2 g n) = (pn m c g n 9).2 := by
  have e_main_v100 := bin m c 103 (y := main_v100) rfl (by decide) (by decide) (by decide)
  have e_main_v101 := bin m c 104 (y := main_v101) rfl (by decide) (by decide) (by decide)
  have e_main_v102 := bin m c 105 (y := main_v102) rfl (by decide) (by decide) (by decide)
  dsimp only
  rw [e_main_v102, e_main_v101, e_main_v100]
  pointwise [ar_at, ai_at, p8r_at, p8i_at]
  rfl

theorem p10r_at (g n : Fin 64) : (show FVec Ideal S64x64 .f32 from rd m c main_v105) (ix2 g n) = (pn m c g n 10).1 := by
  have e_main_v103 := bin m c 106 (y := main_v103) rfl (by decide) (by decide) (by decide)
  have e_main_v104 := bin m c 107 (y := main_v104) rfl (by decide) (by decide) (by decide)
  have e_main_v105 := bin m c 108 (y := main_v105) rfl (by decide) (by decide) (by decide)
  dsimp only
  rw [e_main_v105, e_main_v104, e_main_v103]
  pointwise [ar_at, ai_at, p9r_at, p9i_at]
  rfl

theorem p10i_at (g n : Fin 64) : (show FVec Ideal S64x64 .f32 from rd m c main_v108) (ix2 g n) = (pn m c g n 10).2 := by
  have e_main_v106 := bin m c 109 (y := main_v106) rfl (by decide) (by decide) (by decide)
  have e_main_v107 := bin m c 110 (y := main_v107) rfl (by decide) (by decide) (by decide)
  have e_main_v108 := bin m c 111 (y := main_v108) rfl (by decide) (by decide) (by decide)
  dsimp only
  rw [e_main_v108, e_main_v107, e_main_v106]
  pointwise [ar_at, ai_at, p9r_at, p9i_at]
  rfl

theorem p11r_at (g n : Fin 64) : (show FVec Ideal S64x64 .f32 from rd m c main_v111) (ix2 g n) = (pn m c g n 11).1 := by
  have e_main_v109 := bin m c 112 (y := main_v109) rfl (by decide) (by decide) (by decide)
  have e_main_v110 := bin m c 113 (y := main_v110) rfl (by decide) (by decide) (by decide)
  have e_main_v111 := bin m c 114 (y := main_v111) rfl (by decide) (by decide) (by decide)
  dsimp only
  rw [e_main_v111, e_main_v110, e_main_v109]
  pointwise [ar_at, ai_at, p10r_at, p10i_at]
  rfl

theorem p11i_at (g n : Fin 64) : (show FVec Ideal S64x64 .f32 from rd m c main_v114) (ix2 g n) = (pn m c g n 11).2 := by
  have e_main_v112 := bin m c 115 (y := main_v112) rfl (by decide) (by decide) (by decide)
  have e_main_v113 := bin m c 116 (y := main_v113) rfl (by decide) (by decide) (by decide)
  have e_main_v114 := bin m c 117 (y := main_v114) rfl (by decide) (by decide) (by decide)
  dsimp only
  rw [e_main_v114, e_main_v113, e_main_v112]
  pointwise [ar_at, ai_at, p10r_at, p10i_at]
  rfl

theorem p12r_at (g n : Fin 64) : (show FVec Ideal S64x64 .f32 from rd m c main_v117) (ix2 g n) = (pn m c g n 12).1 := by
  have e_main_v115 := bin m c 118 (y := main_v115) rfl (by decide) (by decide) (by decide)
  have e_main_v116 := bin m c 119 (y := main_v116) rfl (by decide) (by decide) (by decide)
  have e_main_v117 := bin m c 120 (y := main_v117) rfl (by decide) (by decide) (by decide)
  dsimp only
  rw [e_main_v117, e_main_v116, e_main_v115]
  pointwise [ar_at, ai_at, p11r_at, p11i_at]
  rfl

theorem p12i_at (g n : Fin 64) : (show FVec Ideal S64x64 .f32 from rd m c main_v120) (ix2 g n) = (pn m c g n 12).2 := by
  have e_main_v118 := bin m c 121 (y := main_v118) rfl (by decide) (by decide) (by decide)
  have e_main_v119 := bin m c 122 (y := main_v119) rfl (by decide) (by decide) (by decide)
  have e_main_v120 := bin m c 123 (y := main_v120) rfl (by decide) (by decide) (by decide)
  dsimp only
  rw [e_main_v120, e_main_v119, e_main_v118]
  pointwise [ar_at, ai_at, p11r_at, p11i_at]
  rfl

theorem p13r_at (g n : Fin 64) : (show FVec Ideal S64x64 .f32 from rd m c main_v123) (ix2 g n) = (pn m c g n 13).1 := by
  have e_main_v121 := bin m c 124 (y := main_v121) rfl (by decide) (by decide) (by decide)
  have e_main_v122 := bin m c 125 (y := main_v122) rfl (by decide) (by decide) (by decide)
  have e_main_v123 := bin m c 126 (y := main_v123) rfl (by decide) (by decide) (by decide)
  dsimp only
  rw [e_main_v123, e_main_v122, e_main_v121]
  pointwise [ar_at, ai_at, p12r_at, p12i_at]
  rfl

theorem p13i_at (g n : Fin 64) : (show FVec Ideal S64x64 .f32 from rd m c main_v126) (ix2 g n) = (pn m c g n 13).2 := by
  have e_main_v124 := bin m c 127 (y := main_v124) rfl (by decide) (by decide) (by decide)
  have e_main_v125 := bin m c 128 (y := main_v125) rfl (by decide) (by decide) (by decide)
  have e_main_v126 := bin m c 129 (y := main_v126) rfl (by decide) (by decide) (by decide)
  dsimp only
  rw [e_main_v126, e_main_v125, e_main_v124]
  pointwise [ar_at, ai_at, p12r_at, p12i_at]
  rfl

theorem p14r_at (g n : Fin 64) : (show FVec Ideal S64x64 .f32 from rd m c main_v129) (ix2 g n) = (pn m c g n 14).1 := by
  have e_main_v127 := bin m c 130 (y := main_v127) rfl (by decide) (by decide) (by decide)
  have e_main_v128 := bin m c 131 (y := main_v128) rfl (by decide) (by decide) (by decide)
  have e_main_v129 := bin m c 132 (y := main_v129) rfl (by decide) (by decide) (by decide)
  dsimp only
  rw [e_main_v129, e_main_v128, e_main_v127]
  pointwise [ar_at, ai_at, p13r_at, p13i_at]
  rfl

theorem p14i_at (g n : Fin 64) : (show FVec Ideal S64x64 .f32 from rd m c main_v132) (ix2 g n) = (pn m c g n 14).2 := by
  have e_main_v130 := bin m c 133 (y := main_v130) rfl (by decide) (by decide) (by decide)
  have e_main_v131 := bin m c 134 (y := main_v131) rfl (by decide) (by decide) (by decide)
  have e_main_v132 := bin m c 135 (y := main_v132) rfl (by decide) (by decide) (by decide)
  dsimp only
  rw [e_main_v132, e_main_v131, e_main_v130]
  pointwise [ar_at, ai_at, p13r_at, p13i_at]
  rfl

theorem p15r_at (g n : Fin 64) : (show FVec Ideal S64x64 .f32 from rd m c main_v135) (ix2 g n) = (pn m c g n 15).1 := by
  have e_main_v133 := bin m c 136 (y := main_v133) rfl (by decide) (by decide) (by decide)
  have e_main_v134 := bin m c 137 (y := main_v134) rfl (by decide) (by decide) (by decide)
  have e_main_v135 := bin m c 138 (y := main_v135) rfl (by decide) (by decide) (by decide)
  dsimp only
  rw [e_main_v135, e_main_v134, e_main_v133]
  pointwise [ar_at, ai_at, p14r_at, p14i_at]
  rfl

theorem p15i_at (g n : Fin 64) : (show FVec Ideal S64x64 .f32 from rd m c main_v138) (ix2 g n) = (pn m c g n 15).2 := by
  have e_main_v136 := bin m c 139 (y := main_v136) rfl (by decide) (by decide) (by decide)
  have e_main_v137 := bin m c 140 (y := main_v137) rfl (by decide) (by decide) (by decide)
  have e_main_v138 := bin m c 141 (y := main_v138) rfl (by decide) (by decide) (by decide)
  dsimp only
  rw [e_main_v138, e_main_v137, e_main_v136]
  pointwise [ar_at, ai_at, p14r_at, p14i_at]
  rfl

theorem p16r_at (g n : Fin 64) : (show FVec Ideal S64x64 .f32 from rd m c main_v141) (ix2 g n) = (pn m c g n 16).1 := by
  have e_main_v139 := bin m c 142 (y := main_v139) rfl (by decide) (by decide) (by decide)
  have e_main_v140 := bin m c 143 (y := main_v140) rfl (by decide) (by decide) (by decide)
  have e_main_v141 := bin m c 144 (y := main_v141) rfl (by decide) (by decide) (by decide)
  dsimp only
  rw [e_main_v141, e_main_v140, e_main_v139]
  pointwise [ar_at, ai_at, p15r_at, p15i_at]
  rfl

theorem p16i_at (g n : Fin 64) : (show FVec Ideal S64x64 .f32 from rd m c main_v144) (ix2 g n) = (pn m c g n 16).2 := by
  have e_main_v142 := bin m c 145 (y := main_v142) rfl (by decide) (by decide) (by decide)
  have e_main_v143 := bin m c 146 (y := main_v143) rfl (by decide) (by decide) (by decide)
  have e_main_v144 := bin m c 147 (y := main_v144) rfl (by decide) (by decide) (by decide)
  dsimp only
  rw [e_main_v144, e_main_v143, e_main_v142]
  pointwise [ar_at, ai_at, p15r_at, p15i_at]
  rfl

end Cert.S5
-- ==== Proof.S5Arrays.lean ====
/- The three arrays that the weight preparation hands to the call, read at one index over the extended reals. -/
module

public import proofs.«01_k».proof.Proof.S5Prefix

@[expose] public section

set_option maxRecDepth 16384
set_option maxHeartbeats 8000000

noncomputable section

namespace Cert.S5

open Idealize.ShloMosaic Idealize.ShloMosaic.TcCoe Idealize.SL.Sem
open Cert.KernelIdeal Cert.KernelIdeal.Gen

variable (m : (ℓ : Loc nD τ sig) → Buf (Elt Ideal) ℓ) (c : Dev nD)

/-- One row of a stack. -/
theorem row (x : FVec Ideal S64x64 .f32) (g n : Fin 64) :
    broadcastInDim S1x64x64 ![1, 2] bcast_S64x64_S1x64x64_1_2 x (ix3 0 g n) = x (ix2 g n) := by
  pointwise []

/-- A stack of sixteen, read at an entry of one of them. -/
theorem stack (f : Fin 16 → FVec Ideal S1x64x64 .f32) (k : Fin 16) (g n : Fin 64) :
    concatenate S16x64x64 0 [⟨S1x64x64, f 0⟩, ⟨S1x64x64, f 1⟩, ⟨S1x64x64, f 2⟩, ⟨S1x64x64, f 3⟩, ⟨S1x64x64, f 4⟩, ⟨S1x64x64, f 5⟩, ⟨S1x64x64, f 6⟩, ⟨S1x64x64, f 7⟩, ⟨S1x64x64, f 8⟩, ⟨S1x64x64, f 9⟩, ⟨S1x64x64, f 10⟩, ⟨S1x64x64, f 11⟩, ⟨S1x64x64, f 12⟩, ⟨S1x64x64, f 13⟩, ⟨S1x64x64, f 14⟩, ⟨S1x64x64, f 15⟩]
      concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0 (ix3 k g n) = f k (ix3 0 g n) := by
  fin_cases k <;> pointwise []

/-- The same, of sixteen arrays by name. -/
theorem stack16 (a0 a1 a2 a3 a4 a5 a6 a7 a8 a9 a10 a11 a12 a13 a14 a15 : FVec Ideal S1x64x64 .f32) (k : Fin 16) (g n : Fin 64) :
    concatenate S16x64x64 0 [⟨S1x64x64, a0⟩, ⟨S1x64x64, a1⟩, ⟨S1x64x64, a2⟩, ⟨S1x64x64, a3⟩, ⟨S1x64x64, a4⟩, ⟨S1x64x64, a5⟩, ⟨S1x64x64, a6⟩, ⟨S1x64x64, a7⟩, ⟨S1x64x64, a8⟩, ⟨S1x64x64, a9⟩, ⟨S1x64x64, a10⟩, ⟨S1x64x64, a11⟩, ⟨S1x64x64, a12⟩, ⟨S1x64x64, a13⟩, ⟨S1x64x64, a14⟩, ⟨S1x64x64, a15⟩]
      concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0 (ix3 k g n) = (![a0, a1, a2, a3, a4, a5, a6, a7, a8, a9, a10, a11, a12, a13, a14, a15] k) (ix3 0 g n) :=
  stack ![a0, a1, a2, a3, a4, a5, a6, a7, a8, a9, a10, a11, a12, a13, a14, a15] k g n

theorem v161_at (k : Fin 16) (g n : Fin 64) : (show FVec Ideal S16x64x64 .f32 from rd m c main_v161) (ix3 k g n) = (pn m c g n k).1 := by
  have e := nary m c 164 (y := main_v161) rfl (by decide) (by decide)
  refine (congrFun e (ix3 k g n)).trans ?_
  show concatenate S16x64x64 0 [⟨S1x64x64, (show FVec Ideal S1x64x64 .f32 from rd m c main_v145)⟩, ⟨S1x64x64, (show FVec Ideal S1x64x64 .f32 from rd m c main_v146)⟩, ⟨S1x64x64, (show FVec Ideal S1x64x64 .f32 from rd m c main_v147)⟩, ⟨S1x64x64, (show FVec Ideal S1x64x64 .f32 from rd m c main_v148)⟩, ⟨S1x64x64, (show FVec Ideal S1x64x64 .f32 from rd m c main_v149)⟩, ⟨S1x64x64, (show FVec Ideal S1x64x64 .f32 from rd m c main_v150)⟩, ⟨S1x64x64, (show FVec Ideal S1x64x64 .f32 from rd m c main_v151)⟩, ⟨S1x64x64, (show FVec Ideal S1x64x64 .f32 from rd m c main_v152)⟩, ⟨S1x64x64, (show FVec Ideal S1x64x64 .f32 from rd m c main_v153)⟩, ⟨S1x64x64, (show FVec Ideal S1x64x64 .f32 from rd m c main_v154)⟩, ⟨S1x64x64, (show FVec Ideal S1x64x64 .f32 from rd m c main_v155)⟩, ⟨S1x64x64, (show FVec Ideal S1x64x64 .f32 from rd m c main_v156)⟩, ⟨S1x64x64, (show FVec Ideal S1x64x64 .f32 from rd m c main_v157)⟩, ⟨S1x64x64, (show FVec Ideal S1x64x64 .f32 from rd m c main_v158)⟩, ⟨S1x64x64, (show FVec Ideal S1x64x64 .f32 from rd m c main_v159)⟩, ⟨S1x64x64, (show FVec Ideal S1x64x64 .f32 from rd m c main_v160)⟩]
    concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0 (ix3 k g n) = _
  refine (stack16 _ _ _ _ _ _ _ _ _ _ _ _ _ _ _ _ k g n).trans ?_
  fin_cases k
  · exact (congrFun (un m c 148 (y := main_v145) rfl (by decide) (by decide)) (ix3 0 g n)).trans ((row _ g n).trans (p0r_at m c g n))
  · exact (congrFun (un m c 149 (y := main_v146) rfl (by decide) (by decide)) (ix3 0 g n)).trans ((row _ g n).trans (p1r_at m c g n))
  · exact (congrFun (un m c 150 (y := main_v147) rfl (by decide) (by decide)) (ix3 0 g n)).trans ((row _ g n).trans (p2r_at m c g n))
  · exact (congrFun (un m c 151 (y := main_v148) rfl (by decide) (by decide)) (ix3 0 g n)).trans ((row _ g n).trans (p3r_at m c g n))
  · exact (congrFun (un m c 152 (y := main_v149) rfl (by decide) (by decide)) (ix3 0 g n)).trans ((row _ g n).trans (p4r_at m c g n))
  · exact (congrFun (un m c 153 (y := main_v150) rfl (by decide) (by decide)) (ix3 0 g n)).trans ((row _ g n).trans (p5r_at m c g n))
  · exact (congrFun (un m c 154 (y := main_v151) rfl (by decide) (by decide)) (ix3 0 g n)).trans ((row _ g n).trans (p6r_at m c g n))
  · exact (congrFun (un m c 155 (y := main_v152) rfl (by decide) (by decide)) (ix3 0 g n)).trans ((row _ g n).trans (p7r_at m c g n))
  · exact (congrFun (un m c 156 (y := main_v153) rfl (by decide) (by decide)) (ix3 0 g n)).trans ((row _ g n).trans (p8r_at m c g n))
  · exact (congrFun (un m c 157 (y := main_v154) rfl (by decide) (by decide)) (ix3 0 g n)).trans ((row _ g n).trans (p9r_at m c g n))
  · exact (congrFun (un m c 158 (y := main_v155) rfl (by decide) (by decide)) (ix3 0 g n)).trans ((row _ g n).trans (p10r_at m c g n))
  · exact (congrFun (un m c 159 (y := main_v156) rfl (by decide) (by decide)) (ix3 0 g n)).trans ((row _ g n).trans (p11r_at m c g n))
  · exact (congrFun (un m c 160 (y := main_v157) rfl (by decide) (by decide)) (ix3 0 g n)).trans ((row _ g n).trans (p12r_at m c g n))
  · exact (congrFun (un m c 161 (y := main_v158) rfl (by decide) (by decide)) (ix3 0 g n)).trans ((row _ g n).trans (p13r_at m c g n))
  · exact (congrFun (un m c 162 (y := main_v159) rfl (by decide) (by decide)) (ix3 0 g n)).trans ((row _ g n).trans (p14r_at m c g n))
  · exact (congrFun (un m c 163 (y := main_v160) rfl (by decide) (by decide)) (ix3 0 g n)).trans ((row _ g n).trans (p15r_at m c g n))

theorem v180_at (k : Fin 16) (g n : Fin 64) : (show FVec Ideal S16x64x64 .f32 from rd m c main_v180) (ix3 k g n) = (pn m c g n k).2 := by
  have e := nary m c 183 (y := main_v180) rfl (by decide) (by decide)
  refine (congrFun e (ix3 k g n)).trans ?_
  show concatenate S16x64x64 0 [⟨S1x64x64, (show FVec Ideal S1x64x64 .f32 from rd m c main_v164)⟩, ⟨S1x64x64, (show FVec Ideal S1x64x64 .f32 from rd m c main_v165)⟩, ⟨S1x64x64, (show FVec Ideal S1x64x64 .f32 from rd m c main_v166)⟩, ⟨S1x64x64, (show FVec Ideal S1x64x64 .f32 from rd m c main_v167)⟩, ⟨S1x64x64, (show FVec Ideal S1x64x64 .f32 from rd m c main_v168)⟩, ⟨S1x64x64, (show FVec Ideal S1x64x64 .f32 from rd m c main_v169)⟩, ⟨S1x64x64, (show FVec Ideal S1x64x64 .f32 from rd m c main_v170)⟩, ⟨S1x64x64, (show FVec Ideal S1x64x64 .f32 from rd m c main_v171)⟩, ⟨S1x64x64, (show FVec Ideal S1x64x64 .f32 from rd m c main_v172)⟩, ⟨S1x64x64, (show FVec Ideal S1x64x64 .f32 from rd m c main_v173)⟩, ⟨S1x64x64, (show FVec Ideal S1x64x64 .f32 from rd m c main_v174)⟩, ⟨S1x64x64, (show FVec Ideal S1x64x64 .f32 from rd m c main_v175)⟩, ⟨S1x64x64, (show FVec Ideal S1x64x64 .f32 from rd m c main_v176)⟩, ⟨S1x64x64, (show FVec Ideal S1x64x64 .f32 from rd m c main_v177)⟩, ⟨S1x64x64, (show FVec Ideal S1x64x64 .f32 from rd m c main_v178)⟩, ⟨S1x64x64, (show FVec Ideal S1x64x64 .f32 from rd m c main_v179)⟩]
    concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0 (ix3 k g n) = _
  refine (stack16 _ _ _ _ _ _ _ _ _ _ _ _ _ _ _ _ k g n).trans ?_
  fin_cases k
  · exact (congrFun (un m c 167 (y := main_v164) rfl (by decide) (by decide)) (ix3 0 g n)).trans ((row _ g n).trans (p0i_at m c g n))
  · exact (congrFun (un m c 168 (y := main_v165) rfl (by decide) (by decide)) (ix3 0 g n)).trans ((row _ g n).trans (p1i_at m c g n))
  · exact (congrFun (un m c 169 (y := main_v166) rfl (by decide) (by decide)) (ix3 0 g n)).trans ((row _ g n).trans (p2i_at m c g n))
  · exact (congrFun (un m c 170 (y := main_v167) rfl (by decide) (by decide)) (ix3 0 g n)).trans ((row _ g n).trans (p3i_at m c g n))
  · exact (congrFun (un m c 171 (y := main_v168) rfl (by decide) (by decide)) (ix3 0 g n)).trans ((row _ g n).trans (p4i_at m c g n))
  · exact (congrFun (un m c 172 (y := main_v169) rfl (by decide) (by decide)) (ix3 0 g n)).trans ((row _ g n).trans (p5i_at m c g n))
  · exact (congrFun (un m c 173 (y := main_v170) rfl (by decide) (by decide)) (ix3 0 g n)).trans ((row _ g n).trans (p6i_at m c g n))
  · exact (congrFun (un m c 174 (y := main_v171) rfl (by decide) (by decide)) (ix3 0 g n)).trans ((row _ g n).trans (p7i_at m c g n))
  · exact (congrFun (un m c 175 (y := main_v172) rfl (by decide) (by decide)) (ix3 0 g n)).trans ((row _ g n).trans (p8i_at m c g n))
  · exact (congrFun (un m c 176 (y := main_v173) rfl (by decide) (by decide)) (ix3 0 g n)).trans ((row _ g n).trans (p9i_at m c g n))
  · exact (congrFun (un m c 177 (y := main_v174) rfl (by decide) (by decide)) (ix3 0 g n)).trans ((row _ g n).trans (p10i_at m c g n))
  · exact (congrFun (un m c 178 (y := main_v175) rfl (by decide) (by decide)) (ix3 0 g n)).trans ((row _ g n).trans (p11i_at m c g n))
  · exact (congrFun (un m c 179 (y := main_v176) rfl (by decide) (by decide)) (ix3 0 g n)).trans ((row _ g n).trans (p12i_at m c g n))
  · exact (congrFun (un m c 180 (y := main_v177) rfl (by decide) (by decide)) (ix3 0 g n)).trans ((row _ g n).trans (p13i_at m c g n))
  · exact (congrFun (un m c 181 (y := main_v178) rfl (by decide) (by decide)) (ix3 0 g n)).trans ((row _ g n).trans (p14i_at m c g n))
  · exact (congrFun (un m c 182 (y := main_v179) rfl (by decide) (by decide)) (ix3 0 g n)).trans ((row _ g n).trans (p15i_at m c g n))

theorem v238_at (k : Fin 16) (g n : Fin 64) : (show FVec Ideal S16x64x64 .f32 from rd m c main_v238) (ix3 k g n) = (pn m c g n (15 - k)).1 := by
  have e := nary m c 241 (y := main_v238) rfl (by decide) (by decide)
  refine (congrFun e (ix3 k g n)).trans ?_
  show concatenate S16x64x64 0 [⟨S1x64x64, (show FVec Ideal S1x64x64 .f32 from rd m c main_v222)⟩, ⟨S1x64x64, (show FVec Ideal S1x64x64 .f32 from rd m c main_v223)⟩, ⟨S1x64x64, (show FVec Ideal S1x64x64 .f32 from rd m c main_v224)⟩, ⟨S1x64x64, (show FVec Ideal S1x64x64 .f32 from rd m c main_v225)⟩, ⟨S1x64x64, (show FVec Ideal S1x64x64 .f32 from rd m c main_v226)⟩, ⟨S1x64x64, (show FVec Ideal S1x64x64 .f32 from rd m c main_v227)⟩, ⟨S1x64x64, (show FVec Ideal S1x64x64 .f32 from rd m c main_v228)⟩, ⟨S1x64x64, (show FVec Ideal S1x64x64 .f32 from rd m c main_v229)⟩, ⟨S1x64x64, (show FVec Ideal S1x64x64 .f32 from rd m c main_v230)⟩, ⟨S1x64x64, (show FVec Ideal S1x64x64 .f32 from rd m c main_v231)⟩, ⟨S1x64x64, (show FVec Ideal S1x64x64 .f32 from rd m c main_v232)⟩, ⟨S1x64x64, (show FVec Ideal S1x64x64 .f32 from rd m c main_v233)⟩, ⟨S1x64x64, (show FVec Ideal S1x64x64 .f32 from rd m c main_v234)⟩, ⟨S1x64x64, (show FVec Ideal S1x64x64 .f32 from rd m c main_v235)⟩, ⟨S1x64x64, (show FVec Ideal S1x64x64 .f32 from rd m c main_v236)⟩, ⟨S1x64x64, (show FVec Ideal S1x64x64 .f32 from rd m c main_v237)⟩]
    concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0 (ix3 k g n) = _
  refine (stack16 _ _ _ _ _ _ _ _ _ _ _ _ _ _ _ _ k g n).trans ?_
  fin_cases k
  · exact (congrFun (un m c 225 (y := main_v222) rfl (by decide) (by decide)) (ix3 0 g n)).trans ((row _ g n).trans (p15r_at m c g n))
  · exact (congrFun (un m c 226 (y := main_v223) rfl (by decide) (by decide)) (ix3 0 g n)).trans ((row _ g n).trans (p14r_at m c g n))
  · exact (congrFun (un m c 227 (y := main_v224) rfl (by decide) (by decide)) (ix3 0 g n)).trans ((row _ g n).trans (p13r_at m c g n))
  · exact (congrFun (un m c 228 (y := main_v225) rfl (by decide) (by decide)) (ix3 0 g n)).trans ((row _ g n).trans (p12r_at m c g n))
  · exact (congrFun (un m c 229 (y := main_v226) rfl (by decide) (by decide)) (ix3 0 g n)).trans ((row _ g n).trans (p11r_at m c g n))
  · exact (congrFun (un m c 230 (y := main_v227) rfl (by decide) (by decide)) (ix3 0 g n)).trans ((row _ g n).trans (p10r_at m c g n))
  · exact (congrFun (un m c 231 (y := main_v228) rfl (by decide) (by decide)) (ix3 0 g n)).trans ((row _ g n).trans (p9r_at m c g n))
  · exact (congrFun (un m c 232 (y := main_v229) rfl (by decide) (by decide)) (ix3 0 g n)).trans ((row _ g n).trans (p8r_at m c g n))
  · exact (congrFun (un m c 233 (y := main_v230) rfl (by decide) (by decide)) (ix3 0 g n)).trans ((row _ g n).trans (p7r_at m c g n))
  · exact (congrFun (un m c 234 (y := main_v231) rfl (by decide) (by decide)) (ix3 0 g n)).trans ((row _ g n).trans (p6r_at m c g n))
  · exact (congrFun (un m c 235 (y := main_v232) rfl (by decide) (by decide)) (ix3 0 g n)).trans ((row _ g n).trans (p5r_at m c g n))
  · exact (congrFun (un m c 236 (y := main_v233) rfl (by decide) (by decide)) (ix3 0 g n)).trans ((row _ g n).trans (p4r_at m c g n))
  · exact (congrFun (un m c 237 (y := main_v234) rfl (by decide) (by decide)) (ix3 0 g n)).trans ((row _ g n).trans (p3r_at m c g n))
  · exact (congrFun (un m c 238 (y := main_v235) rfl (by decide) (by decide)) (ix3 0 g n)).trans ((row _ g n).trans (p2r_at m c g n))
  · exact (congrFun (un m c 239 (y := main_v236) rfl (by decide) (by decide)) (ix3 0 g n)).trans ((row _ g n).trans (p1r_at m c g n))
  · exact (congrFun (un m c 240 (y := main_v237) rfl (by decide) (by decide)) (ix3 0 g n)).trans ((row _ g n).trans (p0r_at m c g n))

theorem v255_at (k : Fin 16) (g n : Fin 64) : (show FVec Ideal S16x64x64 .f32 from rd m c main_v255) (ix3 k g n) = (pn m c g n (15 - k)).2 := by
  have e := nary m c 258 (y := main_v255) rfl (by decide) (by decide)
  refine (congrFun e (ix3 k g n)).trans ?_
  show concatenate S16x64x64 0 [⟨S1x64x64, (show FVec Ideal S1x64x64 .f32 from rd m c main_v239)⟩, ⟨S1x64x64, (show FVec Ideal S1x64x64 .f32 from rd m c main_v240)⟩, ⟨S1x64x64, (show FVec Ideal S1x64x64 .f32 from rd m c main_v241)⟩, ⟨S1x64x64, (show FVec Ideal S1x64x64 .f32 from rd m c main_v242)⟩, ⟨S1x64x64, (show FVec Ideal S1x64x64 .f32 from rd m c main_v243)⟩, ⟨S1x64x64, (show FVec Ideal S1x64x64 .f32 from rd m c main_v244)⟩, ⟨S1x64x64, (show FVec Ideal S1x64x64 .f32 from rd m c main_v245)⟩, ⟨S1x64x64, (show FVec Ideal S1x64x64 .f32 from rd m c main_v246)⟩, ⟨S1x64x64, (show FVec Ideal S1x64x64 .f32 from rd m c main_v247)⟩, ⟨S1x64x64, (show FVec Ideal S1x64x64 .f32 from rd m c main_v248)⟩, ⟨S1x64x64, (show FVec Ideal S1x64x64 .f32 from rd m c main_v249)⟩, ⟨S1x64x64, (show FVec Ideal S1x64x64 .f32 from rd m c main_v250)⟩, ⟨S1x64x64, (show FVec Ideal S1x64x64 .f32 from rd m c main_v251)⟩, ⟨S1x64x64, (show FVec Ideal S1x64x64 .f32 from rd m c main_v252)⟩, ⟨S1x64x64, (show FVec Ideal S1x64x64 .f32 from rd m c main_v253)⟩, ⟨S1x64x64, (show FVec Ideal S1x64x64 .f32 from rd m c main_v254)⟩]
    concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0 (ix3 k g n) = _
  refine (stack16 _ _ _ _ _ _ _ _ _ _ _ _ _ _ _ _ k g n).trans ?_
  fin_cases k
  · exact (congrFun (un m c 242 (y := main_v239) rfl (by decide) (by decide)) (ix3 0 g n)).trans ((row _ g n).trans (p15i_at m c g n))
  · exact (congrFun (un m c 243 (y := main_v240) rfl (by decide) (by decide)) (ix3 0 g n)).trans ((row _ g n).trans (p14i_at m c g n))
  · exact (congrFun (un m c 244 (y := main_v241) rfl (by decide) (by decide)) (ix3 0 g n)).trans ((row _ g n).trans (p13i_at m c g n))
  · exact (congrFun (un m c 245 (y := main_v242) rfl (by decide) (by decide)) (ix3 0 g n)).trans ((row _ g n).trans (p12i_at m c g n))
  · exact (congrFun (un m c 246 (y := main_v243) rfl (by decide) (by decide)) (ix3 0 g n)).trans ((row _ g n).trans (p11i_at m c g n))
  · exact (congrFun (un m c 247 (y := main_v244) rfl (by decide) (by decide)) (ix3 0 g n)).trans ((row _ g n).trans (p10i_at m c g n))
  · exact (congrFun (un m c 248 (y := main_v245) rfl (by decide) (by decide)) (ix3 0 g n)).trans ((row _ g n).trans (p9i_at m c g n))
  · exact (congrFun (un m c 249 (y := main_v246) rfl (by decide) (by decide)) (ix3 0 g n)).trans ((row _ g n).trans (p8i_at m c g n))
  · exact (congrFun (un m c 250 (y := main_v247) rfl (by decide) (by decide)) (ix3 0 g n)).trans ((row _ g n).trans (p7i_at m c g n))
  · exact (congrFun (un m c 251 (y := main_v248) rfl (by decide) (by decide)) (ix3 0 g n)).trans ((row _ g n).trans (p6i_at m c g n))
  · exact (congrFun (un m c 252 (y := main_v249) rfl (by decide) (by decide)) (ix3 0 g n)).trans ((row _ g n).trans (p5i_at m c g n))
  · exact (congrFun (un m c 253 (y := main_v250) rfl (by decide) (by decide)) (ix3 0 g n)).trans ((row _ g n).trans (p4i_at m c g n))
  · exact (congrFun (un m c 254 (y := main_v251) rfl (by decide) (by decide)) (ix3 0 g n)).trans ((row _ g n).trans (p3i_at m c g n))
  · exact (congrFun (un m c 255 (y := main_v252) rfl (by decide) (by decide)) (ix3 0 g n)).trans ((row _ g n).trans (p2i_at m c g n))
  · exact (congrFun (un m c 256 (y := main_v253) rfl (by decide) (by decide)) (ix3 0 g n)).trans ((row _ g n).trans (p1i_at m c g n))
  · exact (congrFun (un m c 257 (y := main_v254) rfl (by decide) (by decide)) (ix3 0 g n)).trans ((row _ g n).trans (p0i_at m c g n))

theorem v163_at (k : Fin 17) (g n : Fin 64) : (show FVec Ideal S17x64x64 .f32 from rd m c main_v163) (ix3 k g n) = (pn m c g n k).1 := by
  have e_main_v162 := un m c 165 (y := main_v162) rfl (by decide) (by decide)
  have e_main_v163 := bin m c 166 (y := main_v163) rfl (by decide) (by decide) (by decide)
  dsimp only
  rw [e_main_v163, e_main_v162]
  pointwise [v161_at, p16r_at]
  split
  · rfl
  · have hk : k.val = 16 := by omega
    rw [hk]

theorem v182_at (k : Fin 17) (g n : Fin 64) : (show FVec Ideal S17x64x64 .f32 from rd m c main_v182) (ix3 k g n) = (pn m c g n k).2 := by
  have e_main_v181 := un m c 184 (y := main_v181) rfl (by decide) (by decide)
  have e_main_v182 := bin m c 185 (y := main_v182) rfl (by decide) (by decide) (by decide)
  dsimp only
  rw [e_main_v182, e_main_v181]
  pointwise [v180_at, p16i_at]
  split
  · rfl
  · have hk : k.val = 16 := by omega
    rw [hk]

/-- The output weight times the power `k`, real part. -/
def caR (k : ℕ) (g : Fin 64) (p : Fin 16) (n : Fin 64) : EReal :=
  X5 m c (ix4 0 g p n) * (pn m c g n k).1 - X6 m c (ix4 0 g p n) * (pn m c g n k).2

/-- The output weight times the power `k`, imaginary part. -/
def caI (k : ℕ) (g : Fin 64) (p : Fin 16) (n : Fin 64) : EReal :=
  X5 m c (ix4 0 g p n) * (pn m c g n k).2 + X6 m c (ix4 0 g p n) * (pn m c g n k).1

theorem v193_at (k : Fin 17) (g : Fin 64) (p : Fin 16) (n : Fin 64) : (show FVec Ideal S17x64x16x64 .f32 from rd m c main_v193) (ix4 k g p n) = caR m c k g p n := by
  have e_main_v183 := un m c 186 (y := main_v183) rfl (by decide) (by decide)
  have e_main_v185 := un m c 188 (y := main_v185) rfl (by decide) (by decide)
  have e_main_v184 := un m c 187 (y := main_v184) rfl (by decide) (by decide)
  have e_main_v186 := un m c 189 (y := main_v186) rfl (by decide) (by decide)
  have e_main_v187 := bin m c 190 (y := main_v187) rfl (by decide) (by decide) (by decide)
  have e_main_v188 := un m c 191 (y := main_v188) rfl (by decide) (by decide)
  have e_main_v190 := un m c 193 (y := main_v190) rfl (by decide) (by decide)
  have e_main_v189 := un m c 192 (y := main_v189) rfl (by decide) (by decide)
  have e_main_v191 := un m c 194 (y := main_v191) rfl (by decide) (by decide)
  have e_main_v192 := bin m c 195 (y := main_v192) rfl (by decide) (by decide) (by decide)
  have e_main_v193 := bin m c 196 (y := main_v193) rfl (by decide) (by decide) (by decide)
  dsimp only
  rw [e_main_v193, e_main_v192, e_main_v191, e_main_v189, e_main_v190, e_main_v188, e_main_v187, e_main_v186, e_main_v184, e_main_v185, e_main_v183]
  pointwise [v5_at, v6_at, v163_at, v182_at]
  rfl

theorem v204_at (k : Fin 17) (g : Fin 64) (p : Fin 16) (n : Fin 64) : (show FVec Ideal S17x64x16x64 .f32 from rd m c main_v204) (ix4 k g p n) = caI m c k g p n := by
  have e_main_v194 := un m c 197 (y := main_v194) rfl (by decide) (by decide)
  have e_main_v196 := un m c 199 (y := main_v196) rfl (by decide) (by decide)
  have e_main_v195 := un m c 198 (y := main_v195) rfl (by decide) (by decide)
  have e_main_v197 := un m c 200 (y := main_v197) rfl (by decide) (by decide)
  have e_main_v198 := bin m c 201 (y := main_v198) rfl (by decide) (by decide) (by decide)
  have e_main_v199 := un m c 202 (y := main_v199) rfl (by decide) (by decide)
  have e_main_v201 := un m c 204 (y := main_v201) rfl (by decide) (by decide)
  have e_main_v200 := un m c 203 (y := main_v200) rfl (by decide) (by decide)
  have e_main_v202 := un m c 205 (y := main_v202) rfl (by decide) (by decide)
  have e_main_v203 := bin m c 206 (y := main_v203) rfl (by decide) (by decide) (by decide)
  have e_main_v204 := bin m c 207 (y := main_v204) rfl (by decide) (by decide) (by decide)
  dsimp only
  rw [e_main_v204, e_main_v203, e_main_v202, e_main_v200, e_main_v201, e_main_v199, e_main_v198, e_main_v197, e_main_v195, e_main_v196, e_main_v194]
  pointwise [v5_at, v6_at, v163_at, v182_at]
  rfl

/-- Entry `n` of the product's first operand: the real parts, then the negated imaginary parts. -/
def lhsK (k : ℕ) (g : Fin 64) (p : Fin 16) (n : Fin 128) : EReal :=
  if h : n.val < 64 then caR m c k g p ⟨n, h⟩ else -caI m c k g p ⟨n - 64, by omega⟩

/-- Entry `n` of the product's second operand: the real parts, then the imaginary parts. -/
def rhsK (g : Fin 64) (n : Fin 128) (q : Fin 16) : EReal :=
  if h : n.val < 64 then br m c g ⟨n, h⟩ q else bi m c g ⟨n - 64, by omega⟩ q

/-- The kernel of lag `k` from channel `q` to channel `p`: the product of precision HIGH. -/
def kernK (k : ℕ) (g : Fin 64) (p q : Fin 16) : EReal := ∑ n : Fin 128, lhsK m c k g p n * rhsK m c g n q

/-- The map from the state to channel `p` after `k + 1` steps. -/
def outK (z : Fin 2) (k : ℕ) (g : Fin 64) (p : Fin 16) (n : Fin 64) : EReal :=
  if z.val < 1 then caR m c (1 + k) g p n else -caI m c (1 + k) g p n

/-- The map from channel `q` at step `k` to the state after all steps. -/
def winK (k : ℕ) (g : Fin 64) (q : Fin 16) (n : Fin 128) : EReal :=
  if h : n.val < 64 then
    (pn m c g ⟨n, h⟩ (15 - k)).1 * br m c g ⟨n, h⟩ q - (pn m c g ⟨n, h⟩ (15 - k)).2 * bi m c g ⟨n, h⟩ q
  else (pn m c g ⟨n - 64, by omega⟩ (15 - k)).1 * bi m c g ⟨n - 64, by omega⟩ q
    + (pn m c g ⟨n - 64, by omega⟩ (15 - k)).2 * br m c g ⟨n - 64, by omega⟩ q

theorem v208_at (k : Fin 16) (g : Fin 64) (p : Fin 16) (n : Fin 128) : (show FVec Ideal S16x64x16x128 .f32 from rd m c main_v208) (ix4 k g p n) = lhsK m c k g p n := by
  have e_main_v205 := un m c 208 (y := main_v205) rfl (by decide) (by decide)
  have e_main_v206 := un m c 209 (y := main_v206) rfl (by decide) (by decide)
  have e_main_v207 := un m c 210 (y := main_v207) rfl (by decide) (by decide)
  have e_main_v208 := bin m c 211 (y := main_v208) rfl (by decide) (by decide) (by decide)
  dsimp only
  rw [e_main_v208, e_main_v207, e_main_v206, e_main_v205]
  pointwise [v193_at, v204_at]
  rfl

theorem v209_at (g : Fin 64) (n : Fin 128) (q : Fin 16) : (show FVec Ideal S64x128x16 .f32 from rd m c main_v209) (ix3 g n q) = rhsK m c g n q := by
  have e_main_v209 := bin m c 212 (y := main_v209) rfl (by decide) (by decide) (by decide)
  dsimp only
  rw [e_main_v209]
  pointwise [br_at, bi_at]
  rfl

theorem v211_at (g : Fin 64) (q k p : Fin 16) : (show FVec Ideal S64x16x16x16 .f32 from rd m c main_v211) (ix4 g q k p) = kernK m c k g p q := by
  have e_main_v210 := bin m c 213 (y := main_v210) rfl (by decide) (by decide) (by decide)
  have e_main_v211 := un m c 214 (y := main_v211) rfl (by decide) (by decide)
  dsimp only
  rw [e_main_v211, e_main_v210]
  pointwise [v208_at, v209_at]
  rfl

theorem v212_at (j : Fin 8) (a : Fin 128) (x : Fin 256) : (show FVec Ideal S8x128x256 .f32 from rd m c main_v212) (ix3 j a x) = kernK m c (x / 16) ⟨j * 8 + a / 16, by omega⟩ ⟨x % 16, by omega⟩ ⟨a % 16, by omega⟩ := by
  have e_main_v212 := cast m c 215 (y := main_v212) rfl (by decide) (by decide)
  refine (congrFun e_main_v212 (ix3 j a x)).trans ?_
  show shapeCast S8x128x256 ((show FVec Ideal S64x16x16x16 .f32 from rd m c main_v211)) shapeCasts_S64x16x16x16_S8x128x256 (ix3 j a x) = _
  pointwise [v211_at]

theorem v218_at (z : Fin 2) (k : Fin 16) (g : Fin 64) (p : Fin 16) (n : Fin 64) : (show FVec Ideal S2x16x64x16x64 .f32 from rd m c main_v218) (ix5 z k g p n) = outK m c z k g p n := by
  have e_main_v213 := un m c 216 (y := main_v213) rfl (by decide) (by decide)
  have e_main_v216 := un m c 219 (y := main_v216) rfl (by decide) (by decide)
  have e_main_v214 := un m c 217 (y := main_v214) rfl (by decide) (by decide)
  have e_main_v215 := un m c 218 (y := main_v215) rfl (by decide) (by decide)
  have e_main_v217 := un m c 220 (y := main_v217) rfl (by decide) (by decide)
  have e_main_v218 := bin m c 221 (y := main_v218) rfl (by decide) (by decide) (by decide)
  dsimp only
  rw [e_main_v218, e_main_v217, e_main_v215, e_main_v214, e_main_v216, e_main_v213]
  pointwise [v193_at, v204_at]
  rfl

theorem v221_at (j : Fin 8) (a : Fin 1024) (x : Fin 256) : (show FVec Ideal S8x1024x256 .f32 from rd m c main_v221) (ix3 j a x) =
    outK m c ⟨a / 512, by omega⟩ (x / 16) ⟨j * 8 + a / 64 % 8, by omega⟩ ⟨x % 16, by omega⟩ ⟨a % 64, by omega⟩ := by
  have e_main_v219 := cast m c 222 (y := main_v219) rfl (by decide) (by decide)
  have e_main_v220 := un m c 223 (y := main_v220) rfl (by decide) (by decide)
  have e_main_v221 := cast m c 224 (y := main_v221) rfl (by decide) (by decide)
  rw [e_main_v219] at e_main_v220
  rw [e_main_v220] at e_main_v221
  refine (congrFun e_main_v221 (ix3 j a x)).trans ?_
  show shapeCast S8x1024x256 (transpose S8x2x8x64x16x16 [2, 0, 3, 5, 1, 4] (shapeCast S2x16x8x8x16x64 (show FVec Ideal S2x16x64x16x64 .f32 from rd m c main_v218)
    shapeCasts_S2x16x64x16x64_S2x16x8x8x16x64) transposes_S2x16x8x8x16x64_S8x2x8x64x16x16_2_0_3_5_1_4) shapeCasts_S8x2x8x64x16x16_S8x1024x256 (ix3 j a x) = _
  pointwise [v218_at]

theorem v276_at (k : Fin 16) (g : Fin 64) (q : Fin 16) (n : Fin 128) : (show FVec Ideal S16x64x16x128 .f32 from rd m c main_v276) (ix4 k g q n) = winK m c k g q n := by
  have e_main_v256 := un m c 259 (y := main_v256) rfl (by decide) (by decide)
  have e_main_v262 := un m c 265 (y := main_v262) rfl (by decide) (by decide)
  have e_main_v258 := un m c 261 (y := main_v258) rfl (by decide) (by decide)
  have e_main_v259 := un m c 262 (y := main_v259) rfl (by decide) (by decide)
  have e_main_v263 := un m c 266 (y := main_v263) rfl (by decide) (by decide)
  have e_main_v264 := bin m c 267 (y := main_v264) rfl (by decide) (by decide) (by decide)
  have e_main_v257 := un m c 260 (y := main_v257) rfl (by decide) (by decide)
  have e_main_v265 := un m c 268 (y := main_v265) rfl (by decide) (by decide)
  have e_main_v260 := un m c 263 (y := main_v260) rfl (by decide) (by decide)
  have e_main_v261 := un m c 264 (y := main_v261) rfl (by decide) (by decide)
  have e_main_v266 := un m c 269 (y := main_v266) rfl (by decide) (by decide)
  have e_main_v267 := bin m c 270 (y := main_v267) rfl (by decide) (by decide) (by decide)
  have e_main_v268 := bin m c 271 (y := main_v268) rfl (by decide) (by decide) (by decide)
  have e_main_v269 := un m c 272 (y := main_v269) rfl (by decide) (by decide)
  have e_main_v270 := un m c 273 (y := main_v270) rfl (by decide) (by decide)
  have e_main_v271 := bin m c 274 (y := main_v271) rfl (by decide) (by decide) (by decide)
  have e_main_v272 := un m c 275 (y := main_v272) rfl (by decide) (by decide)
  have e_main_v273 := un m c 276 (y := main_v273) rfl (by decide) (by decide)
  have e_main_v274 := bin m c 277 (y := main_v274) rfl (by decide) (by decide) (by decide)
  have e_main_v275 := bin m c 278 (y := main_v275) rfl (by decide) (by decide) (by decide)
  have e_main_v276 := bin m c 279 (y := main_v276) rfl (by decide) (by decide) (by decide)
  dsimp only
  rw [e_main_v276, e_main_v275, e_main_v274, e_main_v273, e_main_v272, e_main_v271, e_main_v270, e_main_v269, e_main_v268, e_main_v267, e_main_v266, e_main_v261, e_main_v260, e_main_v265, e_main_v257, e_main_v264, e_main_v263, e_main_v259, e_main_v258, e_main_v262, e_main_v256]
  pointwise [v238_at, v255_at, br_at, bi_at]
  rfl

theorem v279_at (j : Fin 8) (a : Fin 2048) (n : Fin 128) : (show FVec Ideal S8x2048x128 .f32 from rd m c main_v279) (ix3 j a n) =
    winK m c (a / 128) ⟨j * 8 + a % 128 / 16, by omega⟩ ⟨a % 128 % 16, by omega⟩ n := by
  have e_main_v277 := cast m c 280 (y := main_v277) rfl (by decide) (by decide)
  have e_main_v278 := un m c 281 (y := main_v278) rfl (by decide) (by decide)
  have e_main_v279 := cast m c 282 (y := main_v279) rfl (by decide) (by decide)
  rw [e_main_v277] at e_main_v278
  rw [e_main_v278] at e_main_v279
  refine (congrFun e_main_v279 (ix3 j a n)).trans ?_
  show shapeCast S8x2048x128 (transpose S8x16x128x128 [1, 0, 2, 3] (shapeCast S16x8x128x128 (show FVec Ideal S16x64x16x128 .f32 from rd m c main_v276)
    shapeCasts_S16x64x16x128_S16x8x128x128) transposes_S16x8x128x128_S8x16x128x128_1_0_2_3) shapeCasts_S8x16x128x128_S8x2048x128 (ix3 j a n) = _
  pointwise [v276_at]

end Cert.S5
-- ==== Proof.S5Ref.lean ====
/- The state-space reference, read at one index over the extended reals. -/
module

public import proofs.«01_k».proof.Proof.S5Defs
public import proofs.«01_k».proof.Proof.Gen.ReferenceIdeal.Run
public import proofs.«01_k».proof.Proof.Gen.ReferenceIdeal.Read

@[expose] public section

set_option maxRecDepth 16384

noncomputable section

namespace Cert.S5.Ref

open Idealize.ShloMosaic Idealize.ShloMosaic.TcCoe Idealize.SL.Sem
open Cert.ReferenceIdeal Cert.ReferenceIdeal.Gen

variable (x0 x1 : FVec Ideal S1x64x64 .f32) (x2 : FVec Ideal S1x64 .f32) (x3 x4 : FVec Ideal S1x64x64x16 .f32)
  (x5 x6 : FVec Ideal S1x64x16x64 .f32)

/-- The diagonal's real part, of group `g`, entry `n`. -/
abbrev ar (g n : Fin 64) : EReal := aRe (x0 (ix3 0 g n)) (x1 (ix3 0 g n)) (x2 (ix2 0 g))

/-- The diagonal's imaginary part. -/
abbrev ai (g n : Fin 64) : EReal := aIm (x0 (ix3 0 g n)) (x1 (ix3 0 g n)) (x2 (ix2 0 g))

/-- The input weights' real part, of group `g`, entry `n`, channel `q`. -/
abbrev br (g n : Fin 64) (q : Fin 16) : EReal :=
  bRe (x0 (ix3 0 g n)) (x1 (ix3 0 g n)) (x2 (ix2 0 g)) (x3 (ix4 0 g n q)) (x4 (ix4 0 g n q))

/-- The input weights' imaginary part. -/
abbrev bi (g n : Fin 64) (q : Fin 16) : EReal :=
  bIm (x0 (ix3 0 g n)) (x1 (ix3 0 g n)) (x2 (ix2 0 g)) (x3 (ix4 0 g n q)) (x4 (ix4 0 g n q))

theorem ar_at (g n : Fin 64) : Read.val_main_v13 (F := Ideal) x0 x1 x2 (ix2 g n) = ar x0 x1 x2 g n := by
  pointwise [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_v13]
  rfl

theorem ai_at (g n : Fin 64) : Read.val_main_v17 (F := Ideal) x0 x1 x2 (ix2 g n) = ai x0 x1 x2 g n := by
  pointwise [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_v14, Read.val_main_v15, Read.val_main_v16, Read.val_main_v17]
  rfl

theorem br_at (g n : Fin 64) (q : Fin 16) : Read.val_main_v37 (F := Ideal) x0 x1 x2 x3 x4 (ix3 g n q) = br x0 x1 x2 x3 x4 g n q := by
  pointwise [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_v14, Read.val_main_v15, Read.val_main_v16, Read.val_main_v18, Read.val_main_v19, Read.val_main_v20, Read.val_main_v21, Read.val_main_v22, Read.val_main_v23, Read.val_main_v24, Read.val_main_v25, Read.val_main_v26, Read.val_main_v27, Read.val_main_v28, Read.val_main_v29, Read.val_main_v30, Read.val_main_v31, Read.val_main_v32, Read.val_main_v33, Read.val_main_v34, Read.val_main_v35, Read.val_main_v36, Read.val_main_v37, ar_at, ai_at, Read.val_main_cst]
  rfl

theorem bi_at (g n : Fin 64) (q : Fin 16) : Read.val_main_v45 (F := Ideal) x0 x1 x2 x3 x4 (ix3 g n q) = bi x0 x1 x2 x3 x4 g n q := by
  pointwise [Read.val_main_v0, Read.val_main_v1, Read.val_main_v2, Read.val_main_v3, Read.val_main_v4, Read.val_main_v5, Read.val_main_v6, Read.val_main_v7, Read.val_main_v8, Read.val_main_v9, Read.val_main_v10, Read.val_main_v11, Read.val_main_v12, Read.val_main_v14, Read.val_main_v15, Read.val_main_v16, Read.val_main_v18, Read.val_main_v19, Read.val_main_v20, Read.val_main_v21, Read.val_main_v22, Read.val_main_v23, Read.val_main_v24, Read.val_main_v25, Read.val_main_v26, Read.val_main_v27, Read.val_main_v28, Read.val_main_v29, Read.val_main_v30, Read.val_main_v39, Read.val_main_v40, Read.val_main_v41, Read.val_main_v42, Read.val_main_v43, Read.val_main_v44, Read.val_main_v45, ar_at, ai_at, Read.val_main_cst]
  rfl

theorem unit_word (e k : Fin 3072) : FloatOps.uitofp (F := Ideal) FTy.f32 (IntOp.cmpi CmpIPredicate.eq (IntOp.addi (BitVec.ofNat 32 e.val) 0#32) (BitVec.ofNat 32 k.val)) = hit e k := by
  unfold hit
  by_cases h : e.val = k.val
  · rw [h]; simp only [IntOp.addi, IntOp.cmpi, BitVec.add_zero, beq_self_eq_true, if_true, BitVec.ofBool_true]
    show (((1#1 : BitVec 1).toNat : ℝ) : EReal) = 1
    simp
  · have hb : (BitVec.ofNat 32 e.val == BitVec.ofNat 32 k.val) = false := by
      rw [beq_eq_false_iff_ne]; intro hh; apply h
      have := congrArg BitVec.toNat hh
      simp only [BitVec.toNat_ofNat] at this
      omega
    simp only [IntOp.addi, IntOp.cmpi, BitVec.add_zero, hb, h, if_false, BitVec.ofBool_false]
    show (((0#1 : BitVec 1).toNat : ℝ) : EReal) = 0
    simp

theorem unit_at (e k : Fin 3072) : Read.val_main_v54 (F := Ideal) (ix2 e k) = hit e k := by
  pointwise [Read.val_main_v49, Read.val_main_v50, Read.val_main_v51, Read.val_main_v52, Read.val_main_v53, Read.val_main_v54, Read.val_main_c]
  exact unit_word e k

/-- The group of entry `i` of block `j`. -/
abbrev grp (j i : Fin 8) : Fin 64 := ⟨j.val * 8 + i.val, by omega⟩

/-- The input of experiment `e` at step `t`, real part. -/
def xr (e : Fin 3072) (j i : Fin 8) (n : Fin 64) (t : ℕ) : EReal :=
  ∑ q : Fin 16, br x0 x1 x2 x3 x4 (grp j i) n q * hit e (t * 128 + i.val * 16 + q.val)

/-- The input of experiment `e` at step `t`, imaginary part. -/
def xi (e : Fin 3072) (j i : Fin 8) (n : Fin 64) (t : ℕ) : EReal :=
  ∑ q : Fin 16, bi x0 x1 x2 x3 x4 (grp j i) n q * hit e (t * 128 + i.val * 16 + q.val)

/-- The state of experiment `e` before step `t`. -/
def hst (e : Fin 3072) (j i : Fin 8) (n : Fin 64) (t : ℕ) : EReal × EReal :=
  rec (ar x0 x1 x2 (grp j i) n) (ai x0 x1 x2 (grp j i) n) (xr x0 x1 x2 x3 x4 e j i n) (xi x0 x1 x2 x3 x4 e j i n)
    (hit e (2048 + (i.val * 64 + n.val))) (hit e (2560 + (i.val * 64 + n.val))) t

theorem xr_at (t : Fin 16) (e : Fin 3072) (j i : Fin 8) (n : Fin 64) :
    Read.val_main_v64 (F := Ideal) x0 x1 x2 x3 x4 (ix5 t e j i n) = xr x0 x1 x2 x3 x4 e j i n t := by
  pointwise [Read.val_main_v64, Read.val_main_v63, Read.val_main_v38, Read.val_main_v56, Read.val_main_v55, br_at, unit_at]
  rfl

theorem xi_at (t : Fin 16) (e : Fin 3072) (j i : Fin 8) (n : Fin 64) :
    Read.val_main_v66 (F := Ideal) x0 x1 x2 x3 x4 (ix5 t e j i n) = xi x0 x1 x2 x3 x4 e j i n t := by
  pointwise [Read.val_main_v66, Read.val_main_v65, Read.val_main_v46, Read.val_main_v56, Read.val_main_v55, bi_at, unit_at]
  rfl

theorem h0r_at (e : Fin 3072) (j i : Fin 8) (n : Fin 64) :
    Read.val_main_v59 (F := Ideal) (ix4 e j i n) = hit e (2048 + (i.val * 64 + n.val)) := by
  pointwise [Read.val_main_v57, Read.val_main_v58, Read.val_main_v59, unit_at]
  try rfl

theorem h0i_at (e : Fin 3072) (j i : Fin 8) (n : Fin 64) :
    Read.val_main_v62 (F := Ideal) (ix4 e j i n) = hit e (2560 + (i.val * 64 + n.val)) := by
  pointwise [Read.val_main_v60, Read.val_main_v61, Read.val_main_v62, unit_at]
  try rfl

theorem hr0_at (e : Fin 3072) (j i : Fin 8) (n : Fin 64) :
    Read.val_main_v76 (F := Ideal) x0 x1 x2 x3 x4 (ix4 e j i n) = (hst x0 x1 x2 x3 x4 e j i n 1).1 := by
  pointwise [Read.val_main_v47, Read.val_main_v48, Read.val_main_v67, Read.val_main_v68, Read.val_main_v69, Read.val_main_v70, Read.val_main_v71, Read.val_main_v72, Read.val_main_v73, Read.val_main_v74, Read.val_main_v75, Read.val_main_v76, h0r_at, h0i_at, ar_at, ai_at, xr_at]
  rfl

theorem hi0_at (e : Fin 3072) (j i : Fin 8) (n : Fin 64) :
    Read.val_main_v86 (F := Ideal) x0 x1 x2 x3 x4 (ix4 e j i n) = (hst x0 x1 x2 x3 x4 e j i n 1).2 := by
  pointwise [Read.val_main_v47, Read.val_main_v48, Read.val_main_v77, Read.val_main_v78, Read.val_main_v79, Read.val_main_v80, Read.val_main_v81, Read.val_main_v82, Read.val_main_v83, Read.val_main_v84, Read.val_main_v85, Read.val_main_v86, h0r_at, h0i_at, ar_at, ai_at, xi_at]
  rfl

theorem hr1_at (e : Fin 3072) (j i : Fin 8) (n : Fin 64) :
    Read.val_main_v96 (F := Ideal) x0 x1 x2 x3 x4 (ix4 e j i n) = (hst x0 x1 x2 x3 x4 e j i n 2).1 := by
  pointwise [Read.val_main_v47, Read.val_main_v48, Read.val_main_v87, Read.val_main_v88, Read.val_main_v89, Read.val_main_v90, Read.val_main_v91, Read.val_main_v92, Read.val_main_v93, Read.val_main_v94, Read.val_main_v95, Read.val_main_v96, hr0_at, hi0_at, ar_at, ai_at, xr_at]
  rfl

theorem hi1_at (e : Fin 3072) (j i : Fin 8) (n : Fin 64) :
    Read.val_main_v106 (F := Ideal) x0 x1 x2 x3 x4 (ix4 e j i n) = (hst x0 x1 x2 x3 x4 e j i n 2).2 := by
  pointwise [Read.val_main_v47, Read.val_main_v48, Read.val_main_v97, Read.val_main_v98, Read.val_main_v99, Read.val_main_v100, Read.val_main_v101, Read.val_main_v102, Read.val_main_v103, Read.val_main_v104, Read.val_main_v105, Read.val_main_v106, hr0_at, hi0_at, ar_at, ai_at, xi_at]
  rfl

theorem hr2_at (e : Fin 3072) (j i : Fin 8) (n : Fin 64) :
    Read.val_main_v116 (F := Ideal) x0 x1 x2 x3 x4 (ix4 e j i n) = (hst x0 x1 x2 x3 x4 e j i n 3).1 := by
  pointwise [Read.val_main_v47, Read.val_main_v48, Read.val_main_v107, Read.val_main_v108, Read.val_main_v109, Read.val_main_v110, Read.val_main_v111, Read.val_main_v112, Read.val_main_v113, Read.val_main_v114, Read.val_main_v115, Read.val_main_v116, hr1_at, hi1_at, ar_at, ai_at, xr_at]
  rfl

theorem hi2_at (e : Fin 3072) (j i : Fin 8) (n : Fin 64) :
    Read.val_main_v126 (F := Ideal) x0 x1 x2 x3 x4 (ix4 e j i n) = (hst x0 x1 x2 x3 x4 e j i n 3).2 := by
  pointwise [Read.val_main_v47, Read.val_main_v48, Read.val_main_v117, Read.val_main_v118, Read.val_main_v119, Read.val_main_v120, Read.val_main_v121, Read.val_main_v122, Read.val_main_v123, Read.val_main_v124, Read.val_main_v125, Read.val_main_v126, hr1_at, hi1_at, ar_at, ai_at, xi_at]
  rfl

theorem hr3_at (e : Fin 3072) (j i : Fin 8) (n : Fin 64) :
    Read.val_main_v136 (F := Ideal) x0 x1 x2 x3 x4 (ix4 e j i n) = (hst x0 x1 x2 x3 x4 e j i n 4).1 := by
  pointwise [Read.val_main_v47, Read.val_main_v48, Read.val_main_v127, Read.val_main_v128, Read.val_main_v129, Read.val_main_v130, Read.val_main_v131, Read.val_main_v132, Read.val_main_v133, Read.val_main_v134, Read.val_main_v135, Read.val_main_v136, hr2_at, hi2_at, ar_at, ai_at, xr_at]
  rfl

theorem hi3_at (e : Fin 3072) (j i : Fin 8) (n : Fin 64) :
    Read.val_main_v146 (F := Ideal) x0 x1 x2 x3 x4 (ix4 e j i n) = (hst x0 x1 x2 x3 x4 e j i n 4).2 := by
  pointwise [Read.val_main_v47, Read.val_main_v48, Read.val_main_v137, Read.val_main_v138, Read.val_main_v139, Read.val_main_v140, Read.val_main_v141, Read.val_main_v142, Read.val_main_v143, Read.val_main_v144, Read.val_main_v145, Read.val_main_v146, hr2_at, hi2_at, ar_at, ai_at, xi_at]
  rfl

theorem hr4_at (e : Fin 3072) (j i : Fin 8) (n : Fin 64) :
    Read.val_main_v156 (F := Ideal) x0 x1 x2 x3 x4 (ix4 e j i n) = (hst x0 x1 x2 x3 x4 e j i n 5).1 := by
  pointwise [Read.val_main_v47, Read.val_main_v48, Read.val_main_v147, Read.val_main_v148, Read.val_main_v149, Read.val_main_v150, Read.val_main_v151, Read.val_main_v152, Read.val_main_v153, Read.val_main_v154, Read.val_main_v155, Read.val_main_v156, hr3_at, hi3_at, ar_at, ai_at, xr_at]
  rfl

theorem hi4_at (e : Fin 3072) (j i : Fin 8) (n : Fin 64) :
    Read.val_main_v166 (F := Ideal) x0 x1 x2 x3 x4 (ix4 e j i n) = (hst x0 x1 x2 x3 x4 e j i n 5).2 := by
  pointwise [Read.val_main_v47, Read.val_main_v48, Read.val_main_v157, Read.val_main_v158, Read.val_main_v159, Read.val_main_v160, Read.val_main_v161, Read.val_main_v162, Read.val_main_v163, Read.val_main_v164, Read.val_main_v165, Read.val_main_v166, hr3_at, hi3_at, ar_at, ai_at, xi_at]
  rfl

theorem hr5_at (e : Fin 3072) (j i : Fin 8) (n : Fin 64) :
    Read.val_main_v176 (F := Ideal) x0 x1 x2 x3 x4 (ix4 e j i n) = (hst x0 x1 x2 x3 x4 e j i n 6).1 := by
  pointwise [Read.val_main_v47, Read.val_main_v48, Read.val_main_v167, Read.val_main_v168, Read.val_main_v169, Read.val_main_v170, Read.val_main_v171, Read.val_main_v172, Read.val_main_v173, Read.val_main_v174, Read.val_main_v175, Read.val_main_v176, hr4_at, hi4_at, ar_at, ai_at, xr_at]
  rfl

theorem hi5_at (e : Fin 3072) (j i : Fin 8) (n : Fin 64) :
    Read.val_main_v186 (F := Ideal) x0 x1 x2 x3 x4 (ix4 e j i n) = (hst x0 x1 x2 x3 x4 e j i n 6).2 := by
  pointwise [Read.val_main_v47, Read.val_main_v48, Read.val_main_v177, Read.val_main_v178, Read.val_main_v179, Read.val_main_v180, Read.val_main_v181, Read.val_main_v182, Read.val_main_v183, Read.val_main_v184, Read.val_main_v185, Read.val_main_v186, hr4_at, hi4_at, ar_at, ai_at, xi_at]
  rfl

theorem hr6_at (e : Fin 3072) (j i : Fin 8) (n : Fin 64) :
    Read.val_main_v196 (F := Ideal) x0 x1 x2 x3 x4 (ix4 e j i n) = (hst x0 x1 x2 x3 x4 e j i n 7).1 := by
  pointwise [Read.val_main_v47, Read.val_main_v48, Read.val_main_v187, Read.val_main_v188, Read.val_main_v189, Read.val_main_v190, Read.val_main_v191, Read.val_main_v192, Read.val_main_v193, Read.val_main_v194, Read.val_main_v195, Read.val_main_v196, hr5_at, hi5_at, ar_at, ai_at, xr_at]
  rfl

theorem hi6_at (e : Fin 3072) (j i : Fin 8) (n : Fin 64) :
    Read.val_main_v206 (F := Ideal) x0 x1 x2 x3 x4 (ix4 e j i n) = (hst x0 x1 x2 x3 x4 e j i n 7).2 := by
  pointwise [Read.val_main_v47, Read.val_main_v48, Read.val_main_v197, Read.val_main_v198, Read.val_main_v199, Read.val_main_v200, Read.val_main_v201, Read.val_main_v202, Read.val_main_v203, Read.val_main_v204, Read.val_main_v205, Read.val_main_v206, hr5_at, hi5_at, ar_at, ai_at, xi_at]
  rfl

theorem hr7_at (e : Fin 3072) (j i : Fin 8) (n : Fin 64) :
    Read.val_main_v216 (F := Ideal) x0 x1 x2 x3 x4 (ix4 e j i n) = (hst x0 x1 x2 x3 x4 e j i n 8).1 := by
  pointwise [Read.val_main_v47, Read.val_main_v48, Read.val_main_v207, Read.val_main_v208, Read.val_main_v209, Read.val_main_v210, Read.val_main_v211, Read.val_main_v212, Read.val_main_v213, Read.val_main_v214, Read.val_main_v215, Read.val_main_v216, hr6_at, hi6_at, ar_at, ai_at, xr_at]
  rfl

theorem hi7_at (e : Fin 3072) (j i : Fin 8) (n : Fin 64) :
    Read.val_main_v226 (F := Ideal) x0 x1 x2 x3 x4 (ix4 e j i n) = (hst x0 x1 x2 x3 x4 e j i n 8).2 := by
  pointwise [Read.val_main_v47, Read.val_main_v48, Read.val_main_v217, Read.val_main_v218, Read.val_main_v219, Read.val_main_v220, Read.val_main_v221, Read.val_main_v222, Read.val_main_v223, Read.val_main_v224, Read.val_main_v225, Read.val_main_v226, hr6_at, hi6_at, ar_at, ai_at, xi_at]
  rfl

theorem hr8_at (e : Fin 3072) (j i : Fin 8) (n : Fin 64) :
    Read.val_main_v236 (F := Ideal) x0 x1 x2 x3 x4 (ix4 e j i n) = (hst x0 x1 x2 x3 x4 e j i n 9).1 := by
  pointwise [Read.val_main_v47, Read.val_main_v48, Read.val_main_v227, Read.val_main_v228, Read.val_main_v229, Read.val_main_v230, Read.val_main_v231, Read.val_main_v232, Read.val_main_v233, Read.val_main_v234, Read.val_main_v235, Read.val_main_v236, hr7_at, hi7_at, ar_at, ai_at, xr_at]
  rfl

theorem hi8_at (e : Fin 3072) (j i : Fin 8) (n : Fin 64) :
    Read.val_main_v246 (F := Ideal) x0 x1 x2 x3 x4 (ix4 e j i n) = (hst x0 x1 x2 x3 x4 e j i n 9).2 := by
  pointwise [Read.val_main_v47, Read.val_main_v48, Read.val_main_v237, Read.val_main_v238, Read.val_main_v239, Read.val_main_v240, Read.val_main_v241, Read.val_main_v242, Read.val_main_v243, Read.val_main_v244, Read.val_main_v245, Read.val_main_v246, hr7_at, hi7_at, ar_at, ai_at, xi_at]
  rfl

theorem hr9_at (e : Fin 3072) (j i : Fin 8) (n : Fin 64) :
    Read.val_main_v256 (F := Ideal) x0 x1 x2 x3 x4 (ix4 e j i n) = (hst x0 x1 x2 x3 x4 e j i n 10).1 := by
  pointwise [Read.val_main_v47, Read.val_main_v48, Read.val_main_v247, Read.val_main_v248, Read.val_main_v249, Read.val_main_v250, Read.val_main_v251, Read.val_main_v252, Read.val_main_v253, Read.val_main_v254, Read.val_main_v255, Read.val_main_v256, hr8_at, hi8_at, ar_at, ai_at, xr_at]
  rfl

theorem hi9_at (e : Fin 3072) (j i : Fin 8) (n : Fin 64) :
    Read.val_main_v266 (F := Ideal) x0 x1 x2 x3 x4 (ix4 e j i n) = (hst x0 x1 x2 x3 x4 e j i n 10).2 := by
  pointwise [Read.val_main_v47, Read.val_main_v48, Read.val_main_v257, Read.val_main_v258, Read.val_main_v259, Read.val_main_v260, Read.val_main_v261, Read.val_main_v262, Read.val_main_v263, Read.val_main_v264, Read.val_main_v265, Read.val_main_v266, hr8_at, hi8_at, ar_at, ai_at, xi_at]
  rfl

theorem hr10_at (e : Fin 3072) (j i : Fin 8) (n : Fin 64) :
    Read.val_main_v276 (F := Ideal) x0 x1 x2 x3 x4 (ix4 e j i n) = (hst x0 x1 x2 x3 x4 e j i n 11).1 := by
  pointwise [Read.val_main_v47, Read.val_main_v48, Read.val_main_v267, Read.val_main_v268, Read.val_main_v269, Read.val_main_v270, Read.val_main_v271, Read.val_main_v272, Read.val_main_v273, Read.val_main_v274, Read.val_main_v275, Read.val_main_v276, hr9_at, hi9_at, ar_at, ai_at, xr_at]
  rfl

theorem hi10_at (e : Fin 3072) (j i : Fin 8) (n : Fin 64) :
    Read.val_main_v286 (F := Ideal) x0 x1 x2 x3 x4 (ix4 e j i n) = (hst x0 x1 x2 x3 x4 e j i n 11).2 := by
  pointwise [Read.val_main_v47, Read.val_main_v48, Read.val_main_v277, Read.val_main_v278, Read.val_main_v279, Read.val_main_v280, Read.val_main_v281, Read.val_main_v282, Read.val_main_v283, Read.val_main_v284, Read.val_main_v285, Read.val_main_v286, hr9_at, hi9_at, ar_at, ai_at, xi_at]
  rfl

theorem hr11_at (e : Fin 3072) (j i : Fin 8) (n : Fin 64) :
    Read.val_main_v296 (F := Ideal) x0 x1 x2 x3 x4 (ix4 e j i n) = (hst x0 x1 x2 x3 x4 e j i n 12).1 := by
  pointwise [Read.val_main_v47, Read.val_main_v48, Read.val_main_v287, Read.val_main_v288, Read.val_main_v289, Read.val_main_v290, Read.val_main_v291, Read.val_main_v292, Read.val_main_v293, Read.val_main_v294, Read.val_main_v295, Read.val_main_v296, hr10_at, hi10_at, ar_at, ai_at, xr_at]
  rfl

theorem hi11_at (e : Fin 3072) (j i : Fin 8) (n : Fin 64) :
    Read.val_main_v306 (F := Ideal) x0 x1 x2 x3 x4 (ix4 e j i n) = (hst x0 x1 x2 x3 x4 e j i n 12).2 := by
  pointwise [Read.val_main_v47, Read.val_main_v48, Read.val_main_v297, Read.val_main_v298, Read.val_main_v299, Read.val_main_v300, Read.val_main_v301, Read.val_main_v302, Read.val_main_v303, Read.val_main_v304, Read.val_main_v305, Read.val_main_v306, hr10_at, hi10_at, ar_at, ai_at, xi_at]
  rfl

theorem hr12_at (e : Fin 3072) (j i : Fin 8) (n : Fin 64) :
    Read.val_main_v316 (F := Ideal) x0 x1 x2 x3 x4 (ix4 e j i n) = (hst x0 x1 x2 x3 x4 e j i n 13).1 := by
  pointwise [Read.val_main_v47, Read.val_main_v48, Read.val_main_v307, Read.val_main_v308, Read.val_main_v309, Read.val_main_v310, Read.val_main_v311, Read.val_main_v312, Read.val_main_v313, Read.val_main_v314, Read.val_main_v315, Read.val_main_v316, hr11_at, hi11_at, ar_at, ai_at, xr_at]
  rfl

theorem hi12_at (e : Fin 3072) (j i : Fin 8) (n : Fin 64) :
    Read.val_main_v326 (F := Ideal) x0 x1 x2 x3 x4 (ix4 e j i n) = (hst x0 x1 x2 x3 x4 e j i n 13).2 := by
  pointwise [Read.val_main_v47, Read.val_main_v48, Read.val_main_v317, Read.val_main_v318, Read.val_main_v319, Read.val_main_v320, Read.val_main_v321, Read.val_main_v322, Read.val_main_v323, Read.val_main_v324, Read.val_main_v325, Read.val_main_v326, hr11_at, hi11_at, ar_at, ai_at, xi_at]
  rfl

theorem hr13_at (e : Fin 3072) (j i : Fin 8) (n : Fin 64) :
    Read.val_main_v336 (F := Ideal) x0 x1 x2 x3 x4 (ix4 e j i n) = (hst x0 x1 x2 x3 x4 e j i n 14).1 := by
  pointwise [Read.val_main_v47, Read.val_main_v48, Read.val_main_v327, Read.val_main_v328, Read.val_main_v329, Read.val_main_v330, Read.val_main_v331, Read.val_main_v332, Read.val_main_v333, Read.val_main_v334, Read.val_main_v335, Read.val_main_v336, hr12_at, hi12_at, ar_at, ai_at, xr_at]
  rfl

theorem hi13_at (e : Fin 3072) (j i : Fin 8) (n : Fin 64) :
    Read.val_main_v346 (F := Ideal) x0 x1 x2 x3 x4 (ix4 e j i n) = (hst x0 x1 x2 x3 x4 e j i n 14).2 := by
  pointwise [Read.val_main_v47, Read.val_main_v48, Read.val_main_v337, Read.val_main_v338, Read.val_main_v339, Read.val_main_v340, Read.val_main_v341, Read.val_main_v342, Read.val_main_v343, Read.val_main_v344, Read.val_main_v345, Read.val_main_v346, hr12_at, hi12_at, ar_at, ai_at, xi_at]
  rfl

theorem hr14_at (e : Fin 3072) (j i : Fin 8) (n : Fin 64) :
    Read.val_main_v356 (F := Ideal) x0 x1 x2 x3 x4 (ix4 e j i n) = (hst x0 x1 x2 x3 x4 e j i n 15).1 := by
  pointwise [Read.val_main_v47, Read.val_main_v48, Read.val_main_v347, Read.val_main_v348, Read.val_main_v349, Read.val_main_v350, Read.val_main_v351, Read.val_main_v352, Read.val_main_v353, Read.val_main_v354, Read.val_main_v355, Read.val_main_v356, hr13_at, hi13_at, ar_at, ai_at, xr_at]
  rfl

theorem hi14_at (e : Fin 3072) (j i : Fin 8) (n : Fin 64) :
    Read.val_main_v366 (F := Ideal) x0 x1 x2 x3 x4 (ix4 e j i n) = (hst x0 x1 x2 x3 x4 e j i n 15).2 := by
  pointwise [Read.val_main_v47, Read.val_main_v48, Read.val_main_v357, Read.val_main_v358, Read.val_main_v359, Read.val_main_v360, Read.val_main_v361, Read.val_main_v362, Read.val_main_v363, Read.val_main_v364, Read.val_main_v365, Read.val_main_v366, hr13_at, hi13_at, ar_at, ai_at, xi_at]
  rfl

theorem hr15_at (e : Fin 3072) (j i : Fin 8) (n : Fin 64) :
    Read.val_main_v376 (F := Ideal) x0 x1 x2 x3 x4 (ix4 e j i n) = (hst x0 x1 x2 x3 x4 e j i n 16).1 := by
  pointwise [Read.val_main_v47, Read.val_main_v48, Read.val_main_v367, Read.val_main_v368, Read.val_main_v369, Read.val_main_v370, Read.val_main_v371, Read.val_main_v372, Read.val_main_v373, Read.val_main_v374, Read.val_main_v375, Read.val_main_v376, hr14_at, hi14_at, ar_at, ai_at, xr_at]
  rfl

theorem hi15_at (e : Fin 3072) (j i : Fin 8) (n : Fin 64) :
    Read.val_main_v386 (F := Ideal) x0 x1 x2 x3 x4 (ix4 e j i n) = (hst x0 x1 x2 x3 x4 e j i n 16).2 := by
  pointwise [Read.val_main_v47, Read.val_main_v48, Read.val_main_v377, Read.val_main_v378, Read.val_main_v379, Read.val_main_v380, Read.val_main_v381, Read.val_main_v382, Read.val_main_v383, Read.val_main_v384, Read.val_main_v385, Read.val_main_v386, hr14_at, hi14_at, ar_at, ai_at, xi_at]
  rfl

theorem allr_at (t : Fin 16) (e : Fin 3072) (j i : Fin 8) (n : Fin 64) :
    Read.val_main_v403 (F := Ideal) x0 x1 x2 x3 x4 (ix5 t e j i n) = (hst x0 x1 x2 x3 x4 e j i n (t.val + 1)).1 := by
  fin_cases t <;>
  (pointwise [Read.val_main_v387, Read.val_main_v388, Read.val_main_v389, Read.val_main_v390, Read.val_main_v391, Read.val_main_v392, Read.val_main_v393, Read.val_main_v394, Read.val_main_v395, Read.val_main_v396, Read.val_main_v397, Read.val_main_v398, Read.val_main_v399, Read.val_main_v400, Read.val_main_v401, Read.val_main_v402, Read.val_main_v403, hr0_at, hr1_at, hr2_at, hr3_at, hr4_at, hr5_at, hr6_at, hr7_at, hr8_at, hr9_at, hr10_at, hr11_at, hr12_at, hr13_at, hr14_at, hr15_at]; try rfl)

theorem alli_at (t : Fin 16) (e : Fin 3072) (j i : Fin 8) (n : Fin 64) :
    Read.val_main_v420 (F := Ideal) x0 x1 x2 x3 x4 (ix5 t e j i n) = (hst x0 x1 x2 x3 x4 e j i n (t.val + 1)).2 := by
  fin_cases t <;>
  (pointwise [Read.val_main_v404, Read.val_main_v405, Read.val_main_v406, Read.val_main_v407, Read.val_main_v408, Read.val_main_v409, Read.val_main_v410, Read.val_main_v411, Read.val_main_v412, Read.val_main_v413, Read.val_main_v414, Read.val_main_v415, Read.val_main_v416, Read.val_main_v417, Read.val_main_v418, Read.val_main_v419, Read.val_main_v420, hi0_at, hi1_at, hi2_at, hi3_at, hi4_at, hi5_at, hi6_at, hi7_at, hi8_at, hi9_at, hi10_at, hi11_at, hi12_at, hi13_at, hi14_at, hi15_at]; try rfl)

/-- The reference's first result at one index: what experiment `e` gives out at step `b / 128`, on channel `b % 128`. -/
theorem y_at (j : Fin 8) (e : Fin 3072) (b : Fin 2048) :
    Read.val_main_v437 (F := Ideal) x0 x1 x2 x3 x4 x5 x6 (ix3 j e b) =
      ∑ n : Fin 64, x5 (ix4 0 (grp j ⟨b / 16 % 8, by omega⟩) ⟨b % 16, by omega⟩ n) * (hst x0 x1 x2 x3 x4 e j ⟨b / 16 % 8, by omega⟩ n (b / 128 + 1)).1 -
      ∑ n : Fin 64, x6 (ix4 0 (grp j ⟨b / 16 % 8, by omega⟩) ⟨b % 16, by omega⟩ n) * (hst x0 x1 x2 x3 x4 e j ⟨b / 16 % 8, by omega⟩ n (b / 128 + 1)).2 := by
  pointwise [Read.val_main_v421, Read.val_main_v422, Read.val_main_v423, Read.val_main_v424, Read.val_main_v425, Read.val_main_v426, Read.val_main_v427, Read.val_main_v428, Read.val_main_v429, Read.val_main_v436, Read.val_main_v437, allr_at, alli_at]

/-- The reference's second result at one index: the last state of experiment `e`. -/
theorem state_at (j : Fin 8) (e : Fin 2048) (b : Fin 1024) :
    Read.val_main_v439 (F := Ideal) x0 x1 x2 x3 x4 (ix3 j e b) =
      if b.val / 512 < 1 then (hst x0 x1 x2 x3 x4 ⟨e, by omega⟩ j ⟨b / 64 % 8, by omega⟩ ⟨b % 64, by omega⟩ 16).1
      else (hst x0 x1 x2 x3 x4 ⟨e, by omega⟩ j ⟨b / 64 % 8, by omega⟩ ⟨b % 64, by omega⟩ 16).2 := by
  pointwise [Read.val_main_v430, Read.val_main_v431, Read.val_main_v432, Read.val_main_v433, Read.val_main_v434, Read.val_main_v435, Read.val_main_v438, Read.val_main_v439, hr15_at, hi15_at]
  rfl

end Cert.S5.Ref
-- ==== Proof.S5Body.lean ====
/- The expansion's payloads and its two results, read at one index over the extended reals. -/
module

public import proofs.«01_k».proof.Proof.S5Defs
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.S5

open Idealize.ShloMosaic Idealize.ShloMosaic.TcCoe Idealize.SL.Sem
open Cert.KernelIdeal Cert.KernelIdeal.Gen

/-- The floor of a quotient of words, as the kernel computes it. -/
def fd (d x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt d 0#32)) (Scalar.extui (Scalar.cmpi .slt d 0#32))))
      (IntOp.cmpi .ne (IntOp.remsi .vector x d) 0#32))
    (IntOp.subi (IntOp.divsi .vector x d) 1#32)
    (IntOp.divsi .vector x d)

/-- The remainder of the floor division, as the kernel computes it. -/
def md (d x : BitVec 32) : BitVec 32 :=
  Scalar.select
    (IntOp.andi
      (IntOp.xori
        (IntOp.cmpi .slt (IntOp.remsi .vector x (Scalar.select (Scalar.cmpi .eq d 0#32) 1#32 d)) 0#32)
        (Scalar.cmpi .slt (Scalar.select (Scalar.cmpi .eq d 0#32) 1#32 d) 0#32))
      (IntOp.cmpi .ne (IntOp.remsi .vector x (Scalar.select (Scalar.cmpi .eq d 0#32) 1#32 d)) 0#32))
    (IntOp.addi (IntOp.remsi .vector x (Scalar.select (Scalar.cmpi .eq d 0#32) 1#32 d))
      (Scalar.select (Scalar.cmpi .eq d 0#32) 1#32 d))
    (IntOp.remsi .vector x (Scalar.select (Scalar.cmpi .eq d 0#32) 1#32 d))

/-- Words of small naturals are equal when the naturals are. -/
theorem word_eq {a b : ℕ} (ha : a < 4096) (hb : b < 4096) : (BitVec.ofNat 32 a = BitVec.ofNat 32 b) ↔ a = b := by
  constructor
  · intro h
    have := congrArg BitVec.toNat h
    simp only [BitVec.toNat_ofNat] at this
    omega
  · rintro rfl; rfl

theorem word_cmp (x y : BitVec 32) : IntOp.cmpi .eq x y = BitVec.ofBool (decide (x = y)) := by
  show BitVec.ofBool (x == y) = _
  by_cases h : x = y
  · rw [h, beq_self_eq_true, decide_eq_true rfl]
  · rw [beq_eq_false_iff_ne.2 h, decide_eq_false h]

theorem pick {a b : ℕ} (ha : a < 4096) (hb : b < 4096) (x y : EReal) :
    Scalar.select (IntOp.cmpi .eq (BitVec.ofNat 32 a) (BitVec.ofNat 32 b)) x y = if a = b then x else y := by
  rw [word_cmp]
  by_cases h : a = b
  · rw [if_pos h, decide_eq_true ((word_eq ha hb).2 h)]; rfl
  · rw [if_neg h, decide_eq_false (fun e => h ((word_eq ha hb).1 e))]; rfl

theorem pick2 {a b a' b' : ℕ} (ha : a < 4096) (hb : b < 4096) (ha' : a' < 4096) (hb' : b' < 4096) (x y : EReal) :
    Scalar.select (IntOp.andi (IntOp.cmpi .eq (BitVec.ofNat 32 a) (BitVec.ofNat 32 b))
      (IntOp.cmpi .eq (BitVec.ofNat 32 a') (BitVec.ofNat 32 b'))) x y = if a = b ∧ a' = b' then x else y := by
  rw [word_cmp, word_cmp]
  by_cases h : a = b
  · by_cases h' : a' = b'
    · rw [if_pos ⟨h, h'⟩, decide_eq_true ((word_eq ha hb).2 h), decide_eq_true ((word_eq ha' hb').2 h')]; rfl
    · rw [if_neg (fun e => h' e.2), decide_eq_true ((word_eq ha hb).2 h), decide_eq_false (fun e => h' ((word_eq ha' hb').1 e))]; rfl
  · rw [if_neg (fun e => h e.1), decide_eq_false (fun e => h ((word_eq ha hb).1 e))]
    cases decide (BitVec.ofNat 32 a' = BitVec.ofNat 32 b') <;> rfl

/-- A product with a column that is one at one place. -/
theorem hot {n : ℕ} (N : Fin n) (f : Fin n → EReal) : (∑ k, f k * (if k.val = N.val then 1 else 0)) = f N := by
  rw [Finset.sum_eq_single N]
  · rw [if_pos rfl, mul_one]
  · intro b _ hb
    rw [if_neg (fun e => hb (Fin.ext e)), mul_zero]
  · intro h; exact absurd (Finset.mem_univ N) h

theorem fd16 : ∀ r : Fin 256, ∀ c : Fin 2048, k0_pay2 (ix2 r c) = BitVec.ofNat 32 (r / 16) := by
  intro r c
  pointwise [k0_pay2]
  revert r
  decide +kernel

/-- The group of eight that a column belongs to, in its block of 128. -/
theorem col_at : ∀ c : Fin 2048, k0_pay7 (iota .tc S1x2048 32 [1] iota_S1x2048_d1_w32) 128#32 (ix2 0 c) = BitVec.ofNat 32 (c % 128 / 16) := by
  intro c
  pointwise [k0_pay7]
  revert c
  decide +kernel

/-- The first expansion matrix: one where the row names the column's step and channel. -/
theorem rep_at (r : Fin 256) (c : Fin 2048) :
    k0_pay6 (F := Ideal) (iota .tc S256x2048 32 [0] iota_S256x2048_d0_w32) (iota .tc S256x2048 32 [1] iota_S256x2048_d1_w32)
      k0_pay2 k0_pay3 k0_pay4 k0_pay5 (ix2 r c) = if r.val = c / 128 * 16 + c % 16 then 1 else 0 := by
  have h1 : ∀ c : Fin 2048, fd 128#32 (BitVec.ofNat 32 c) = BitVec.ofNat 32 (c / 128) := by decide +kernel
  have h2 : ∀ c : Fin 2048, md 16#32 (BitVec.ofNat 32 c) = BitVec.ofNat 32 (c % 16) := by decide +kernel
  have h3 : ∀ r : Fin 256, md 16#32 (BitVec.ofNat 32 r) = BitVec.ofNat 32 (r % 16) := by decide +kernel
  pointwise [k0_pay6, fd16, k0_pay3, k0_pay4, k0_pay5]
  show Scalar.select (IntOp.andi (IntOp.cmpi .eq (BitVec.ofNat 32 (r / 16)) (fd 128#32 (BitVec.ofNat 32 c)))
    (IntOp.cmpi .eq (md 16#32 (BitVec.ofNat 32 r)) (md 16#32 (BitVec.ofNat 32 c)))) (1 : EReal) 0 = _
  rw [h1, h2, h3, pick2 (by omega) (by omega) (by omega) (by omega)]
  refine if_congr ?_ rfl rfl
  omega

/-- The block-diagonal kernel, at row `a` and column `c`. -/
def bdV (x : Vec Ideal S1x128x256 .f32) (a : Fin 128) (c : Fin 2048) : EReal :=
  if a.val / 16 = c % 128 / 16 then x (ix3 0 a ⟨c / 128 * 16 + c % 16, by omega⟩) else 0

/-- The output rows, at row `r` and column `c`. -/
def roV (x : Vec Ideal S1x1024x256 .f32) (r : Fin 1024) (c : Fin 2048) : EReal :=
  if r.val % 512 / 64 = c % 128 / 16 then x (ix3 0 r ⟨c / 128 * 16 + c % 16, by omega⟩) else 0

/-- The input map, at row `r` and column `c`. -/
def wiV (x : Vec Ideal S1x2048x128 .f32) (r : Fin 2048) (c : Fin 1024) : EReal :=
  if r.val % 128 / 16 = c % 512 / 64 then x (ix3 0 r ⟨c / 512 * 64 + c % 64, by omega⟩) else 0

/-- The first result of one grid point: shifted copies of the kernel below the diagonal, then the output rows. -/
def wyV (x0 : Vec Ideal S1x128x256 .f32) (x1 : Vec Ideal S1x1024x256 .f32) (r : Fin 3072) (c : Fin 2048) : EReal :=
  if h : r.val < 2048 then
    (if c.val / 128 < r / 128 then 0 else bdV x0 ⟨r % 128, by omega⟩ ⟨c - r / 128 * 128, by omega⟩)
  else roV x1 ⟨r - 2048, by omega⟩ c

theorem bd_at (w : FVec Ideal S256x2048 .bf16) (hw : ∀ r c, w (ix2 r c) = if r.val = c.val / 128 * 16 + c % 16 then 1 else 0)
    (g : IVec S1x2048 32) (hg : ∀ c, g (ix2 0 c) = BitVec.ofNat 32 (c.val % 128 / 16)) (x : Vec Ideal S1x128x256 .f32) (a : Fin 128) (c : Fin 2048) :
    k0_pay10 (F := Ideal) w g (iota .tc S128x1 32 [0] iota_S128x1_d0_w32)
      16#32 k0_pay8 k0_pay9 x (ix2 a c) = bdV x a c := by
  have h1 : ∀ a : Fin 128, fd 16#32 (BitVec.ofNat 32 a) = BitVec.ofNat 32 (a / 16) := by decide +kernel
  pointwise [k0_pay10, k0_pay8, k0_pay9, hg, hw]
  rw [hot ⟨c / 128 * 16 + c % 16, by omega⟩ fun k => x (ix3 0 a k)]
  show Scalar.select (IntOp.cmpi .eq (fd 16#32 (BitVec.ofNat 32 a)) (BitVec.ofNat 32 (c % 128 / 16))) _ (0 : EReal) = _
  rw [h1, pick (by omega) (by omega)]
  rfl

theorem ro_at (w : FVec Ideal S256x2048 .bf16) (hw : ∀ r c, w (ix2 r c) = if r.val = c.val / 128 * 16 + c % 16 then 1 else 0)
    (g : IVec S1x2048 32) (hg : ∀ c, g (ix2 0 c) = BitVec.ofNat 32 (c.val % 128 / 16)) (x : Vec Ideal S1x1024x256 .f32) (r : Fin 1024) (c : Fin 2048) :
    k0_pay48 (F := Ideal) w g k0_pay46 (k0_pay47 x) (ix3 0 r c) = roV x r c := by
  have h1 : ∀ r : Fin 1024, fd 64#32 (md 512#32 (BitVec.ofNat 32 r)) = BitVec.ofNat 32 (r % 512 / 64) := by decide +kernel
  pointwise [k0_pay48, k0_pay46, k0_pay47, hg, hw]
  rw [hot ⟨c / 128 * 16 + c % 16, by omega⟩ fun k => x (ix3 0 r k)]
  show Scalar.select (IntOp.cmpi .eq (fd 64#32 (md 512#32 (BitVec.ofNat 32 r))) (BitVec.ofNat 32 (c % 128 / 16))) _ (0 : EReal) = _
  rw [h1, pick (by omega) (by omega)]
  rfl

/-- The second expansion matrix: one where the row names the column's half and state. -/
theorem rep2_at (r : Fin 128) (c : Fin 1024) :
    k0_pay59 (F := Ideal)
        (k0_pay53 (iota .tc S128x1024 32 [1] iota_S128x1024_d1_w32) k0_pay49 512#32 k0_pay50 k0_pay51 k0_pay52)
        (k0_pay54 (iota .tc S128x1024 32 [0] iota_S128x1024_d0_w32)) 64#32
        (k0_pay55 (iota .tc S128x1024 32 [1] iota_S128x1024_d1_w32))
        (k0_pay56 (iota .tc S128x1024 32 [1] iota_S128x1024_d1_w32))
        (k0_pay57 (iota .tc S128x1024 32 [1] iota_S128x1024_d1_w32)) k0_pay58 (ix2 r c) = if r.val = c / 512 * 64 + c % 64 then 1 else 0 := by
  have h0 : ∀ r : Fin 128, fd 64#32 (BitVec.ofNat 32 r) = BitVec.ofNat 32 (r / 64) := by decide +kernel
  have h1 : ∀ c : Fin 1024, fd 512#32 (BitVec.ofNat 32 c) = BitVec.ofNat 32 (c / 512) := by decide +kernel
  have h2 : ∀ c : Fin 1024, md 64#32 (BitVec.ofNat 32 c) = BitVec.ofNat 32 (c % 64) := by decide +kernel
  have h3 : ∀ r : Fin 128, md 64#32 (BitVec.ofNat 32 r) = BitVec.ofNat 32 (r % 64) := by decide +kernel
  pointwise [k0_pay59, k0_pay53, k0_pay49, k0_pay50, k0_pay51, k0_pay52, k0_pay54, k0_pay55, k0_pay56, k0_pay57, k0_pay58]
  show Scalar.select (IntOp.andi (IntOp.cmpi .eq (fd 64#32 (BitVec.ofNat 32 r)) (fd 512#32 (BitVec.ofNat 32 c)))
    (IntOp.cmpi .eq (md 64#32 (BitVec.ofNat 32 r)) (md 64#32 (BitVec.ofNat 32 c)))) (1 : EReal) 0 = _
  rw [h0, h1, h2, h3, pick2 (by omega) (by omega) (by omega) (by omega)]
  refine if_congr ?_ rfl rfl
  omega

theorem wi_at (w : FVec Ideal S128x1024 .bf16) (hw : ∀ r c, w (ix2 r c) = if r.val = c.val / 512 * 64 + c % 64 then 1 else 0)
    (x : Vec Ideal S1x2048x128 .f32) (r : Fin 2048) (c : Fin 1024) :
    k0_pay1 (F := Ideal) w (k0_pay64 k0_pay61 k0_pay62 k0_pay63) k0_pay66 k0_pay67 k0_pay68 x (ix3 0 r c) = wiV x r c := by
  have h1 : ∀ r : Fin 2048, fd 16#32 (md 128#32 (BitVec.ofNat 32 r)) = BitVec.ofNat 32 (r % 128 / 16) := by decide +kernel
  have h2 : ∀ c : Fin 1024, fd 64#32 (md 512#32 (BitVec.ofNat 32 c)) = BitVec.ofNat 32 (c % 512 / 64) := by decide +kernel
  pointwise [k0_pay1, k0_pay64, k0_pay61, k0_pay62, k0_pay63, k0_pay60, k0_pay65, k0_pay66, k0_pay67, k0_pay68, hw]
  rw [hot ⟨c / 512 * 64 + c % 64, by omega⟩ fun k => x (ix3 0 r k)]
  show Scalar.select (IntOp.cmpi .eq (fd 16#32 (md 128#32 (BitVec.ofNat 32 r))) (fd 64#32 (md 512#32 (BitVec.ofNat 32 c)))) _ (0 : EReal) = _
  rw [h1, h2, pick (by omega) (by omega)]
  rfl

theorem z1_at (a : Fin 128) (q : Fin 128) : k0_pay12 (F := Ideal) (ix3 0 a q) = 0 := by
  pointwise [k0_pay12]

theorem z2_at (a : Fin 128) (q : Fin 256) : k0_pay15 (F := Ideal) (ix3 0 a q) = 0 := by
  pointwise [k0_pay15]

theorem s2_at (w : FVec Ideal S128x2048 .bf16) (a : Fin 128) (q : Fin 1792) : k0_pay16 (F := Ideal) w (ix3 0 a q) = w (ix2 a ⟨q, by omega⟩) := by
  pointwise [k0_pay16]

theorem z3_at (a : Fin 128) (q : Fin 384) : k0_pay17 (F := Ideal) (ix3 0 a q) = 0 := by
  pointwise [k0_pay17]

theorem s3_at (w : FVec Ideal S128x2048 .bf16) (a : Fin 128) (q : Fin 1664) : k0_pay18 (F := Ideal) w (ix3 0 a q) = w (ix2 a ⟨q, by omega⟩) := by
  pointwise [k0_pay18]

theorem z4_at (a : Fin 128) (q : Fin 512) : k0_pay19 (F := Ideal) (ix3 0 a q) = 0 := by
  pointwise [k0_pay19]

theorem s4_at (w : FVec Ideal S128x2048 .bf16) (a : Fin 128) (q : Fin 1536) : k0_pay20 (F := Ideal) w (ix3 0 a q) = w (ix2 a ⟨q, by omega⟩) := by
  pointwise [k0_pay20]

theorem z5_at (a : Fin 128) (q : Fin 640) : k0_pay22 (F := Ideal) k0_pay21 (ix3 0 a q) = 0 := by
  pointwise [k0_pay22, k0_pay21]

theorem s5_at (w : FVec Ideal S128x2048 .bf16) (a : Fin 128) (q : Fin 1408) : k0_pay23 (F := Ideal) w (ix3 0 a q) = w (ix2 a ⟨q, by omega⟩) := by
  pointwise [k0_pay23]

theorem z6_at (a : Fin 128) (q : Fin 768) : k0_pay24 (F := Ideal) (ix3 0 a q) = 0 := by
  pointwise [k0_pay24]

theorem s6_at (w : FVec Ideal S128x2048 .bf16) (a : Fin 128) (q : Fin 1280) : k0_pay25 (F := Ideal) w (ix3 0 a q) = w (ix2 a ⟨q, by omega⟩) := by
  pointwise [k0_pay25]

theorem z7_at (a : Fin 128) (q : Fin 896) : k0_pay26 (F := Ideal) (ix3 0 a q) = 0 := by
  pointwise [k0_pay26]

theorem s7_at (w : FVec Ideal S128x2048 .bf16) (a : Fin 128) (q : Fin 1152) : k0_pay27 (F := Ideal) w (ix3 0 a q) = w (ix2 a ⟨q, by omega⟩) := by
  pointwise [k0_pay27]

theorem z8_at (a : Fin 128) (q : Fin 1024) : k0_pay28 (F := Ideal) (ix3 0 a q) = 0 := by
  pointwise [k0_pay28]

theorem s8_at (w : FVec Ideal S128x2048 .bf16) (a : Fin 128) (q : Fin 1024) : k0_pay30 (k0_pay29 (F := Ideal) w) (ix3 0 a q) = w (ix2 a ⟨q, by omega⟩) := by
  pointwise [k0_pay30, k0_pay29]

theorem z9_at (a : Fin 128) (q : Fin 1152) : k0_pay31 (F := Ideal) (ix3 0 a q) = 0 := by
  pointwise [k0_pay31]

theorem s9_at (w : FVec Ideal S128x2048 .bf16) (a : Fin 128) (q : Fin 896) : k0_pay32 (F := Ideal) w (ix3 0 a q) = w (ix2 a ⟨q, by omega⟩) := by
  pointwise [k0_pay32]

theorem z10_at (a : Fin 128) (q : Fin 1280) : k0_pay33 (F := Ideal) (ix3 0 a q) = 0 := by
  pointwise [k0_pay33]

theorem s10_at (w : FVec Ideal S128x2048 .bf16) (a : Fin 128) (q : Fin 768) : k0_pay34 (F := Ideal) w (ix3 0 a q) = w (ix2 a ⟨q, by omega⟩) := by
  pointwise [k0_pay34]

theorem z11_at (a : Fin 128) (q : Fin 1408) : k0_pay35 (F := Ideal) (ix3 0 a q) = 0 := by
  pointwise [k0_pay35]

theorem s11_at (w : FVec Ideal S128x2048 .bf16) (a : Fin 128) (q : Fin 640) : k0_pay36 (F := Ideal) w (ix3 0 a q) = w (ix2 a ⟨q, by omega⟩) := by
  pointwise [k0_pay36]

theorem z12_at (a : Fin 128) (q : Fin 1536) : k0_pay38 (F := Ideal) k0_pay37 (ix3 0 a q) = 0 := by
  pointwise [k0_pay38, k0_pay37]

theorem s12_at (w : FVec Ideal S128x2048 .bf16) (a : Fin 128) (q : Fin 512) : k0_pay39 (F := Ideal) w (ix3 0 a q) = w (ix2 a ⟨q, by omega⟩) := by
  pointwise [k0_pay39]

theorem z13_at (a : Fin 128) (q : Fin 1664) : k0_pay40 (F := Ideal) (ix3 0 a q) = 0 := by
  pointwise [k0_pay40]

theorem s13_at (w : FVec Ideal S128x2048 .bf16) (a : Fin 128) (q : Fin 384) : k0_pay41 (F := Ideal) w (ix3 0 a q) = w (ix2 a ⟨q, by omega⟩) := by
  pointwise [k0_pay41]

theorem z14_at (a : Fin 128) (q : Fin 1792) : k0_pay42 (F := Ideal) (ix3 0 a q) = 0 := by
  pointwise [k0_pay42]

theorem s14_at (w : FVec Ideal S128x2048 .bf16) (a : Fin 128) (q : Fin 256) : k0_pay43 (F := Ideal) w (ix3 0 a q) = w (ix2 a ⟨q, by omega⟩) := by
  pointwise [k0_pay43]

theorem z15_at (a : Fin 128) (q : Fin 1920) : k0_pay44 (F := Ideal) (ix3 0 a q) = 0 := by
  pointwise [k0_pay44]

theorem s15_at (w : FVec Ideal S128x2048 .bf16) (a : Fin 128) (q : Fin 128) : k0_pay45 (F := Ideal) w (ix3 0 a q) = w (ix2 a ⟨q, by omega⟩) := by
  pointwise [k0_pay45]

/-- A tile's local index, by its coordinates. -/
theorem local_ix {n k : ℕ} (x : (⟨3, ![1, n, k]⟩ : Shape).Idx) : ∃ (a : Fin n) (q : Fin k), x = ix3 (n0 := 1) (n1 := n) (n2 := k) 0 a q := by
  refine ⟨x 1, x 2, ?_⟩
  refine (eq_ix3 x).trans ?_
  congr 1
  exact Subsingleton.elim (α := Fin 1) _ _

/-- Below the diagonal the first result is zero. -/
theorem wy_zero (x0 : Vec Ideal S1x128x256 .f32) (x1 : Vec Ideal S1x1024x256 .f32) (r : Fin 3072) (q : Fin 2048) (s : ℕ)
    (hr : s * 128 ≤ r.val) (hr' : r.val < s * 128 + 128) (hs : s < 16) (hq : q.val < s * 128) : wyV x0 x1 r q = 0 := by
  unfold wyV
  rw [dif_pos (by omega), if_pos (by omega)]

/-- On and above the diagonal the first result is the shifted kernel. -/
theorem wy_shift (x0 : Vec Ideal S1x128x256 .f32) (x1 : Vec Ideal S1x1024x256 .f32) (r : Fin 3072) (q : Fin 2048) (s : ℕ) (hs : s < 16)
    (a : Fin 128) (b : Fin 2048) (hr : r.val = s * 128 + a) (hq : q.val = s * 128 + b) : wyV x0 x1 r q = bdV x0 a b := by
  unfold wyV
  rw [dif_pos (by omega), if_neg (by omega)]
  congr 1 <;> apply Fin.ext <;> dsimp only <;> omega

theorem wy_out (x0 : Vec Ideal S1x128x256 .f32) (x1 : Vec Ideal S1x1024x256 .f32) (r : Fin 3072) (q : Fin 2048)
    (a : Fin 1024) (b : Fin 2048) (hr : r.val = 2048 + a) (hq : q.val = b) : wyV x0 x1 r q = roV x1 a b := by
  unfold wyV
  rw [dif_neg (by omega)]
  have e : (⟨r.val - 2048, by omega⟩ : Fin 1024) = a := Fin.ext (by dsimp only; omega)
  rw [e, Fin.ext hq]

theorem out3_at (c : Dev nD) (i : grid0.Coords) (arg1 : Memref sig .tc .vmem S1x128x256 .f32) (harg1 : arg1.IsWhole) (arg2 : Memref sig .tc .vmem S1x1024x256 .f32)
    (harg2 : arg2.IsWhole) (arg3 : Memref sig .tc .vmem S1x2048x128 .f32) (harg3 : arg3.IsWhole) (arg4 : Memref sig .tc .vmem S1x3072x2048 .bf16)
    (harg4 : arg4.IsWhole) (arg5 : Memref sig .tc .vmem S1x2048x1024 .bf16) (harg5 : arg5.IsWhole) (x0 : Vec Ideal S1x128x256 .f32)
    (x1 : Vec Ideal S1x1024x256 .f32) (x2 : Vec Ideal S1x2048x128 .f32)
    (r : Fin 3072) (q : Fin 2048) :
    out0_A_3 (F := Ideal) c i arg1 harg1 arg2 harg2 arg3 harg3 arg4 harg4 arg5 harg5 x0 x1 x2 (ix3 0 r q) = wyV x0 x1 r q := by
  unfold out0_A_3
  rw [View.read_writes_junk_eq_canon]
  refine View.canon_eq_of_allAt _ _ _ (cover0_A_3 _ _ _ _ _ _ _ _ _ _ _ _ _ _ _ (ix3 0 r q)) ?_
  frame_out
  refine View.allAt_cons_unit _ _ _ _ _ (fun x h => ?_) ?_
  · obtain ⟨a, b, rfl⟩ := local_ix x
    have hr : r.val = _ := h 1
    have hq : q.val = _ := h 2
    dsimp at hr hq
    refine (ro_at _ rep_at _ col_at x1 a b).trans (wy_out x0 x1 r q a b (by omega) (by omega)).symm
  refine View.allAt_cons_unit _ _ _ _ _ (fun x h => ?_) ?_
  · obtain ⟨a, b, rfl⟩ := local_ix x
    have hr : r.val = _ := h 1
    have hq : q.val = _ := h 2
    dsimp at hr hq
    refine (s15_at _ a b).trans ((bd_at _ rep_at _ col_at x0 a _).trans (wy_shift x0 x1 r q 15 (by omega) a _ (by omega) (by dsimp only; omega)).symm)
  refine View.allAt_cons_unit _ _ _ _ _ (fun x h => ?_) ?_
  · obtain ⟨a, b, rfl⟩ := local_ix x
    have hr : r.val = _ := h 1
    have hq : q.val = _ := h 2
    dsimp at hr hq
    refine (z15_at a b).trans (wy_zero x0 x1 r q 15 (by omega) (by omega) (by omega) (by omega)).symm
  refine View.allAt_cons_unit _ _ _ _ _ (fun x h => ?_) ?_
  · obtain ⟨a, b, rfl⟩ := local_ix x
    have hr : r.val = _ := h 1
    have hq : q.val = _ := h 2
    dsimp at hr hq
    refine (s14_at _ a b).trans ((bd_at _ rep_at _ col_at x0 a _).trans (wy_shift x0 x1 r q 14 (by omega) a _ (by omega) (by dsimp only; omega)).symm)
  refine View.allAt_cons_unit _ _ _ _ _ (fun x h => ?_) ?_
  · obtain ⟨a, b, rfl⟩ := local_ix x
    have hr : r.val = _ := h 1
    have hq : q.val = _ := h 2
    dsimp at hr hq
    refine (z14_at a b).trans (wy_zero x0 x1 r q 14 (by omega) (by omega) (by omega) (by omega)).symm
  refine View.allAt_cons_unit _ _ _ _ _ (fun x h => ?_) ?_
  · obtain ⟨a, b, rfl⟩ := local_ix x
    have hr : r.val = _ := h 1
    have hq : q.val = _ := h 2
    dsimp at hr hq
    refine (s13_at _ a b).trans ((bd_at _ rep_at _ col_at x0 a _).trans (wy_shift x0 x1 r q 13 (by omega) a _ (by omega) (by dsimp only; omega)).symm)
  refine View.allAt_cons_unit _ _ _ _ _ (fun x h => ?_) ?_
  · obtain ⟨a, b, rfl⟩ := local_ix x
    have hr : r.val = _ := h 1
    have hq : q.val = _ := h 2
    dsimp at hr hq
    refine (z13_at a b).trans (wy_zero x0 x1 r q 13 (by omega) (by omega) (by omega) (by omega)).symm
  refine View.allAt_cons_unit _ _ _ _ _ (fun x h => ?_) ?_
  · obtain ⟨a, b, rfl⟩ := local_ix x
    have hr : r.val = _ := h 1
    have hq : q.val = _ := h 2
    dsimp at hr hq
    refine (s12_at _ a b).trans ((bd_at _ rep_at _ col_at x0 a _).trans (wy_shift x0 x1 r q 12 (by omega) a _ (by omega) (by dsimp only; omega)).symm)
  refine View.allAt_cons_unit _ _ _ _ _ (fun x h => ?_) ?_
  · obtain ⟨a, b, rfl⟩ := local_ix x
    have hr : r.val = _ := h 1
    have hq : q.val = _ := h 2
    dsimp at hr hq
    refine (z12_at a b).trans (wy_zero x0 x1 r q 12 (by omega) (by omega) (by omega) (by omega)).symm
  refine View.allAt_cons_unit _ _ _ _ _ (fun x h => ?_) ?_
  · obtain ⟨a, b, rfl⟩ := local_ix x
    have hr : r.val = _ := h 1
    have hq : q.val = _ := h 2
    dsimp at hr hq
    refine (s11_at _ a b).trans ((bd_at _ rep_at _ col_at x0 a _).trans (wy_shift x0 x1 r q 11 (by omega) a _ (by omega) (by dsimp only; omega)).symm)
  refine View.allAt_cons_unit _ _ _ _ _ (fun x h => ?_) ?_
  · obtain ⟨a, b, rfl⟩ := local_ix x
    have hr : r.val = _ := h 1
    have hq : q.val = _ := h 2
    dsimp at hr hq
    refine (z11_at a b).trans (wy_zero x0 x1 r q 11 (by omega) (by omega) (by omega) (by omega)).symm
  refine View.allAt_cons_unit _ _ _ _ _ (fun x h => ?_) ?_
  · obtain ⟨a, b, rfl⟩ := local_ix x
    have hr : r.val = _ := h 1
    have hq : q.val = _ := h 2
    dsimp at hr hq
    refine (s10_at _ a b).trans ((bd_at _ rep_at _ col_at x0 a _).trans (wy_shift x0 x1 r q 10 (by omega) a _ (by omega) (by dsimp only; omega)).symm)
  refine View.allAt_cons_unit _ _ _ _ _ (fun x h => ?_) ?_
  · obtain ⟨a, b, rfl⟩ := local_ix x
    have hr : r.val = _ := h 1
    have hq : q.val = _ := h 2
    dsimp at hr hq
    refine (z10_at a b).trans (wy_zero x0 x1 r q 10 (by omega) (by omega) (by omega) (by omega)).symm
  refine View.allAt_cons_unit _ _ _ _ _ (fun x h => ?_) ?_
  · obtain ⟨a, b, rfl⟩ := local_ix x
    have hr : r.val = _ := h 1
    have hq : q.val = _ := h 2
    dsimp at hr hq
    refine (s9_at _ a b).trans ((bd_at _ rep_at _ col_at x0 a _).trans (wy_shift x0 x1 r q 9 (by omega) a _ (by omega) (by dsimp only; omega)).symm)
  refine View.allAt_cons_unit _ _ _ _ _ (fun x h => ?_) ?_
  · obtain ⟨a, b, rfl⟩ := local_ix x
    have hr : r.val = _ := h 1
    have hq : q.val = _ := h 2
    dsimp at hr hq
    refine (z9_at a b).trans (wy_zero x0 x1 r q 9 (by omega) (by omega) (by omega) (by omega)).symm
  refine View.allAt_cons_unit _ _ _ _ _ (fun x h => ?_) ?_
  · obtain ⟨a, b, rfl⟩ := local_ix x
    have hr : r.val = _ := h 1
    have hq : q.val = _ := h 2
    dsimp at hr hq
    refine (s8_at _ a b).trans ((bd_at _ rep_at _ col_at x0 a _).trans (wy_shift x0 x1 r q 8 (by omega) a _ (by omega) (by dsimp only; omega)).symm)
  refine View.allAt_cons_unit _ _ _ _ _ (fun x h => ?_) ?_
  · obtain ⟨a, b, rfl⟩ := local_ix x
    have hr : r.val = _ := h 1
    have hq : q.val = _ := h 2
    dsimp at hr hq
    refine (z8_at a b).trans (wy_zero x0 x1 r q 8 (by omega) (by omega) (by omega) (by omega)).symm
  refine View.allAt_cons_unit _ _ _ _ _ (fun x h => ?_) ?_
  · obtain ⟨a, b, rfl⟩ := local_ix x
    have hr : r.val = _ := h 1
    have hq : q.val = _ := h 2
    dsimp at hr hq
    refine (s7_at _ a b).trans ((bd_at _ rep_at _ col_at x0 a _).trans (wy_shift x0 x1 r q 7 (by omega) a _ (by omega) (by dsimp only; omega)).symm)
  refine View.allAt_cons_unit _ _ _ _ _ (fun x h => ?_) ?_
  · obtain ⟨a, b, rfl⟩ := local_ix x
    have hr : r.val = _ := h 1
    have hq : q.val = _ := h 2
    dsimp at hr hq
    refine (z7_at a b).trans (wy_zero x0 x1 r q 7 (by omega) (by omega) (by omega) (by omega)).symm
  refine View.allAt_cons_unit _ _ _ _ _ (fun x h => ?_) ?_
  · obtain ⟨a, b, rfl⟩ := local_ix x
    have hr : r.val = _ := h 1
    have hq : q.val = _ := h 2
    dsimp at hr hq
    refine (s6_at _ a b).trans ((bd_at _ rep_at _ col_at x0 a _).trans (wy_shift x0 x1 r q 6 (by omega) a _ (by omega) (by dsimp only; omega)).symm)
  refine View.allAt_cons_unit _ _ _ _ _ (fun x h => ?_) ?_
  · obtain ⟨a, b, rfl⟩ := local_ix x
    have hr : r.val = _ := h 1
    have hq : q.val = _ := h 2
    dsimp at hr hq
    refine (z6_at a b).trans (wy_zero x0 x1 r q 6 (by omega) (by omega) (by omega) (by omega)).symm
  refine View.allAt_cons_unit _ _ _ _ _ (fun x h => ?_) ?_
  · obtain ⟨a, b, rfl⟩ := local_ix x
    have hr : r.val = _ := h 1
    have hq : q.val = _ := h 2
    dsimp at hr hq
    refine (s5_at _ a b).trans ((bd_at _ rep_at _ col_at x0 a _).trans (wy_shift x0 x1 r q 5 (by omega) a _ (by omega) (by dsimp only; omega)).symm)
  refine View.allAt_cons_unit _ _ _ _ _ (fun x h => ?_) ?_
  · obtain ⟨a, b, rfl⟩ := local_ix x
    have hr : r.val = _ := h 1
    have hq : q.val = _ := h 2
    dsimp at hr hq
    refine (z5_at a b).trans (wy_zero x0 x1 r q 5 (by omega) (by omega) (by omega) (by omega)).symm
  refine View.allAt_cons_unit _ _ _ _ _ (fun x h => ?_) ?_
  · obtain ⟨a, b, rfl⟩ := local_ix x
    have hr : r.val = _ := h 1
    have hq : q.val = _ := h 2
    dsimp at hr hq
    refine (s4_at _ a b).trans ((bd_at _ rep_at _ col_at x0 a _).trans (wy_shift x0 x1 r q 4 (by omega) a _ (by omega) (by dsimp only; omega)).symm)
  refine View.allAt_cons_unit _ _ _ _ _ (fun x h => ?_) ?_
  · obtain ⟨a, b, rfl⟩ := local_ix x
    have hr : r.val = _ := h 1
    have hq : q.val = _ := h 2
    dsimp at hr hq
    refine (z4_at a b).trans (wy_zero x0 x1 r q 4 (by omega) (by omega) (by omega) (by omega)).symm
  refine View.allAt_cons_unit _ _ _ _ _ (fun x h => ?_) ?_
  · obtain ⟨a, b, rfl⟩ := local_ix x
    have hr : r.val = _ := h 1
    have hq : q.val = _ := h 2
    dsimp at hr hq
    refine (s3_at _ a b).trans ((bd_at _ rep_at _ col_at x0 a _).trans (wy_shift x0 x1 r q 3 (by omega) a _ (by omega) (by dsimp only; omega)).symm)
  refine View.allAt_cons_unit _ _ _ _ _ (fun x h => ?_) ?_
  · obtain ⟨a, b, rfl⟩ := local_ix x
    have hr : r.val = _ := h 1
    have hq : q.val = _ := h 2
    dsimp at hr hq
    refine (z3_at a b).trans (wy_zero x0 x1 r q 3 (by omega) (by omega) (by omega) (by omega)).symm
  refine View.allAt_cons_unit _ _ _ _ _ (fun x h => ?_) ?_
  · obtain ⟨a, b, rfl⟩ := local_ix x
    have hr : r.val = _ := h 1
    have hq : q.val = _ := h 2
    dsimp at hr hq
    refine (s2_at _ a b).trans ((bd_at _ rep_at _ col_at x0 a _).trans (wy_shift x0 x1 r q 2 (by omega) a _ (by omega) (by dsimp only; omega)).symm)
  refine View.allAt_cons_unit _ _ _ _ _ (fun x h => ?_) ?_
  · obtain ⟨a, b, rfl⟩ := local_ix x
    have hr : r.val = _ := h 1
    have hq : q.val = _ := h 2
    dsimp at hr hq
    refine (z2_at a b).trans (wy_zero x0 x1 r q 2 (by omega) (by omega) (by omega) (by omega)).symm
  refine View.allAt_cons_unit _ _ _ _ _ (fun x h => ?_) ?_
  · obtain ⟨a, b, rfl⟩ := local_ix x
    have hr : r.val = _ := h 1
    have hq : q.val = _ := h 2
    dsimp at hr hq
    refine (Eq.trans (by pointwise [k0_pay14, k0_pay13]) (bd_at _ rep_at _ col_at x0 a ⟨b, by omega⟩)).trans (wy_shift x0 x1 r q 1 (by omega) a _ (by omega) (by dsimp only; omega)).symm
  refine View.allAt_cons_unit _ _ _ _ _ (fun x h => ?_) ?_
  · obtain ⟨a, b, rfl⟩ := local_ix x
    have hr : r.val = _ := h 1
    have hq : q.val = _ := h 2
    dsimp at hr hq
    refine (z1_at a b).trans (wy_zero x0 x1 r q 1 (by omega) (by omega) (by omega) (by omega)).symm
  refine View.allAt_cons_unit _ _ _ _ _ (fun x h => ?_) ?_
  · obtain ⟨a, b, rfl⟩ := local_ix x
    have hr : r.val = _ := h 1
    have hq : q.val = _ := h 2
    dsimp at hr hq
    refine (Eq.trans (by pointwise [k0_pay11]) (bd_at _ rep_at _ col_at x0 a ⟨b, by omega⟩)).trans (wy_shift x0 x1 r q 0 (by omega) a _ (by omega) (by dsimp only; omega)).symm
  exact View.allAt_nil _ _

theorem out4_at (c : Dev nD) (i : grid0.Coords) (arg1 : Memref sig .tc .vmem S1x128x256 .f32) (harg1 : arg1.IsWhole) (arg2 : Memref sig .tc .vmem S1x1024x256 .f32)
    (harg2 : arg2.IsWhole) (arg3 : Memref sig .tc .vmem S1x2048x128 .f32) (harg3 : arg3.IsWhole) (arg4 : Memref sig .tc .vmem S1x3072x2048 .bf16)
    (harg4 : arg4.IsWhole) (arg5 : Memref sig .tc .vmem S1x2048x1024 .bf16) (harg5 : arg5.IsWhole) (x0 : Vec Ideal S1x128x256 .f32)
    (x1 : Vec Ideal S1x1024x256 .f32) (x2 : Vec Ideal S1x2048x128 .f32)
    (r : Fin 2048) (q : Fin 1024) :
    out0_A_4 (F := Ideal) c i arg1 harg1 arg2 harg2 arg3 harg3 arg4 harg4 arg5 harg5 x0 x1 x2 (ix3 0 r q) = wiV x2 r q := by
  frame_out
  exact wi_at _ rep2_at x2 r q

end Cert.S5
-- ==== Proof.S5Eq.lean ====
/- The kernel's arrays and the reference's recurrence agree on real inputs with a nonzero diagonal. -/
module

public import proofs.«01_k».proof.Proof.S5Math
public import proofs.«01_k».proof.Proof.S5Arrays
public import proofs.«01_k».proof.Proof.S5Ref
public import proofs.«01_k».proof.Proof.S5Body

@[expose] public section

set_option maxRecDepth 16384

noncomputable section

namespace Cert.S5

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The layer's numbers as complex numbers: the diagonal, the input weights, the output weights. -/
structure Num where
  a : Fin 64 → Fin 64 → ℂ
  b : Fin 64 → Fin 64 → Fin 16 → ℂ
  w : Fin 64 → Fin 16 → Fin 64 → ℂ
  har : ∀ g n, ar m c g n = ((a g n).re : EReal)
  hai : ∀ g n, ai m c g n = ((a g n).im : EReal)
  hbr : ∀ g n q, br m c g n q = ((b g n q).re : EReal)
  hbi : ∀ g n q, bi m c g n q = ((b g n q).im : EReal)
  hwr : ∀ g p n, X5 m c (ix4 0 g p n) = ((w g p n).re : EReal)
  hwi : ∀ g p n, X6 m c (ix4 0 g p n) = ((w g p n).im : EReal)

theorem num_of_real (h0 : ∀ i, IsReal (X0 m c i)) (h1 : ∀ i, IsReal (X1 m c i)) (h2 : ∀ i, IsReal (X2 m c i)) (h3 : ∀ i, IsReal (X3 m c i))
    (h4 : ∀ i, IsReal (X4 m c i)) (h5 : ∀ i, IsReal (X5 m c i)) (h6 : ∀ i, IsReal (X6 m c i))
    (hd : ∀ i, (0 : EReal) < X0 m c i * X0 m c i + X1 m c i * X1 m c i) : Nonempty (Num m c) := by
  have ha : ∀ g n, ∃ z : ℂ, ar m c g n = (z.re : EReal) ∧ ai m c g n = (z.im : EReal) := fun g n =>
    (IsReal.aRe (h0 _) (h1 _) (h2 _)).pair (IsReal.aIm (h0 _) (h1 _) (h2 _))
  have hb : ∀ g n q, ∃ z : ℂ, br m c g n q = (z.re : EReal) ∧ bi m c g n q = (z.im : EReal) := fun g n q =>
    (IsReal.bRe (h0 _) (h1 _) (h2 _) (h3 _) (h4 _) (hd _)).pair (IsReal.bIm (h0 _) (h1 _) (h2 _) (h3 _) (h4 _) (hd _))
  have hw : ∀ g p n, ∃ z : ℂ, X5 m c (ix4 0 g p n) = (z.re : EReal) ∧ X6 m c (ix4 0 g p n) = (z.im : EReal) := fun g p n =>
    (h5 _).pair (h6 _)
  choose a ha ha' using ha
  choose b hb hb' using hb
  choose w hw hw' using hw
  exact ⟨⟨a, b, w, ha, ha', hb, hb', hw, hw'⟩⟩

variable {m c} (N : Num m c)
include N

theorem pn_eq (g n : Fin 64) (k : ℕ) : pn m c g n k = two (N.a g n ^ k) := by
  show pw (ar m c g n) (ai m c g n) k = _
  rw [N.har, N.hai, pw_two]

theorem caR_eq (k : ℕ) (g : Fin 64) (p : Fin 16) (n : Fin 64) : caR m c k g p n = ((N.w g p n * N.a g n ^ k).re : EReal) := by
  unfold caR
  rw [pn_eq N, N.hwr, N.hwi]
  simp only [two, Complex.mul_re, EReal.coe_sub, EReal.coe_mul]

theorem caI_eq (k : ℕ) (g : Fin 64) (p : Fin 16) (n : Fin 64) : caI m c k g p n = ((N.w g p n * N.a g n ^ k).im : EReal) := by
  unfold caI
  rw [pn_eq N, N.hwr, N.hwi]
  simp only [two, Complex.mul_im, EReal.coe_add, EReal.coe_mul]

theorem kernK_eq (k : ℕ) (g : Fin 64) (p q : Fin 16) :
    kernK m c k g p q = ((∑ n : Fin 64, N.w g p n * (N.a g n ^ k * N.b g n q)).re : EReal) := by
  unfold kernK
  refine (Fin.sum_univ_add (a := 64) (b := 64) fun n : Fin 128 => lhsK m c k g p n * rhsK m c g n q).trans ?_
  have e1 : ∀ n : Fin 64, lhsK m c k g p (Fin.castAdd 64 n) * rhsK m c g (Fin.castAdd 64 n) q =
      (((N.w g p n * N.a g n ^ k).re * (N.b g n q).re : ℝ) : EReal) := fun n => by
    unfold lhsK rhsK
    rw [dif_pos (show (Fin.castAdd 64 n).val < 64 from n.isLt), dif_pos (show (Fin.castAdd 64 n).val < 64 from n.isLt), EReal.coe_mul]
    exact congrArg₂ (· * ·) (caR_eq N k g p n) (N.hbr g n q)
  have e2 : ∀ n : Fin 64, lhsK m c k g p (Fin.natAdd 64 n) * rhsK m c g (Fin.natAdd 64 n) q =
      ((-(N.w g p n * N.a g n ^ k).im * (N.b g n q).im : ℝ) : EReal) := fun n => by
    have hn : ¬ (Fin.natAdd 64 n).val < 64 := by simp
    have hf : (⟨(Fin.natAdd 64 n).val - 64, by simp⟩ : Fin 64) = n := Fin.ext (by simp)
    unfold lhsK rhsK
    rw [dif_neg hn, dif_neg hn, EReal.coe_mul, EReal.coe_neg]
    refine congrArg₂ (· * ·) (congrArg Neg.neg ((congrArg (caI m c k g p) hf).trans (caI_eq N k g p n))) ?_
    exact (congrArg (fun n => bi m c g n q) hf).trans (N.hbi g n q)
  refine (congrArg₂ (· + ·) (Finset.sum_congr rfl fun n _ => e1 n) (Finset.sum_congr rfl fun n _ => e2 n)).trans ?_
  rw [sum_real, sum_real, ← EReal.coe_add, ← Finset.sum_add_distrib, Complex.re_sum]
  refine congrArg _ (Finset.sum_congr rfl fun n _ => ?_)
  rw [← mul_assoc, Complex.mul_re (N.w g p n * N.a g n ^ k) (N.b g n q)]
  ring

theorem winK_re (k : ℕ) (g : Fin 64) (q : Fin 16) (n : Fin 128) (n' : Fin 64) (h : n.val = n'.val) :
    winK m c k g q n = ((N.a g n' ^ (15 - k) * N.b g n' q).re : EReal) := by
  have hn : n.val < 64 := h ▸ n'.isLt
  have hf : (⟨n.val, hn⟩ : Fin 64) = n' := Fin.ext h
  unfold winK
  rw [dif_pos hn, hf, pn_eq N, N.hbr, N.hbi]
  simp only [two, Complex.mul_re, EReal.coe_sub, EReal.coe_mul]

theorem winK_im (k : ℕ) (g : Fin 64) (q : Fin 16) (n : Fin 128) (n' : Fin 64) (h : n.val = 64 + n'.val) :
    winK m c k g q n = ((N.a g n' ^ (15 - k) * N.b g n' q).im : EReal) := by
  have hn : ¬ n.val < 64 := by omega
  have hf : (⟨n.val - 64, by omega⟩ : Fin 64) = n' := Fin.ext (by dsimp only; omega)
  unfold winK
  rw [dif_neg hn, hf, pn_eq N, N.hbr, N.hbi]
  simp only [two, Complex.mul_im, EReal.coe_add, EReal.coe_mul]

/-! ## The reference's states -/

/-- The input of experiment `e` at step `t`, as a complex number. -/
def inp (e : ℕ) (g : Fin 64) (i : ℕ) (n : Fin 64) (t : ℕ) : ℂ :=
  if t = e / 128 ∧ i = e % 128 / 16 then N.b g n ⟨e % 16, Nat.mod_lt _ (by omega)⟩ else 0

omit N in
/-- The first state of experiment `e`. -/
def ini (e i n : ℕ) : ℂ := ⟨if e = 2048 + (i * 64 + n) then 1 else 0, if e = 2560 + (i * 64 + n) then 1 else 0⟩

abbrev hs (e : Fin 3072) (j i : Fin 8) (n : Fin 64) (t : ℕ) : EReal × EReal :=
  Ref.hst (X0 m c) (X1 m c) (X2 m c) (X3 m c) (X4 m c) e j i n t

theorem hs_eq (e : Fin 3072) (j i : Fin 8) (n : Fin 64) (t : ℕ) :
    Ref.hst (X0 m c) (X1 m c) (X2 m c) (X3 m c) (X4 m c) e j i n t =
      two (step (N.a (Ref.grp j i) n) (inp N e (Ref.grp j i) i n) (ini e i n) t) := by
  unfold Ref.hst
  have e1 : Ref.ar (X0 m c) (X1 m c) (X2 m c) (Ref.grp j i) n = ((N.a (Ref.grp j i) n).re : EReal) := N.har (Ref.grp j i) n
  have e2 : Ref.ai (X0 m c) (X1 m c) (X2 m c) (Ref.grp j i) n = ((N.a (Ref.grp j i) n).im : EReal) := N.hai (Ref.grp j i) n
  have e3 : hit e (2048 + (i.val * 64 + n.val)) = ((ini e i n).re : EReal) := by
    unfold hit ini
    split <;> simp
  have e4 : hit e (2560 + (i.val * 64 + n.val)) = ((ini e i n).im : EReal) := by
    unfold hit ini
    split <;> simp
  rw [e1, e2, e3, e4]
  refine rec_two _ _ _ _ _ (fun t => ?_) (fun t => ?_) t
  · unfold Ref.xr inp
    rw [hit_sum _ _ _ _ i.isLt, apply_ite Complex.re, apply_ite (Real.toEReal)]
    exact if_congr Iff.rfl (N.hbr _ _ _) rfl
  · unfold Ref.xi inp
    rw [hit_sum _ _ _ _ i.isLt, apply_ite Complex.im, apply_ite (Real.toEReal)]
    exact if_congr Iff.rfl (N.hbi _ _ _) rfl

/-- A read-out of the states is the real part of a complex sum. -/
theorem read_out (g : Fin 64) (p : Fin 16) (s : Fin 64 → EReal × EReal) (z : Fin 64 → ℂ) (hz : ∀ n, s n = two (z n)) :
    ∑ n : Fin 64, X5 m c (ix4 0 g p n) * (s n).1 - ∑ n : Fin 64, X6 m c (ix4 0 g p n) * (s n).2 =
      ((∑ n : Fin 64, N.w g p n * z n).re : EReal) := by
  have e1 : ∀ n : Fin 64, X5 m c (ix4 0 g p n) * (s n).1 = (((N.w g p n).re * (z n).re : ℝ) : EReal) := fun n => by
    rw [N.hwr, hz, EReal.coe_mul]; rfl
  have e2 : ∀ n : Fin 64, X6 m c (ix4 0 g p n) * (s n).2 = (((N.w g p n).im * (z n).im : ℝ) : EReal) := fun n => by
    rw [N.hwi, hz, EReal.coe_mul]; rfl
  refine (congrArg₂ (· - ·) (Finset.sum_congr rfl fun n _ => e1 n) (Finset.sum_congr rfl fun n _ => e2 n)).trans ?_
  rw [sum_real, sum_real, ← EReal.coe_sub, ← Finset.sum_sub_distrib, Complex.re_sum]
  refine congrArg _ (Finset.sum_congr rfl fun n _ => ?_)
  rw [Complex.mul_re]

omit N in
theorem ini_zero (e i n : ℕ) (h1 : e ≠ 2048 + (i * 64 + n)) (h2 : e ≠ 2560 + (i * 64 + n)) : ini e i n = 0 := by
  unfold ini
  rw [if_neg h1, if_neg h2]
  rfl

/-! ## The two results -/

/-- The first result's entry, from the reference's recurrence. -/
theorem y_eq (j : Fin 8) (e : Fin 3072) (b : Fin 2048) (A : Vec Ideal S1x128x256 .f32) (B : Vec Ideal S1x1024x256 .f32)
    (hA : ∀ (a : Fin 128) (x : Fin 256), A (ix3 0 a x) = kernK m c (x / 16) ⟨j * 8 + a / 16, by omega⟩ ⟨x % 16, by omega⟩ ⟨a % 16, by omega⟩)
    (hB : ∀ (a : Fin 1024) (x : Fin 256), B (ix3 0 a x) =
      outK m c ⟨a / 512, by omega⟩ (x / 16) ⟨j * 8 + a / 64 % 8, by omega⟩ ⟨x % 16, by omega⟩ ⟨a % 64, by omega⟩) :
    Cert.ReferenceIdeal.Read.val_main_v437 (F := Ideal) (X0 m c) (X1 m c) (X2 m c) (X3 m c) (X4 m c) (X5 m c) (X6 m c) (ix3 j e b) = wyV A B e b := by
  refine (Ref.y_at (X0 m c) (X1 m c) (X2 m c) (X3 m c) (X4 m c) (X5 m c) (X6 m c) j e b).trans ?_
  refine (read_out N (Ref.grp j ⟨b / 16 % 8, by omega⟩) ⟨b % 16, by omega⟩ (fun n => _) _ fun n => hs_eq N e j ⟨b / 16 % 8, by omega⟩ n (b / 128 + 1)).trans ?_
  unfold wyV
  by_cases he : e.val < 2048
  · rw [dif_pos he]
    have h0 : ∀ n : Fin 64, ini e (b / 16 % 8) n = 0 := fun n => ini_zero _ _ _ (by omega) (by omega)
    have hz : ∀ n : Fin 64, step (N.a (Ref.grp j ⟨b / 16 % 8, by omega⟩) n) (inp N e (Ref.grp j ⟨b / 16 % 8, by omega⟩) (b / 16 % 8) n) (ini e (b / 16 % 8) n) (b / 128 + 1) =
        if b.val / 16 % 8 = e % 128 / 16 ∧ e.val / 128 < b / 128 + 1 then
          N.a (Ref.grp j ⟨b / 16 % 8, by omega⟩) n ^ (b.val / 128 - e.val / 128) * N.b (Ref.grp j ⟨b / 16 % 8, by omega⟩) n ⟨e % 16, by omega⟩ else 0 := fun n => by
      rw [h0]
      by_cases hi : b.val / 16 % 8 = e % 128 / 16
      · rw [step_pulse _ (N.b (Ref.grp j ⟨b / 16 % 8, by omega⟩) n ⟨e % 16, by omega⟩) (e / 128) _ fun t => ?_]
        · rw [show b.val / 128 + 1 - 1 - e / 128 = b / 128 - e / 128 by omega]
          exact if_congr ⟨fun h => ⟨hi, h⟩, fun h => h.2⟩ rfl rfl
        · unfold inp
          exact if_congr ⟨fun h => h.1, fun h => ⟨h, hi⟩⟩ rfl rfl
      · rw [if_neg fun h => hi h.1]
        refine step_none _ _ _ fun t => ?_
        unfold inp
        exact if_neg fun h => hi h.2
    simp only [hz]
    by_cases hl : b.val / 128 < e / 128
    · rw [if_pos hl]
      simp only [if_neg (show ¬ (b.val / 16 % 8 = e % 128 / 16 ∧ e.val / 128 < b / 128 + 1) by omega), mul_zero, Finset.sum_const_zero, Complex.zero_re, EReal.coe_zero]
    · rw [if_neg hl]
      unfold bdV
      dsimp only
      by_cases hi : b.val / 16 % 8 = e % 128 / 16
      · simp only [if_pos (show b.val / 16 % 8 = e % 128 / 16 ∧ e.val / 128 < b / 128 + 1 by omega)]
        rw [if_pos (by omega), hA, kernK_eq N]
        have eg : Ref.grp j ⟨b / 16 % 8, by omega⟩ = (⟨j * 8 + e.val % 128 / 16, by omega⟩ : Fin 64) := Fin.ext (by simp only; omega)
        have ep : (⟨((b.val - e / 128 * 128) / 128 * 16 + (b - e / 128 * 128) % 16) % 16, by omega⟩ : Fin 16) = ⟨b % 16, by omega⟩ := Fin.ext (by simp only; omega)
        have eq : (⟨e.val % 128 % 16, by omega⟩ : Fin 16) = ⟨e % 16, by omega⟩ := Fin.ext (by simp only; omega)
        have ek : ((b.val - e / 128 * 128) / 128 * 16 + (b - e / 128 * 128) % 16) / 16 = b / 128 - e / 128 := by omega
        dsimp only
        rw [ep, eq, ek, eg]
      · simp only [if_neg (show ¬ (b.val / 16 % 8 = e % 128 / 16 ∧ e.val / 128 < b / 128 + 1) by omega), mul_zero, Finset.sum_const_zero, Complex.zero_re, EReal.coe_zero]
        rw [if_neg (by omega)]
  · rw [dif_neg he]
    have hz : ∀ n : Fin 64, step (N.a (Ref.grp j ⟨b / 16 % 8, by omega⟩) n) (inp N e (Ref.grp j ⟨b / 16 % 8, by omega⟩) (b / 16 % 8) n) (ini e (b / 16 % 8) n) (b / 128 + 1) =
        N.a (Ref.grp j ⟨b / 16 % 8, by omega⟩) n ^ (b.val / 128 + 1) * ini e (b / 16 % 8) n := fun n => by
      refine step_free _ _ _ _ fun u hu => ?_
      unfold inp
      exact if_neg (by omega)
    simp only [hz]
    unfold roV
    dsimp only
    by_cases hi : (e.val - 2048) % 512 / 64 = b % 128 / 16
    · rw [if_pos hi, hB]
      have eg : Ref.grp j ⟨b / 16 % 8, by omega⟩ = (⟨j * 8 + (e.val - 2048) / 64 % 8, by omega⟩ : Fin 64) := Fin.ext (by simp only; omega)
      have ep : (⟨(b.val / 128 * 16 + b % 16) % 16, by omega⟩ : Fin 16) = ⟨b % 16, by omega⟩ := Fin.ext (by simp only; omega)
      have ek : 1 + (b.val / 128 * 16 + b % 16) / 16 = b / 128 + 1 := by omega
      rw [Finset.sum_eq_single (⟨(e.val - 2048) % 64, by omega⟩ : Fin 64)]
      · unfold outK
        dsimp only
        rw [ep, ek, eg]
        by_cases h1 : (e.val - 2048) / 512 < 1
        · rw [if_pos h1, caR_eq N]
          have : ini e (b / 16 % 8) ((e.val - 2048) % 64) = 1 := by
            unfold ini
            rw [if_pos (by omega), if_neg (by omega)]
            rfl
          rw [this, mul_one]
        · rw [if_neg h1, caI_eq N]
          have : ini e (b / 16 % 8) ((e.val - 2048) % 64) = Complex.I := by
            unfold ini
            rw [if_neg (by omega), if_pos (by omega)]
            rfl
          rw [this, ← mul_assoc, Complex.mul_I_re, EReal.coe_neg]
      · intro n _ hn
        rw [ini_zero, mul_zero, mul_zero]
        · intro h; exact hn (Fin.ext (by simp only; omega))
        · intro h; exact hn (Fin.ext (by simp only; omega))
      · intro h; exact absurd (Finset.mem_univ _) h
    · rw [if_neg hi]
      have h0 : ∀ n : Fin 64, ini e (b / 16 % 8) n = 0 := fun n => ini_zero _ _ _ (by omega) (by omega)
      simp only [h0, mul_zero, Finset.sum_const_zero, Complex.zero_re, EReal.coe_zero]

/-- The second result's entry, from the reference's recurrence. -/
theorem s_eq (j : Fin 8) (e : Fin 2048) (b : Fin 1024) (A : Vec Ideal S1x2048x128 .f32)
    (hA : ∀ (a : Fin 2048) (n : Fin 128), A (ix3 0 a n) = winK m c (a / 128) ⟨j * 8 + a % 128 / 16, by omega⟩ ⟨a % 128 % 16, by omega⟩ n) :
    Cert.ReferenceIdeal.Read.val_main_v439 (F := Ideal) (X0 m c) (X1 m c) (X2 m c) (X3 m c) (X4 m c) (ix3 j e b) = wiV A e b := by
  refine (Ref.state_at (X0 m c) (X1 m c) (X2 m c) (X3 m c) (X4 m c) j e b).trans ?_
  rw [hs_eq N]
  unfold wiV
  have h0 : ini e (b / 64 % 8) (b % 64) = 0 := ini_zero _ _ _ (by omega) (by omega)
  dsimp only
  rw [h0]
  by_cases hi : b.val / 64 % 8 = e % 128 / 16
  · have eg : Ref.grp j ⟨b / 64 % 8, by omega⟩ = (⟨j * 8 + e.val % 128 / 16, by omega⟩ : Fin 64) := Fin.ext (by simp only; omega)
    have eq : (⟨e.val % 128 % 16, by omega⟩ : Fin 16) = ⟨e % 16, by omega⟩ := Fin.ext (by simp only; omega)
    rw [if_pos (show e.val % 128 / 16 = b % 512 / 64 by omega), hA, eg, eq]
    rw [step_pulse _ (N.b ⟨j * 8 + e.val % 128 / 16, by omega⟩ ⟨b % 64, by omega⟩ ⟨e % 16, by omega⟩) (e / 128) _ fun t => ?_]
    · rw [if_pos (show e.val / 128 < 16 by omega), show 16 - 1 - e.val / 128 = 15 - e / 128 by omega]
      by_cases hb : b.val / 512 < 1
      · rw [if_pos hb, winK_re N _ _ _ _ ⟨b % 64, by omega⟩ (by simp only; omega)]
        rfl
      · rw [if_neg hb, winK_im N _ _ _ _ ⟨b % 64, by omega⟩ (by simp only; omega)]
        rfl
    · unfold inp
      exact if_congr ⟨fun h => h.1, fun h => ⟨h, hi⟩⟩ rfl rfl
  · rw [if_neg (show ¬ e.val % 128 / 16 = b % 512 / 64 by omega), step_none _ _ _ fun t => ?_]
    · unfold two
      split <;> rfl
    · unfold inp
      exact if_neg fun h => hi h.2

end Cert.S5
-- ==== Proof.S5Value.lean ====
/- The arrays that the call leaves: each block is what the prepared arrays' blocks give. -/
module

public import proofs.«01_k».proof.Proof.S5Eq
public import proofs.«01_k».proof.Proof.Gen.KernelIdeal.Value
public import Idealize.ShloMosaic.Lib.Pipeline.ReadBack

@[expose] public section

set_option maxRecDepth 16384
set_option maxHeartbeats 4000000

noncomputable section

namespace Cert.S5

open Idealize.ShloMosaic Idealize.ShloMosaic.TcCoe Idealize.SL.Sem
open Cert.KernelIdeal Cert.KernelIdeal.Gen

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)
theorem idx3 : ∀ t : Fin cfg0.N, win0_3.index t = ![t.val, 0, 0] := (by decide +kernel : ∀ t : Fin grid0.N, _)
theorem idx4 : ∀ t : Fin cfg0.N, win0_4.index t = ![t.val, 0, 0] := (by decide +kernel : ∀ t : Fin grid0.N, _)

theorem point_lt (t : Fin cfg0.N) : t.val < 8 := lt_of_lt_of_eq t.isLt N_0

/-- A block of the first input window, of any contents. -/
theorem blk0_at (W : FVec Ideal S8x128x256 .f32) (t : Fin cfg0.N) (a : Fin 128) (x : Fin 256) :
    (show FVec Ideal S1x128x256 .f32 from ((cfg0.win 0).blk t).view.read (Elt Ideal) W) (ix3 0 a x) = W (ix3 ⟨t, point_lt t⟩ a x) := by
  blk_ext [idx0 t]

theorem blk1_at (W : FVec Ideal S8x1024x256 .f32) (t : Fin cfg0.N) (a : Fin 1024) (x : Fin 256) :
    (show FVec Ideal S1x1024x256 .f32 from ((cfg0.win 1).blk t).view.read (Elt Ideal) W) (ix3 0 a x) = W (ix3 ⟨t, point_lt t⟩ a x) := by
  blk_ext [idx1 t]

theorem blk2_at (W : FVec Ideal S8x2048x128 .f32) (t : Fin cfg0.N) (a : Fin 2048) (n : Fin 128) :
    (show FVec Ideal S1x2048x128 .f32 from ((cfg0.win 2).blk t).view.read (Elt Ideal) W) (ix3 0 a n) = W (ix3 ⟨t, point_lt t⟩ a n) := by
  blk_ext [idx2 t]

variable (m : (ℓ : Loc nD τ sig) → Buf (Elt Ideal) ℓ) (c : Dev nD)

theorem in0_at (t : Fin cfg0.N) (a : Fin 128) (x : Fin 256) : (show Vec Ideal S1x128x256 .f32 from iblk m c 0 t) (ix3 0 a x) =
    kernK m c (x / 16) ⟨(⟨t, point_lt t⟩ : Fin 8) * 8 + a / 16, by have := point_lt t; dsimp only; omega⟩ ⟨x % 16, by omega⟩ ⟨a % 16, by omega⟩ :=
  (blk0_at (rd m c main_v212) t a x).trans (v212_at m c ⟨t, point_lt t⟩ a x)

theorem in1_at (t : Fin cfg0.N) (a : Fin 1024) (x : Fin 256) : (show Vec Ideal S1x1024x256 .f32 from iblk m c 1 t) (ix3 0 a x) =
    outK m c ⟨a / 512, by omega⟩ (x / 16) ⟨(⟨t, point_lt t⟩ : Fin 8) * 8 + a / 64 % 8, by have := point_lt t; dsimp only; omega⟩ ⟨x % 16, by omega⟩ ⟨a % 64, by omega⟩ :=
  (blk1_at (rd m c main_v221) t a x).trans (v221_at m c ⟨t, point_lt t⟩ a x)

theorem in2_at (t : Fin cfg0.N) (a : Fin 2048) (n : Fin 128) : (show Vec Ideal S1x2048x128 .f32 from iblk m c 2 t) (ix3 0 a n) =
    winK m c (a / 128) ⟨(⟨t, point_lt t⟩ : Fin 8) * 8 + a % 128 / 16, by have := point_lt t; dsimp only; omega⟩ ⟨a % 128 % 16, by omega⟩ n :=
  (blk2_at (rd m c main_v279) t a n).trans (v279_at m c ⟨t, point_lt t⟩ a n)

/-- What a grid point leaves in the first result's block, of any array that has those entries. -/
theorem out3_eq (W : FVec Ideal S8x3072x2048 .bf16) (hW : ∀ (t : Fin cfg0.N) (r : Fin 3072) (q : Fin 2048),
      (show FVec Ideal S1x3072x2048 .bf16 from (outsAt0 m c t).1) (ix3 0 r q) = W (ix3 ⟨t, point_lt t⟩ r q)) : (dats m 0 c).arrAt 3 cfg0.N = W := by
  refine (dats m 0 c).arrAt_eq_of_covers 3 _ (by decide +kernel) fun t hf y => ?_
  have ht := point_lt t
  have h0 : (y 0).val < 1 := (y 0).isLt
  have h1 : (y 1).val < 3072 := (y 1).isLt
  have h2 : (y 2).val < 2048 := (y 2).isLt
  have hZ := hW t ⟨(y 1).val, h1⟩ ⟨(y 2).val, h2⟩
  rw [after0_3]
  clear hW
  generalize (outsAt0 m c t).1 = Z at hZ ⊢
  refine Eq.trans (?_ : _ = (show FVec Ideal S1x3072x2048 .bf16 from Z) (ix3 0 ⟨(y 1).val, h1⟩ ⟨(y 2).val, h2⟩)) (hZ.trans ?_)
  · blk_ext [idx3 t]
  · blk_ext [idx3 t]

/-- What a grid point leaves in the second result's block, of any array that has those entries. -/
theorem out4_eq (W : FVec Ideal S8x2048x1024 .bf16) (hW : ∀ (t : Fin cfg0.N) (r : Fin 2048) (q : Fin 1024),
      (show FVec Ideal S1x2048x1024 .bf16 from (outsAt0 m c t).2) (ix3 0 r q) = W (ix3 ⟨t, point_lt t⟩ r q)) : (dats m 0 c).arrAt 4 cfg0.N = W := by
  refine (dats m 0 c).arrAt_eq_of_covers 4 _ (by decide +kernel) fun t hf y => ?_
  have ht := point_lt t
  have h0 : (y 0).val < 1 := (y 0).isLt
  have h1 : (y 1).val < 2048 := (y 1).isLt
  have h2 : (y 2).val < 1024 := (y 2).isLt
  have hZ := hW t ⟨(y 1).val, h1⟩ ⟨(y 2).val, h2⟩
  rw [after0_4]
  clear hW
  generalize (outsAt0 m c t).2 = Z at hZ ⊢
  refine Eq.trans (?_ : _ = (show FVec Ideal S1x2048x1024 .bf16 from Z) (ix3 0 ⟨(y 1).val, h1⟩ ⟨(y 2).val, h2⟩)) (hZ.trans ?_)
  · blk_ext [idx4 t]
  · blk_ext [idx4 t]

theorem outs3_eq (t : Fin cfg0.N) : (outsAt0 m c t).1 = out0_A_3 (F := Ideal) c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) := by
  rw [outsAt0]

theorem outs3_at (t : Fin cfg0.N) (r : Fin 3072) (q : Fin 2048) :
    (show FVec Ideal S1x3072x2048 .bf16 from (outsAt0 m c t).1) (ix3 0 r q) = wyV (iblk m c 0 t) (iblk m c 1 t) r q := by
  rw [outs3_eq]
  generalize iblk m c 0 t = A
  generalize iblk m c 1 t = B
  generalize iblk m c 2 t = C
  exact out3_at c (grid0.coords t) (ms0_0 t) (hs0_0 t) (ms0_1 t) (hs0_1 t) (ms0_2 t) (hs0_2 t) (ms0_3 t) (hs0_3 t) (ms0_4 t) (hs0_4 t)
    A B C r q

theorem outs4_eq (t : Fin cfg0.N) : (outsAt0 m c t).2 = out0_A_4 (F := Ideal) c (grid0.coords t) (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) := by
  rw [outsAt0]

theorem outs4_at (t : Fin cfg0.N) (r : Fin 2048) (q : Fin 1024) :
    (show FVec Ideal S1x2048x1024 .bf16 from (outsAt0 m c t).2) (ix3 0 r q) = wiV (iblk m c 2 t) r q := by
  rw [outs4_eq]
  generalize iblk m c 0 t = A
  generalize iblk m c 1 t = B
  generalize iblk m c 2 t = C
  exact out4_at c (grid0.coords t) (ms0_0 t) (hs0_0 t) (ms0_1 t) (hs0_1 t) (ms0_2 t) (hs0_2 t) (ms0_3 t) (hs0_3 t) (ms0_4 t) (hs0_4 t)
    A B C r q

variable {m c}

/-- The first array the kernel leaves is the reference's. -/
theorem final3 (N : Num m c) (W : FVec Ideal S8x3072x2048 .bf16)
    (hW : W = Cert.ReferenceIdeal.Read.val_main_v437 (F := Ideal) (X0 m c) (X1 m c) (X2 m c) (X3 m c) (X4 m c) (X5 m c) (X6 m c)) :
    (dats m 0 c).arrAt 3 cfg0.N = W := by
  refine out3_eq m c W fun t r q => ?_
  rw [outs3_at, hW]
  have h0 := in0_at m c t
  have h1 := in1_at m c t
  generalize iblk m c 0 t = A at h0 ⊢
  generalize iblk m c 1 t = B at h1 ⊢
  exact (y_eq N ⟨t, point_lt t⟩ r q A B h0 h1).symm

/-- The second array the kernel leaves is the reference's. -/
theorem final4 (N : Num m c) (W : FVec Ideal S8x2048x1024 .bf16)
    (hW : W = Cert.ReferenceIdeal.Read.val_main_v439 (F := Ideal) (X0 m c) (X1 m c) (X2 m c) (X3 m c) (X4 m c)) :
    (dats m 0 c).arrAt 4 cfg0.N = W := by
  refine out4_eq m c W fun t r q => ?_
  rw [outs4_at, hW]
  have h0 := in2_at m c t
  generalize iblk m c 2 t = A at h0 ⊢
  exact (s_eq N ⟨t, point_lt t⟩ r q A h0).symm

end Cert.S5
-- ==== Proof.S5Claim.lean ====
/- The weight-preparation claim: the kernel's run and the reference's end at the same two arrays. -/
module

public import proofs.«01_k».proof.Proof.S5Value
public import proofs.«01_k».proof.Proof.Gen.Pre_finite
public import proofs.«01_k».proof.Defs

@[expose] public section

set_option maxRecDepth 16384

noncomputable section

namespace Cert.S5

open Idealize.ShloMosaic Idealize.ShloMosaic.TcCoe Idealize.SL.Sem

/-- The precondition gives the layer's numbers as complex numbers. -/
theorem num_of_pre (m : (ℓ : Loc Cert.KernelIdeal.nD Cert.KernelIdeal.τ Cert.KernelIdeal.sig) → Buf (Elt Ideal) ℓ)
    (h : Cert.Pre_KernelIdeal_finite m) (c : Dev Cert.KernelIdeal.nD) : Nonempty (Num m c) := by
  obtain ⟨h0, h1, h2, h3, h4, h5, h6, hd⟩ := entries (X0 m c) (X1 m c) (X2 m c) (X3 m c) (X4 m c) (X5 m c) (X6 m c) (h c)
  exact num_of_real m c h0 h1 h2 h3 h4 h5 h6 hd

theorem claim : Cert.algebraic_KernelIdeal_ReferenceIdeal_pre_finite := by
  pair_intro
  · run_from Cert.KernelIdeal.Value.run_blocks m g
  · run_from Cert.ReferenceIdeal.Value.run m' g'
    · obtain ⟨h0, h1, h2, h3, h4, h5, h6⟩ := hagree c
      obtain ⟨N⟩ := num_of_pre m hpre c
      refine (Cert.ReferenceIdeal.Read.val_main_v437_eq fun b => m' (c, b)).trans ?_
      show Cert.ReferenceIdeal.Read.val_main_v437 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = _
      rw [h0, h1, h2, h3, h4, h5, h6]
      exact (final3 N _ rfl).symm
    · obtain ⟨h0, h1, h2, h3, h4, h5, h6⟩ := hagree c
      obtain ⟨N⟩ := num_of_pre m hpre c
      refine (Cert.ReferenceIdeal.Read.val_main_v439_eq fun b => m' (c, b)).trans ?_
      show Cert.ReferenceIdeal.Read.val_main_v439 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
      rw [h0, h1, h2, h3, h4]
      exact (final4 N _ rfl).symm

end Cert.S5
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel3
public import proofs.«01_k».proof.Proof.Gen.Kernel4
public import proofs.«01_k».proof.Proof.Gen.Kernel5
public import proofs.«01_k».proof.Proof.Gen.Kernel2.Skeleton
public import proofs.«01_k».proof.Proof.Gen.Kernel3.Skeleton
public import proofs.«01_k».proof.Proof.Gen.Kernel4.Skeleton
public import proofs.«01_k».proof.Proof.Gen.Kernel5.Skeleton
public import proofs.«01_k».proof.Proof.Gen.Kernel2.Launch
public import proofs.«01_k».proof.Proof.Gen.Kernel3.Launch
public import proofs.«01_k».proof.Proof.Gen.Kernel4.Launch
public import proofs.«01_k».proof.Proof.Gen.Kernel5.Launch
public import proofs.«01_k».proof.Proof.Gen.Kernel2.Points
public import proofs.«01_k».proof.Proof.Gen.Kernel3.Points
public import proofs.«01_k».proof.Proof.Gen.Kernel4.Points
public import proofs.«01_k».proof.Proof.Gen.Kernel5.Points
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel2Ideal
public import proofs.«01_k».proof.Proof.Gen.Kernel3Ideal
public import proofs.«01_k».proof.Proof.Gen.Kernel4Ideal
public import proofs.«01_k».proof.Proof.Gen.Kernel5Ideal
public import proofs.«01_k».proof.Proof.Gen.Kernel2Ideal.Skeleton
public import proofs.«01_k».proof.Proof.Gen.Kernel3Ideal.Skeleton
public import proofs.«01_k».proof.Proof.Gen.Kernel4Ideal.Skeleton
public import proofs.«01_k».proof.Proof.Gen.Kernel5Ideal.Skeleton
public import proofs.«01_k».proof.Proof.Gen.Kernel2Ideal.Launch
public import proofs.«01_k».proof.Proof.Gen.Kernel3Ideal.Launch
public import proofs.«01_k».proof.Proof.Gen.Kernel4Ideal.Launch
public import proofs.«01_k».proof.Proof.Gen.Kernel5Ideal.Launch
public import proofs.«01_k».proof.Proof.Gen.Kernel2Ideal.Points
public import proofs.«01_k».proof.Proof.Gen.Kernel3Ideal.Points
public import proofs.«01_k».proof.Proof.Gen.Kernel4Ideal.Points
public import proofs.«01_k».proof.Proof.Gen.Kernel5Ideal.Points
public import proofs.«01_k».proof.Proof.Gen.Kernel2Ideal.Frame
public import proofs.«01_k».proof.Proof.Gen.Kernel3Ideal.Frame
public import proofs.«01_k».proof.Proof.Gen.Kernel4Ideal.Frame
public import proofs.«01_k».proof.Proof.Gen.Kernel5Ideal.Frame
public import proofs.«01_k».proof.Proof.Gen.Reference2Ideal
public import proofs.«01_k».proof.Proof.Gen.Reference3Ideal
public import proofs.«01_k».proof.Proof.Gen.Reference4Ideal
public import proofs.«01_k».proof.Proof.Gen.Reference5Ideal
public import proofs.«01_k».proof.Proof.Gen.Pre_finite
public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.Kernel4Ideal.Value
public import proofs.«01_k».proof.Proof.Gen.Kernel5Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.ReferenceIdeal.Read
public import proofs.«01_k».proof.Proof.Gen.Reference2Ideal.Read
public import proofs.«01_k».proof.Proof.Gen.Reference3Ideal.Read
public import proofs.«01_k».proof.Proof.Gen.Reference4Ideal.Read
public import proofs.«01_k».proof.Proof.Gen.Reference5Ideal.Read
public import proofs.«01_k».proof.Proof.FfnClaim
public import proofs.«01_k».proof.Proof.HalfClaim
public import proofs.«01_k».proof.Proof.Mix
public import proofs.«01_k».proof.Proof.OutProj
public import proofs.«01_k».proof.Proof.S5Claim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  fun m g _ => (θ_run _ _ _).mono (fun r h => ⟨fun c => (h c).2.2, sem_eq_zero_of_no_sems (by decide) r.2⟩) (Cert.ReferenceIdeal.Value.run m g),
  fun m g _ => (θ_run _ _ _).mono (fun r h => ⟨fun c => (h c).2.2, sem_eq_zero_of_no_sems (by decide) r.2⟩) (Cert.ReferenceIdeal.Value.run m g),
  fun m ρ _ => Cert.Kernel2.Gen.frame m ρ,
  fun m ρ _ => Cert.Kernel2Ideal.Gen.frame m ρ,
  Cert.Ffn.frame_reference,
  fun m ρ _ => Cert.Kernel3.Gen.frame m ρ,
  fun m ρ _ => Cert.Kernel3Ideal.Gen.frame m ρ,
  Cert.Half.frame_reference,
  fun m ρ _ => Cert.Kernel4.Gen.frame m ρ,
  fun m ρ _ => Cert.Kernel4Ideal.Gen.frame m ρ,
  Cert.Mix.frame_reference,
  fun m ρ _ => Cert.Kernel5.Gen.frame m ρ,
  fun m ρ _ => Cert.Kernel5Ideal.Gen.frame m ρ,
  Cert.OutProj.frame_reference,
  trivial,
  Cert.S5.claim,
  trivial,
  Cert.Ffn.claim,
  trivial,
  Cert.Half.claim,
  trivial,
  Cert.Mix.claim,
  trivial,
  Cert.OutProj.claim⟩

end Cert.Proof

end
